-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_pi" .f32 0x3FC90FDB#32 (((1 / 2) * Real.pi : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v631) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S8192x4x3 : Shape := ⟨3, ![8192, 4, 3]⟩
abbrev S8 : Shape := ⟨1, ![8]⟩
abbrev S3x16 : Shape := ⟨2, ![3, 16]⟩
abbrev S8192 : Shape := ⟨1, ![8192]⟩
abbrev S8192x1x3 : Shape := ⟨3, ![8192, 1, 3]⟩
abbrev S8192x3 : Shape := ⟨2, ![8192, 3]⟩
abbrev S1x3 : Shape := ⟨2, ![1, 3]⟩
abbrev S8191x3 : Shape := ⟨2, ![8191, 3]⟩
abbrev S_ : Shape := ⟨0, ![]⟩
abbrev S8192x1 : Shape := ⟨2, ![8192, 1]⟩
abbrev S8192x12 : Shape := ⟨2, ![8192, 12]⟩
abbrev S8192x17 : Shape := ⟨2, ![8192, 17]⟩

class Facts : Prop where
  slices_S8192x4x3_S8192x1x3_0_0_0 : S8192x4x3.Slices ![0, 0, 0] S8192x1x3
  shapeCasts_S8192x1x3_S8192x3 : S8192x1x3.ShapeCasts S8192x3
  slices_S8192x4x3_S8192x1x3_0_1_0 : S8192x4x3.Slices ![0, 1, 0] S8192x1x3
  slices_S8192x4x3_S8192x1x3_0_2_0 : S8192x4x3.Slices ![0, 2, 0] S8192x1x3
  slices_S8192x4x3_S8192x1x3_0_3_0 : S8192x4x3.Slices ![0, 3, 0] S8192x1x3
  slices_S8192x3_S1x3_8191_0 : S8192x3.Slices ![8191, 0] S1x3
  slices_S8192x3_S8191x3_0_0 : S8192x3.Slices ![0, 0] S8191x3
  concatenates_S1x3_S8191x3_S8192x3_d0 : Shape.Concatenates [S1x3, S8191x3] S8192x3 0
  slices_S8192x3_S8191x3_1_0 : S8192x3.Slices ![1, 0] S8191x3
  slices_S8192x3_S1x3_0_0 : S8192x3.Slices ![0, 0] S1x3
  concatenates_S8191x3_S1x3_S8192x3_d0 : Shape.Concatenates [S8191x3, S1x3] S8192x3 0
  bcast_S_S8192x3 : S_.BroadcastsInDim S8192x3 (![] : Fin 0 → Fin S8192x3.rank)
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x3_0_1 : S8192x1.BroadcastsInDim S8192x3 (![0, 1] : Fin 2 → Fin S8192x3.rank)
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  concatenates_S8192x1_S8192x1_S8192x1_S8192x3_d1 : Shape.Concatenates [S8192x1, S8192x1, S8192x1] S8192x3 1
  bcast_S_S8192 : S_.BroadcastsInDim S8192 (![] : Fin 0 → Fin S8192.rank)
  bcast_S_S8192x4x3 : S_.BroadcastsInDim S8192x4x3 (![] : Fin 0 → Fin S8192x4x3.rank)
  shapeCasts_S8192x4x3_S8192x12 : S8192x4x3.ShapeCasts S8192x12
  concatenates_S8192x12_S8192x1_S8192x1_S8192x1_S8192x1_S8192x1_S8192x17_d1 : Shape.Concatenates [S8192x12, S8192x1, S8192x1, S8192x1, S8192x1, S8192x1] S8192x17 1

variable [Facts]

def fn_roll_static {F : FTy → Type} [FloatOps F] (arg0 : FVec F S8192x3 .f32) : FVec F S8192x3 .f32 :=
  let v0 : FVec F S1x3 .f32 := (extractStridedSlice S1x3 ![8191, 0] · slices_S8192x3_S1x3_8191_0) arg0
  let v1 : FVec F S8191x3 .f32 := (extractStridedSlice S8191x3 ![0, 0] · slices_S8192x3_S8191x3_0_0) arg0
  let v2 : FVec F S8192x3 .f32 := (fun a b => concatenate S8192x3 0 [⟨S1x3, a⟩, ⟨S8191x3, b⟩] concatenates_S1x3_S8191x3_S8192x3_d0) v0 v1
  v2

def fn_roll_static_0 {F : FTy → Type} [FloatOps F] (arg0 : FVec F S8192x3 .f32) : FVec F S8192x3 .f32 :=
  let v0 : FVec F S8191x3 .f32 := (extractStridedSlice S8191x3 ![1, 0] · slices_S8192x3_S8191x3_1_0) arg0
  let v1 : FVec F S1x3 .f32 := (extractStridedSlice S1x3 ![0, 0] · slices_S8192x3_S1x3_0_0) arg0
  let v2 : FVec F S8192x3 .f32 := (fun a b => concatenate S8192x3 0 [⟨S8191x3, a⟩, ⟨S1x3, b⟩] concatenates_S8191x3_S1x3_S8192x3_d0) v0 v1
  v2

def fn_norm {F : FTy → Type} [FloatOps F] (arg0 : FVec F S8192x3 .f32) : FVec F S8192x1 .f32 :=
  let v0 : FVec F S8192x3 .f32 := mulf arg0 arg0
  let cst : FVec F S_ .f32 := constant S_ .f32 0x00000000#32
  let v1 : FVec F S8192 .f32 := (fun x v => Host.reduceAdd x v reducesTo_S8192x3_S8192_d1 h_S_) v0 cst
  let v2 : FVec F S8192x1 .f32 := broadcastInDim S8192x1 ![0] bcast_S8192_S8192x1_0 v1
  let v3 : FVec F S8192x1 .f32 := Host.sqrt v2
  v3

def fn_part11 {F : FTy → Type} [FloatOps F] (main_arg0 : FVec F S8192x4x3 .f32) (main_arg3 : IVec S8192 32) (main_v214 : FVec F S8192 .f32) (main_v221 : IVec S8192x1 1) (main_v228 : IVec S8192x1 1) (main_v235 : IVec S8192x1 1) (main_v236 : FVec F S8192 .f32) : IVec S8192x17 1 :=
  let main_v237 : FVec F S8192 .f32 := mulf main_v214 main_v214
  let main_v238 : FVec F S8192 .f32 := addf main_v236 main_v237
  let main_v239 : FVec F S8192 .f32 := Host.sqrt main_v238
  let main_cst_26 : FVec F S_ .f32 := constant S_ .f32 0x0DA24260#32
  let main_v240 : FVec F S8192 .f32 := broadcastInDim S8192 ![] bcast_S_S8192 main_cst_26
  let main_v241 : IVec S8192 1 := cmpf .oge main_v239 main_v240
  let main_v242 : IVec S8192x1 1 := broadcastInDim S8192x1 ![0] bcast_S8192_S8192x1_0 main_v241
  let main_v243 : IVec S8192 32 := iotaInDim S8192 32 0
  let main_v244 : IVec S8192 1 := cmpi .eq main_arg3 main_v243
  let main_v245 : IVec S8192x1 1 := broadcastInDim S8192x1 ![0] bcast_S8192_S8192x1_0 main_v244
  let main_v246 : FVec F S8192x4x3 .f32 := Host.absf main_arg0
  let main_cst_27 : FVec F S_ .f32 := constant S_ .f32 0x7F800000#32
  let main_v247 : FVec F S8192x4x3 .f32 := broadcastInDim S8192x4x3 ![] bcast_S_S8192x4x3 main_cst_27
  let main_v248 : IVec S8192x4x3 1 := cmpf .olt main_v246 main_v247
  let main_v249 : IVec S8192x12 1 := shapeCast S8192x12 main_v248 shapeCasts_S8192x4x3_S8192x12
  let main_v250 : IVec S8192x17 1 := concatenate S8192x17 1 [⟨S8192x12, main_v249⟩, ⟨S8192x1, main_v245⟩, ⟨S8192x1, main_v221⟩, ⟨S8192x1, main_v228⟩, ⟨S8192x1, main_v235⟩, ⟨S8192x1, main_v242⟩] concatenates_S8192x12_S8192x1_S8192x1_S8192x1_S8192x1_S8192x1_S8192x17_d1
  main_v250

def fn_part10 {F : FTy → Type} [FloatOps F] (main_arg0 : FVec F S8192x4x3 .f32) (main_arg3 : IVec S8192 32) (main_v61 : FVec F S8192 .f32) (main_v85 : FVec F S8192 .f32) (main_v112 : FVec F S8192 .f32) (main_v136 : FVec F S8192 .f32) (main_v163 : FVec F S8192 .f32) (main_v187 : FVec F S8192 .f32) (main_v214 : FVec F S8192 .f32) (main_v215 : FVec F S8192 .f32) : IVec S8192x17 1 :=
  let main_v216 : FVec F S8192 .f32 := mulf main_v61 main_v61
  let main_v217 : FVec F S8192 .f32 := addf main_v215 main_v216
  let main_v218 : FVec F S8192 .f32 := Host.sqrt main_v217
  let main_cst_23 : FVec F S_ .f32 := constant S_ .f32 0x0DA24260#32
  let main_v219 : FVec F S8192 .f32 := broadcastInDim S8192 ![] bcast_S_S8192 main_cst_23
  let main_v220 : IVec S8192 1 := cmpf .oge main_v218 main_v219
  let main_v221 : IVec S8192x1 1 := broadcastInDim S8192x1 ![0] bcast_S8192_S8192x1_0 main_v220
  let main_v222 : FVec F S8192 .f32 := mulf main_v85 main_v85
  let main_v223 : FVec F S8192 .f32 := mulf main_v112 main_v112
  let main_v224 : FVec F S8192 .f32 := addf main_v222 main_v223
  let main_v225 : FVec F S8192 .f32 := Host.sqrt main_v224
  let main_cst_24 : FVec F S_ .f32 := constant S_ .f32 0x0DA24260#32
  let main_v226 : FVec F S8192 .f32 := broadcastInDim S8192 ![] bcast_S_S8192 main_cst_24
  let main_v227 : IVec S8192 1 := cmpf .oge main_v225 main_v226
  let main_v228 : IVec S8192x1 1 := broadcastInDim S8192x1 ![0] bcast_S8192_S8192x1_0 main_v227
  let main_v229 : FVec F S8192 .f32 := mulf main_v136 main_v136
  let main_v230 : FVec F S8192 .f32 := mulf main_v163 main_v163
  let main_v231 : FVec F S8192 .f32 := addf main_v229 main_v230
  let main_v232 : FVec F S8192 .f32 := Host.sqrt main_v231
  let main_cst_25 : FVec F S_ .f32 := constant S_ .f32 0x0DA24260#32
  let main_v233 : FVec F S8192 .f32 := broadcastInDim S8192 ![] bcast_S_S8192 main_cst_25
  let main_v234 : IVec S8192 1 := cmpf .oge main_v232 main_v233
  let main_v235 : IVec S8192x1 1 := broadcastInDim S8192x1 ![0] bcast_S8192_S8192x1_0 main_v234
  let main_v236 : FVec F S8192 .f32 := mulf main_v187 main_v187
  fn_part11 (F := F) main_arg0 main_arg3 main_v214 main_v221 main_v228 main_v235 main_v236

def fn_part9 {F : FTy → Type} [FloatOps F] (main_arg0 : FVec F S8192x4x3 .f32) (main_arg3 : IVec S8192 32) (main_v34 : FVec F S8192 .f32) (main_v61 : FVec F S8192 .f32) (main_v85 : FVec F S8192 .f32) (main_v112 : FVec F S8192 .f32) (main_v136 : FVec F S8192 .f32) (main_v163 : FVec F S8192 .f32) (main_v179 : FVec F S8192x3 .f32) (main_v185 : FVec F S8192x3 .f32) (main_v187 : FVec F S8192 .f32) (main_v189 : FVec F S8192 .f32) (main_v191 : FVec F S8192 .f32) (main_v192 : FVec F S8192x1 .f32) : IVec S8192x17 1 :=
  let main_v193 : FVec F S8192 .f32 := shapeCast S8192 main_v192 shapeCasts_S8192x1_S8192
  let main_v194 : FVec F S8192x1 .f32 := (extractStridedSlice S8192x1 ![0, 0] · slices_S8192x3_S8192x1_0_0) main_v179
  let main_v195 : FVec F S8192 .f32 := shapeCast S8192 main_v194 shapeCasts_S8192x1_S8192
  let main_v196 : FVec F S8192x1 .f32 := (extractStridedSlice S8192x1 ![0, 1] · slices_S8192x3_S8192x1_0_1) main_v179
  let main_v197 : FVec F S8192 .f32 := shapeCast S8192 main_v196 shapeCasts_S8192x1_S8192
  let main_v198 : FVec F S8192x1 .f32 := (extractStridedSlice S8192x1 ![0, 2] · slices_S8192x3_S8192x1_0_2) main_v179
  let main_v199 : FVec F S8192 .f32 := shapeCast S8192 main_v198 shapeCasts_S8192x1_S8192
  let main_v200 : FVec F S8192 .f32 := mulf main_v191 main_v199
  let main_v201 : FVec F S8192 .f32 := mulf main_v193 main_v197
  let main_v202 : FVec F S8192 .f32 := subf main_v200 main_v201
  let main_v203 : FVec F S8192 .f32 := mulf main_v193 main_v195
  let main_v204 : FVec F S8192 .f32 := mulf main_v189 main_v199
  let main_v205 : FVec F S8192 .f32 := subf main_v203 main_v204
  let main_v206 : FVec F S8192 .f32 := mulf main_v189 main_v197
  let main_v207 : FVec F S8192 .f32 := mulf main_v191 main_v195
  let main_v208 : FVec F S8192 .f32 := subf main_v206 main_v207
  let main_v209 : FVec F S8192x1 .f32 := broadcastInDim S8192x1 ![0] bcast_S8192_S8192x1_0 main_v202
  let main_v210 : FVec F S8192x1 .f32 := broadcastInDim S8192x1 ![0] bcast_S8192_S8192x1_0 main_v205
  let main_v211 : FVec F S8192x1 .f32 := broadcastInDim S8192x1 ![0] bcast_S8192_S8192x1_0 main_v208
  let main_v212 : FVec F S8192x3 .f32 := concatenate S8192x3 1 [⟨S8192x1, main_v209⟩, ⟨S8192x1, main_v210⟩, ⟨S8192x1, main_v211⟩] concatenates_S8192x1_S8192x1_S8192x1_S8192x3_d1
  let main_v213 : FVec F S8192x3 .f32 := mulf main_v212 main_v185
  let main_cst_22 : FVec F S_ .f32 := constant S_ .f32 0x00000000#32
  let main_v214 : FVec F S8192 .f32 := (fun x v => Host.reduceAdd x v reducesTo_S8192x3_S8192_d1 h_S_) main_v213 main_cst_22
  let main_v215 : FVec F S8192 .f32 := mulf main_v34 main_v34
  fn_part10 (F := F) main_arg0 main_arg3 main_v61 main_v85 main_v112 main_v136 main_v163 main_v187 main_v214 main_v215

def fn_part8 {F : FTy → Type} [FloatOps F] (main_arg0 : FVec F S8192x4x3 .f32) (main_arg3 : IVec S8192 32) (main_v34 : FVec F S8192 .f32) (main_v61 : FVec F S8192 .f32) (main_v85 : FVec F S8192 .f32) (main_v112 : FVec F S8192 .f32) (main_v136 : FVec F S8192 .f32) (main_v163 : FVec F S8192 .f32) (main_v166 : FVec F S8192x3 .f32) (main_v167 : FVec F S8192x3 .f32) (main_v168 : FVec F S8192x3 .f32) (main_v171 : FVec F S8192x1 .f32) : IVec S8192x17 1 :=
  let main_v172 : FVec F S8192x3 .f32 := broadcastInDim S8192x3 ![0, 1] bcast_S8192x1_S8192x3_0_1 main_v171
  let main_v173 : FVec F S8192x3 .f32 := Host.divf main_v167 main_v172
  let main_v174 : FVec F S8192x3 .f32 := mulf main_v166 main_v173
  let main_cst_19 : FVec F S_ .f32 := constant S_ .f32 0x00000000#32
  let main_v175 : FVec F S8192 .f32 := (fun x v => Host.reduceAdd x v reducesTo_S8192x3_S8192_d1 h_S_) main_v174 main_cst_19
  let main_v176 : FVec F S8192x1 .f32 := broadcastInDim S8192x1 ![0] bcast_S8192_S8192x1_0 main_v175
  let main_v177 : FVec F S8192x3 .f32 := broadcastInDim S8192x3 ![0, 1] bcast_S8192x1_S8192x3_0_1 main_v176
  let main_v178 : FVec F S8192x3 .f32 := mulf main_v177 main_v173
  let main_v179 : FVec F S8192x3 .f32 := subf main_v166 main_v178
  let main_v180 : FVec F S8192x3 .f32 := mulf main_v168 main_v173
  let main_cst_20 : FVec F S_ .f32 := constant S_ .f32 0x00000000#32
  let main_v181 : FVec F S8192 .f32 := (fun x v => Host.reduceAdd x v reducesTo_S8192x3_S8192_d1 h_S_) main_v180 main_cst_20
  let main_v182 : FVec F S8192x1 .f32 := broadcastInDim S8192x1 ![0] bcast_S8192_S8192x1_0 main_v181
  let main_v183 : FVec F S8192x3 .f32 := broadcastInDim S8192x3 ![0, 1] bcast_S8192x1_S8192x3_0_1 main_v182
  let main_v184 : FVec F S8192x3 .f32 := mulf main_v183 main_v173
  let main_v185 : FVec F S8192x3 .f32 := subf main_v168 main_v184
  let main_v186 : FVec F S8192x3 .f32 := mulf main_v179 main_v185
  let main_cst_21 : FVec F S_ .f32 := constant S_ .f32 0x00000000#32
  let main_v187 : FVec F S8192 .f32 := (fun x v => Host.reduceAdd x v reducesTo_S8192x3_S8192_d1 h_S_) main_v186 main_cst_21
  let main_v188 : FVec F S8192x1 .f32 := (extractStridedSlice S8192x1 ![0, 0] · slices_S8192x3_S8192x1_0_0) main_v173
  let main_v189 : FVec F S8192 .f32 := shapeCast S8192 main_v188 shapeCasts_S8192x1_S8192
  let main_v190 : FVec F S8192x1 .f32 := (extractStridedSlice S8192x1 ![0, 1] · slices_S8192x3_S8192x1_0_1) main_v173
  let main_v191 : FVec F S8192 .f32 := shapeCast S8192 main_v190 shapeCasts_S8192x1_S8192
  let main_v192 : FVec F S8192x1 .f32 := (extractStridedSlice S8192x1 ![0, 2] · slices_S8192x3_S8192x1_0_2) main_v173
  fn_part9 (F := F) main_arg0 main_arg3 main_v34 main_v61 main_v85 main_v112 main_v136 main_v163 main_v179 main_v185 main_v187 main_v189 main_v191 main_v192

def fn_part7 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v34 : FVec F S8192 .f32) (main_v61 : FVec F S8192 .f32) (main_v85 : FVec F S8192 .f32) (main_v112 : FVec F S8192 .f32) (main_v134 : FVec F S8192x3 .f32) (main_v136 : FVec F S8192 .f32) (main_v138 : FVec F S8192 .f32) (main_v140 : FVec F S8192 .f32) (main_v142 : FVec F S8192 .f32) (main_v144 : FVec F S8192 .f32) (main_v146 : FVec F S8192 .f32) (main_v148 : FVec F S8192 .f32) (main_v149 : FVec F S8192 .f32) (main_v150 : FVec F S8192 .f32) : IVec S8192x17 1 :=
  let main_v151 : FVec F S8192 .f32 := subf main_v149 main_v150
  let main_v152 : FVec F S8192 .f32 := mulf main_v142 main_v144
  let main_v153 : FVec F S8192 .f32 := mulf main_v138 main_v148
  let main_v154 : FVec F S8192 .f32 := subf main_v152 main_v153
  let main_v155 : FVec F S8192 .f32 := mulf main_v138 main_v146
  let main_v156 : FVec F S8192 .f32 := mulf main_v140 main_v144
  let main_v157 : FVec F S8192 .f32 := subf main_v155 main_v156
  let main_v158 : FVec F S8192x1 .f32 := broadcastInDim S8192x1 ![0] bcast_S8192_S8192x1_0 main_v151
  let main_v159 : FVec F S8192x1 .f32 := broadcastInDim S8192x1 ![0] bcast_S8192_S8192x1_0 main_v154
  let main_v160 : FVec F S8192x1 .f32 := broadcastInDim S8192x1 ![0] bcast_S8192_S8192x1_0 main_v157
  let main_v161 : FVec F S8192x3 .f32 := concatenate S8192x3 1 [⟨S8192x1, main_v158⟩, ⟨S8192x1, main_v159⟩, ⟨S8192x1, main_v160⟩] concatenates_S8192x1_S8192x1_S8192x1_S8192x3_d1
  let main_v162 : FVec F S8192x3 .f32 := mulf main_v161 main_v134
  let main_cst_16 : FVec F S_ .f32 := constant S_ .f32 0x00000000#32
  let main_v163 : FVec F S8192 .f32 := (fun x v => Host.reduceAdd x v reducesTo_S8192x3_S8192_d1 h_S_) main_v162 main_cst_16
  let main_v164 : FVec F S8192x3 .f32 := subf main_v3 main_v1
  let main_cst_17 : FVec F S_ .f32 := constant S_ .f32 0xBF800000#32
  let main_v165 : FVec F S8192x3 .f32 := broadcastInDim S8192x3 ![] bcast_S_S8192x3 main_cst_17
  let main_v166 : FVec F S8192x3 .f32 := mulf main_v165 main_v164
  let main_v167 : FVec F S8192x3 .f32 := subf main_v5 main_v3
  let main_v168 : FVec F S8192x3 .f32 := subf main_v7 main_v5
  let main_v169 : FVec F S8192x1 .f32 := fn_norm (F := F) main_v167
  let main_cst_18 : FVec F S_ .f32 := constant S_ .f32 0x33D6BF95#32
  let main_v170 : FVec F S8192x1 .f32 := broadcastInDim S8192x1 ![] bcast_S_S8192x1 main_cst_18
  let main_v171 : FVec F S8192x1 .f32 := maximumf main_v169 main_v170
  fn_part8 (F := F) main_arg0 main_arg3 main_v34 main_v61 main_v85 main_v112 main_v136 main_v163 main_v166 main_v167 main_v168 main_v171

def fn_part6 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v34 : FVec F S8192 .f32) (main_v61 : FVec F S8192 .f32) (main_v85 : FVec F S8192 .f32) (main_v112 : FVec F S8192 .f32) (main_v117 : FVec F S8192x3 .f32) (main_v122 : FVec F S8192x3 .f32) (main_v128 : FVec F S8192x3 .f32) : IVec S8192x17 1 :=
  let main_v129 : FVec F S8192x3 .f32 := mulf main_v117 main_v122
  let main_cst_14 : FVec F S_ .f32 := constant S_ .f32 0x00000000#32
  let main_v130 : FVec F S8192 .f32 := (fun x v => Host.reduceAdd x v reducesTo_S8192x3_S8192_d1 h_S_) main_v129 main_cst_14
  let main_v131 : FVec F S8192x1 .f32 := broadcastInDim S8192x1 ![0] bcast_S8192_S8192x1_0 main_v130
  let main_v132 : FVec F S8192x3 .f32 := broadcastInDim S8192x3 ![0, 1] bcast_S8192x1_S8192x3_0_1 main_v131
  let main_v133 : FVec F S8192x3 .f32 := mulf main_v132 main_v122
  let main_v134 : FVec F S8192x3 .f32 := subf main_v117 main_v133
  let main_v135 : FVec F S8192x3 .f32 := mulf main_v128 main_v134
  let main_cst_15 : FVec F S_ .f32 := constant S_ .f32 0x00000000#32
  let main_v136 : FVec F S8192 .f32 := (fun x v => Host.reduceAdd x v reducesTo_S8192x3_S8192_d1 h_S_) main_v135 main_cst_15
  let main_v137 : FVec F S8192x1 .f32 := (extractStridedSlice S8192x1 ![0, 0] · slices_S8192x3_S8192x1_0_0) main_v122
  let main_v138 : FVec F S8192 .f32 := shapeCast S8192 main_v137 shapeCasts_S8192x1_S8192
  let main_v139 : FVec F S8192x1 .f32 := (extractStridedSlice S8192x1 ![0, 1] · slices_S8192x3_S8192x1_0_1) main_v122
  let main_v140 : FVec F S8192 .f32 := shapeCast S8192 main_v139 shapeCasts_S8192x1_S8192
  let main_v141 : FVec F S8192x1 .f32 := (extractStridedSlice S8192x1 ![0, 2] · slices_S8192x3_S8192x1_0_2) main_v122
  let main_v142 : FVec F S8192 .f32 := shapeCast S8192 main_v141 shapeCasts_S8192x1_S8192
  let main_v143 : FVec F S8192x1 .f32 := (extractStridedSlice S8192x1 ![0, 0] · slices_S8192x3_S8192x1_0_0) main_v128
  let main_v144 : FVec F S8192 .f32 := shapeCast S8192 main_v143 shapeCasts_S8192x1_S8192
  let main_v145 : FVec F S8192x1 .f32 := (extractStridedSlice S8192x1 ![0, 1] · slices_S8192x3_S8192x1_0_1) main_v128
  let main_v146 : FVec F S8192 .f32 := shapeCast S8192 main_v145 shapeCasts_S8192x1_S8192
  let main_v147 : FVec F S8192x1 .f32 := (extractStridedSlice S8192x1 ![0, 2] · slices_S8192x3_S8192x1_0_2) main_v128
  let main_v148 : FVec F S8192 .f32 := shapeCast S8192 main_v147 shapeCasts_S8192x1_S8192
  let main_v149 : FVec F S8192 .f32 := mulf main_v140 main_v148
  let main_v150 : FVec F S8192 .f32 := mulf main_v142 main_v146
  fn_part7 (F := F) main_arg0 main_arg3 main_v1 main_v3 main_v5 main_v7 main_v34 main_v61 main_v85 main_v112 main_v134 main_v136 main_v138 main_v140 main_v142 main_v144 main_v146 main_v148 main_v149 main_v150

def fn_part5 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v9 : FVec F S8192x3 .f32) (main_v10 : FVec F S8192x3 .f32) (main_v34 : FVec F S8192 .f32) (main_v61 : FVec F S8192 .f32) (main_v83 : FVec F S8192x3 .f32) (main_v85 : FVec F S8192 .f32) (main_v106 : FVec F S8192 .f32) (main_v107 : FVec F S8192x1 .f32) (main_v108 : FVec F S8192x1 .f32) : IVec S8192x17 1 :=
  let main_v109 : FVec F S8192x1 .f32 := broadcastInDim S8192x1 ![0] bcast_S8192_S8192x1_0 main_v106
  let main_v110 : FVec F S8192x3 .f32 := concatenate S8192x3 1 [⟨S8192x1, main_v107⟩, ⟨S8192x1, main_v108⟩, ⟨S8192x1, main_v109⟩] concatenates_S8192x1_S8192x1_S8192x1_S8192x3_d1
  let main_v111 : FVec F S8192x3 .f32 := mulf main_v110 main_v83
  let main_cst_10 : FVec F S_ .f32 := constant S_ .f32 0x00000000#32
  let main_v112 : FVec F S8192 .f32 := (fun x v => Host.reduceAdd x v reducesTo_S8192x3_S8192_d1 h_S_) main_v111 main_cst_10
  let main_v113 : FVec F S8192x3 .f32 := subf main_v5 main_v3
  let main_cst_11 : FVec F S_ .f32 := constant S_ .f32 0xBF800000#32
  let main_v114 : FVec F S8192x3 .f32 := broadcastInDim S8192x3 ![] bcast_S_S8192x3 main_cst_11
  let main_v115 : FVec F S8192x3 .f32 := mulf main_v114 main_v113
  let main_v116 : FVec F S8192x3 .f32 := subf main_v9 main_v5
  let main_v117 : FVec F S8192x3 .f32 := subf main_v10 main_v9
  let main_v118 : FVec F S8192x1 .f32 := fn_norm (F := F) main_v116
  let main_cst_12 : FVec F S_ .f32 := constant S_ .f32 0x33D6BF95#32
  let main_v119 : FVec F S8192x1 .f32 := broadcastInDim S8192x1 ![] bcast_S_S8192x1 main_cst_12
  let main_v120 : FVec F S8192x1 .f32 := maximumf main_v118 main_v119
  let main_v121 : FVec F S8192x3 .f32 := broadcastInDim S8192x3 ![0, 1] bcast_S8192x1_S8192x3_0_1 main_v120
  let main_v122 : FVec F S8192x3 .f32 := Host.divf main_v116 main_v121
  let main_v123 : FVec F S8192x3 .f32 := mulf main_v115 main_v122
  let main_cst_13 : FVec F S_ .f32 := constant S_ .f32 0x00000000#32
  let main_v124 : FVec F S8192 .f32 := (fun x v => Host.reduceAdd x v reducesTo_S8192x3_S8192_d1 h_S_) main_v123 main_cst_13
  let main_v125 : FVec F S8192x1 .f32 := broadcastInDim S8192x1 ![0] bcast_S8192_S8192x1_0 main_v124
  let main_v126 : FVec F S8192x3 .f32 := broadcastInDim S8192x3 ![0, 1] bcast_S8192x1_S8192x3_0_1 main_v125
  let main_v127 : FVec F S8192x3 .f32 := mulf main_v126 main_v122
  let main_v128 : FVec F S8192x3 .f32 := subf main_v115 main_v127
  fn_part6 (F := F) main_arg0 main_arg3 main_v1 main_v3 main_v5 main_v7 main_v34 main_v61 main_v85 main_v112 main_v117 main_v122 main_v128

def fn_part4 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v9 : FVec F S8192x3 .f32) (main_v10 : FVec F S8192x3 .f32) (main_v34 : FVec F S8192 .f32) (main_v61 : FVec F S8192 .f32) (main_v71 : FVec F S8192x3 .f32) (main_v77 : FVec F S8192x3 .f32) (main_v83 : FVec F S8192x3 .f32) (main_v84 : FVec F S8192x3 .f32) (main_cst_9 : FVec F S_ .f32) : IVec S8192x17 1 :=
  let main_v85 : FVec F S8192 .f32 := (fun x v => Host.reduceAdd x v reducesTo_S8192x3_S8192_d1 h_S_) main_v84 main_cst_9
  let main_v86 : FVec F S8192x1 .f32 := (extractStridedSlice S8192x1 ![0, 0] · slices_S8192x3_S8192x1_0_0) main_v71
  let main_v87 : FVec F S8192 .f32 := shapeCast S8192 main_v86 shapeCasts_S8192x1_S8192
  let main_v88 : FVec F S8192x1 .f32 := (extractStridedSlice S8192x1 ![0, 1] · slices_S8192x3_S8192x1_0_1) main_v71
  let main_v89 : FVec F S8192 .f32 := shapeCast S8192 main_v88 shapeCasts_S8192x1_S8192
  let main_v90 : FVec F S8192x1 .f32 := (extractStridedSlice S8192x1 ![0, 2] · slices_S8192x3_S8192x1_0_2) main_v71
  let main_v91 : FVec F S8192 .f32 := shapeCast S8192 main_v90 shapeCasts_S8192x1_S8192
  let main_v92 : FVec F S8192x1 .f32 := (extractStridedSlice S8192x1 ![0, 0] · slices_S8192x3_S8192x1_0_0) main_v77
  let main_v93 : FVec F S8192 .f32 := shapeCast S8192 main_v92 shapeCasts_S8192x1_S8192
  let main_v94 : FVec F S8192x1 .f32 := (extractStridedSlice S8192x1 ![0, 1] · slices_S8192x3_S8192x1_0_1) main_v77
  let main_v95 : FVec F S8192 .f32 := shapeCast S8192 main_v94 shapeCasts_S8192x1_S8192
  let main_v96 : FVec F S8192x1 .f32 := (extractStridedSlice S8192x1 ![0, 2] · slices_S8192x3_S8192x1_0_2) main_v77
  let main_v97 : FVec F S8192 .f32 := shapeCast S8192 main_v96 shapeCasts_S8192x1_S8192
  let main_v98 : FVec F S8192 .f32 := mulf main_v89 main_v97
  let main_v99 : FVec F S8192 .f32 := mulf main_v91 main_v95
  let main_v100 : FVec F S8192 .f32 := subf main_v98 main_v99
  let main_v101 : FVec F S8192 .f32 := mulf main_v91 main_v93
  let main_v102 : FVec F S8192 .f32 := mulf main_v87 main_v97
  let main_v103 : FVec F S8192 .f32 := subf main_v101 main_v102
  let main_v104 : FVec F S8192 .f32 := mulf main_v87 main_v95
  let main_v105 : FVec F S8192 .f32 := mulf main_v89 main_v93
  let main_v106 : FVec F S8192 .f32 := subf main_v104 main_v105
  let main_v107 : FVec F S8192x1 .f32 := broadcastInDim S8192x1 ![0] bcast_S8192_S8192x1_0 main_v100
  let main_v108 : FVec F S8192x1 .f32 := broadcastInDim S8192x1 ![0] bcast_S8192_S8192x1_0 main_v103
  fn_part5 (F := F) main_arg0 main_arg3 main_v1 main_v3 main_v5 main_v7 main_v9 main_v10 main_v34 main_v61 main_v83 main_v85 main_v106 main_v107 main_v108

def fn_part3 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v9 : FVec F S8192x3 .f32) (main_v10 : FVec F S8192x3 .f32) (main_v34 : FVec F S8192 .f32) (main_v61 : FVec F S8192 .f32) (main_v64 : FVec F S8192x3 .f32) : IVec S8192x17 1 :=
  let main_v65 : FVec F S8192x3 .f32 := subf main_v5 main_v3
  let main_v66 : FVec F S8192x3 .f32 := subf main_v9 main_v5
  let main_v67 : FVec F S8192x1 .f32 := fn_norm (F := F) main_v65
  let main_cst_6 : FVec F S_ .f32 := constant S_ .f32 0x33D6BF95#32
  let main_v68 : FVec F S8192x1 .f32 := broadcastInDim S8192x1 ![] bcast_S_S8192x1 main_cst_6
  let main_v69 : FVec F S8192x1 .f32 := maximumf main_v67 main_v68
  let main_v70 : FVec F S8192x3 .f32 := broadcastInDim S8192x3 ![0, 1] bcast_S8192x1_S8192x3_0_1 main_v69
  let main_v71 : FVec F S8192x3 .f32 := Host.divf main_v65 main_v70
  let main_v72 : FVec F S8192x3 .f32 := mulf main_v64 main_v71
  let main_cst_7 : FVec F S_ .f32 := constant S_ .f32 0x00000000#32
  let main_v73 : FVec F S8192 .f32 := (fun x v => Host.reduceAdd x v reducesTo_S8192x3_S8192_d1 h_S_) main_v72 main_cst_7
  let main_v74 : FVec F S8192x1 .f32 := broadcastInDim S8192x1 ![0] bcast_S8192_S8192x1_0 main_v73
  let main_v75 : FVec F S8192x3 .f32 := broadcastInDim S8192x3 ![0, 1] bcast_S8192x1_S8192x3_0_1 main_v74
  let main_v76 : FVec F S8192x3 .f32 := mulf main_v75 main_v71
  let main_v77 : FVec F S8192x3 .f32 := subf main_v64 main_v76
  let main_v78 : FVec F S8192x3 .f32 := mulf main_v66 main_v71
  let main_cst_8 : FVec F S_ .f32 := constant S_ .f32 0x00000000#32
  let main_v79 : FVec F S8192 .f32 := (fun x v => Host.reduceAdd x v reducesTo_S8192x3_S8192_d1 h_S_) main_v78 main_cst_8
  let main_v80 : FVec F S8192x1 .f32 := broadcastInDim S8192x1 ![0] bcast_S8192_S8192x1_0 main_v79
  let main_v81 : FVec F S8192x3 .f32 := broadcastInDim S8192x3 ![0, 1] bcast_S8192x1_S8192x3_0_1 main_v80
  let main_v82 : FVec F S8192x3 .f32 := mulf main_v81 main_v71
  let main_v83 : FVec F S8192x3 .f32 := subf main_v66 main_v82
  let main_v84 : FVec F S8192x3 .f32 := mulf main_v77 main_v83
  let main_cst_9 : FVec F S_ .f32 := constant S_ .f32 0x00000000#32
  fn_part4 (F := F) main_arg0 main_arg3 main_v1 main_v3 main_v5 main_v7 main_v9 main_v10 main_v34 main_v61 main_v71 main_v77 main_v83 main_v84 main_cst_9

def fn_part2 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v9 : FVec F S8192x3 .f32) (main_v10 : FVec F S8192x3 .f32) (main_v26 : FVec F S8192x3 .f32) (main_v32 : FVec F S8192x3 .f32) (main_v34 : FVec F S8192 .f32) (main_v36 : FVec F S8192 .f32) (main_v38 : FVec F S8192 .f32) (main_v40 : FVec F S8192 .f32) (main_v42 : FVec F S8192 .f32) : IVec S8192x17 1 :=
  let main_v43 : FVec F S8192x1 .f32 := (extractStridedSlice S8192x1 ![0, 1] · slices_S8192x3_S8192x1_0_1) main_v26
  let main_v44 : FVec F S8192 .f32 := shapeCast S8192 main_v43 shapeCasts_S8192x1_S8192
  let main_v45 : FVec F S8192x1 .f32 := (extractStridedSlice S8192x1 ![0, 2] · slices_S8192x3_S8192x1_0_2) main_v26
  let main_v46 : FVec F S8192 .f32 := shapeCast S8192 main_v45 shapeCasts_S8192x1_S8192
  let main_v47 : FVec F S8192 .f32 := mulf main_v38 main_v46
  let main_v48 : FVec F S8192 .f32 := mulf main_v40 main_v44
  let main_v49 : FVec F S8192 .f32 := subf main_v47 main_v48
  let main_v50 : FVec F S8192 .f32 := mulf main_v40 main_v42
  let main_v51 : FVec F S8192 .f32 := mulf main_v36 main_v46
  let main_v52 : FVec F S8192 .f32 := subf main_v50 main_v51
  let main_v53 : FVec F S8192 .f32 := mulf main_v36 main_v44
  let main_v54 : FVec F S8192 .f32 := mulf main_v38 main_v42
  let main_v55 : FVec F S8192 .f32 := subf main_v53 main_v54
  let main_v56 : FVec F S8192x1 .f32 := broadcastInDim S8192x1 ![0] bcast_S8192_S8192x1_0 main_v49
  let main_v57 : FVec F S8192x1 .f32 := broadcastInDim S8192x1 ![0] bcast_S8192_S8192x1_0 main_v52
  let main_v58 : FVec F S8192x1 .f32 := broadcastInDim S8192x1 ![0] bcast_S8192_S8192x1_0 main_v55
  let main_v59 : FVec F S8192x3 .f32 := concatenate S8192x3 1 [⟨S8192x1, main_v56⟩, ⟨S8192x1, main_v57⟩, ⟨S8192x1, main_v58⟩] concatenates_S8192x1_S8192x1_S8192x1_S8192x3_d1
  let main_v60 : FVec F S8192x3 .f32 := mulf main_v59 main_v32
  let main_cst_4 : FVec F S_ .f32 := constant S_ .f32 0x00000000#32
  let main_v61 : FVec F S8192 .f32 := (fun x v => Host.reduceAdd x v reducesTo_S8192x3_S8192_d1 h_S_) main_v60 main_cst_4
  let main_v62 : FVec F S8192x3 .f32 := subf main_v3 main_v1
  let main_cst_5 : FVec F S_ .f32 := constant S_ .f32 0xBF800000#32
  let main_v63 : FVec F S8192x3 .f32 := broadcastInDim S8192x3 ![] bcast_S_S8192x3 main_cst_5
  let main_v64 : FVec F S8192x3 .f32 := mulf main_v63 main_v62
  fn_part3 (F := F) main_arg0 main_arg3 main_v1 main_v3 main_v5 main_v7 main_v9 main_v10 main_v34 main_v61 main_v64

def fn_part1 {F : FTy → Type} [FloatOps F] (main_arg0 : FVec F S8192x4x3 .f32) (main_arg3 : IVec S8192 32) (main_v1 : FVec F S8192x3 .f32) (main_v3 : FVec F S8192x3 .f32) (main_v5 : FVec F S8192x3 .f32) (main_v7 : FVec F S8192x3 .f32) (main_v9 : FVec F S8192x3 .f32) (main_v10 : FVec F S8192x3 .f32) (main_v13 : FVec F S8192x3 .f32) (main_v15 : FVec F S8192x3 .f32) (main_v20 : FVec F S8192x3 .f32) (main_v21 : FVec F S8192x3 .f32) : IVec S8192x17 1 :=
  let main_cst_1 : FVec F S_ .f32 := constant S_ .f32 0x00000000#32
  let main_v22 : FVec F S8192 .f32 := (fun x v => Host.reduceAdd x v reducesTo_S8192x3_S8192_d1 h_S_) main_v21 main_cst_1
  let main_v23 : FVec F S8192x1 .f32 := broadcastInDim S8192x1 ![0] bcast_S8192_S8192x1_0 main_v22
  let main_v24 : FVec F S8192x3 .f32 := broadcastInDim S8192x3 ![0, 1] bcast_S8192x1_S8192x3_0_1 main_v23
  let main_v25 : FVec F S8192x3 .f32 := mulf main_v24 main_v20
  let main_v26 : FVec F S8192x3 .f32 := subf main_v13 main_v25
  let main_v27 : FVec F S8192x3 .f32 := mulf main_v15 main_v20
  let main_cst_2 : FVec F S_ .f32 := constant S_ .f32 0x00000000#32
  let main_v28 : FVec F S8192 .f32 := (fun x v => Host.reduceAdd x v reducesTo_S8192x3_S8192_d1 h_S_) main_v27 main_cst_2
  let main_v29 : FVec F S8192x1 .f32 := broadcastInDim S8192x1 ![0] bcast_S8192_S8192x1_0 main_v28
  let main_v30 : FVec F S8192x3 .f32 := broadcastInDim S8192x3 ![0, 1] bcast_S8192x1_S8192x3_0_1 main_v29
  let main_v31 : FVec F S8192x3 .f32 := mulf main_v30 main_v20
  let main_v32 : FVec F S8192x3 .f32 := subf main_v15 main_v31
  let main_v33 : FVec F S8192x3 .f32 := mulf main_v26 main_v32
  let main_cst_3 : FVec F S_ .f32 := constant S_ .f32 0x00000000#32
  let main_v34 : FVec F S8192 .f32 := (fun x v => Host.reduceAdd x v reducesTo_S8192x3_S8192_d1 h_S_) main_v33 main_cst_3
  let main_v35 : FVec F S8192x1 .f32 := (extractStridedSlice S8192x1 ![0, 0] · slices_S8192x3_S8192x1_0_0) main_v20
  let main_v36 : FVec F S8192 .f32 := shapeCast S8192 main_v35 shapeCasts_S8192x1_S8192
  let main_v37 : FVec F S8192x1 .f32 := (extractStridedSlice S8192x1 ![0, 1] · slices_S8192x3_S8192x1_0_1) main_v20
  let main_v38 : FVec F S8192 .f32 := shapeCast S8192 main_v37 shapeCasts_S8192x1_S8192
  let main_v39 : FVec F S8192x1 .f32 := (extractStridedSlice S8192x1 ![0, 2] · slices_S8192x3_S8192x1_0_2) main_v20
  let main_v40 : FVec F S8192 .f32 := shapeCast S8192 main_v39 shapeCasts_S8192x1_S8192
  let main_v41 : FVec F S8192x1 .f32 := (extractStridedSlice S8192x1 ![0, 0] · slices_S8192x3_S8192x1_0_0) main_v26
  let main_v42 : FVec F S8192 .f32 := shapeCast S8192 main_v41 shapeCasts_S8192x1_S8192
  fn_part2 (F := F) main_arg0 main_arg3 main_v1 main_v3 main_v5 main_v7 main_v9 main_v10 main_v26 main_v32 main_v34 main_v36 main_v38 main_v40 main_v42

def fn {F : FTy → Type} [FloatOps F] (main_arg0 : FVec F S8192x4x3 .f32) (main_arg1 : FVec F S8 .f32) (main_arg2 : FVec F S3x16 .f32) (main_arg3 : IVec S8192 32) (main_arg4 : IVec S8192 32) : IVec S8192x17 1 :=
  let main_v0 : FVec F S8192x1x3 .f32 := (extractStridedSlice S8192x1x3 ![0, 0, 0] · slices_S8192x4x3_S8192x1x3_0_0_0) main_arg0
  let main_v1 : FVec F S8192x3 .f32 := shapeCast S8192x3 main_v0 shapeCasts_S8192x1x3_S8192x3
  let main_v2 : FVec F S8192x1x3 .f32 := (extractStridedSlice S8192x1x3 ![0, 1, 0] · slices_S8192x4x3_S8192x1x3_0_1_0) main_arg0
  let main_v3 : FVec F S8192x3 .f32 := shapeCast S8192x3 main_v2 shapeCasts_S8192x1x3_S8192x3
  let main_v4 : FVec F S8192x1x3 .f32 := (extractStridedSlice S8192x1x3 ![0, 2, 0] · slices_S8192x4x3_S8192x1x3_0_2_0) main_arg0
  let main_v5 : FVec F S8192x3 .f32 := shapeCast S8192x3 main_v4 shapeCasts_S8192x1x3_S8192x3
  let main_v6 : FVec F S8192x1x3 .f32 := (extractStridedSlice S8192x1x3 ![0, 3, 0] · slices_S8192x4x3_S8192x1x3_0_3_0) main_arg0
  let main_v7 : FVec F S8192x3 .f32 := shapeCast S8192x3 main_v6 shapeCasts_S8192x1x3_S8192x3
  let main_v8 : FVec F S8192x3 .f32 := fn_roll_static (F := F) main_v5
  let main_v9 : FVec F S8192x3 .f32 := fn_roll_static_0 (F := F) main_v1
  let main_v10 : FVec F S8192x3 .f32 := fn_roll_static_0 (F := F) main_v3
  let main_v11 : FVec F S8192x3 .f32 := subf main_v1 main_v8
  let main_cst : FVec F S_ .f32 := constant S_ .f32 0xBF800000#32
  let main_v12 : FVec F S8192x3 .f32 := broadcastInDim S8192x3 ![] bcast_S_S8192x3 main_cst
  let main_v13 : FVec F S8192x3 .f32 := mulf main_v12 main_v11
  let main_v14 : FVec F S8192x3 .f32 := subf main_v3 main_v1
  let main_v15 : FVec F S8192x3 .f32 := subf main_v5 main_v3
  let main_v16 : FVec F S8192x1 .f32 := fn_norm (F := F) main_v14
  let main_cst_0 : FVec F S_ .f32 := constant S_ .f32 0x33D6BF95#32
  let main_v17 : FVec F S8192x1 .f32 := broadcastInDim S8192x1 ![] bcast_S_S8192x1 main_cst_0
  let main_v18 : FVec F S8192x1 .f32 := maximumf main_v16 main_v17
  let main_v19 : FVec F S8192x3 .f32 := broadcastInDim S8192x3 ![0, 1] bcast_S8192x1_S8192x3_0_1 main_v18
  let main_v20 : FVec F S8192x3 .f32 := Host.divf main_v14 main_v19
  let main_v21 : FVec F S8192x3 .f32 := mulf main_v13 main_v20
  fn_part1 (F := F) main_arg0 main_arg3 main_v1 main_v3 main_v5 main_v7 main_v9 main_v10 main_v13 main_v15 main_v20 main_v21
-- ==== Kernel.lean ====
abbrev S8192x4x3 : Shape := ⟨3, ![8192, 4, 3]⟩
abbrev S8 : Shape := ⟨1, ![8]⟩
abbrev S3x16 : Shape := ⟨2, ![3, 16]⟩
abbrev S8192 : Shape := ⟨1, ![8192]⟩
abbrev S8192x1x3 : Shape := ⟨3, ![8192, 1, 3]⟩
abbrev S8192x3 : Shape := ⟨2, ![8192, 3]⟩
abbrev S8192x1 : Shape := ⟨2, ![8192, 1]⟩
abbrev S1x8192 : Shape := ⟨2, ![1, 8192]⟩
abbrev S3x8192 : Shape := ⟨2, ![3, 8192]⟩
abbrev S_ : Shape := ⟨0, ![]⟩
abbrev S8192x16 : Shape := ⟨2, ![8192, 16]⟩
abbrev S8192x8 : Shape := ⟨2, ![8192, 8]⟩
abbrev S8192x8192 : Shape := ⟨2, ![8192, 8192]⟩
abbrev S256x8 : Shape := ⟨2, ![256, 8]⟩
abbrev S256x8192 : Shape := ⟨2, ![256, 8192]⟩
abbrev S256 : Shape := ⟨1, ![256]⟩
abbrev S256x1 : Shape := ⟨2, ![256, 1]⟩
abbrev S8192x512 : Shape := ⟨2, ![8192, 512]⟩
abbrev S64x8192 : Shape := ⟨2, ![64, 8192]⟩
abbrev S64x512 : Shape := ⟨2, ![64, 512]⟩
abbrev S64x512x16 : Shape := ⟨3, ![64, 512, 16]⟩
abbrev S8192x48 : Shape := ⟨2, ![8192, 48]⟩
abbrev S8192x48x1 : Shape := ⟨3, ![8192, 48, 1]⟩
abbrev S16 : Shape := ⟨1, ![16]⟩
abbrev S1x1x16 : Shape := ⟨3, ![1, 1, 16]⟩
abbrev S8192x48x16 : Shape := ⟨3, ![8192, 48, 16]⟩
abbrev S8192x768 : Shape := ⟨2, ![8192, 768]⟩
abbrev S8192x768x1 : Shape := ⟨3, ![8192, 768, 1]⟩
abbrev S1 : Shape := ⟨1, ![1]⟩
abbrev S1x1x1 : Shape := ⟨3, ![1, 1, 1]⟩
abbrev S393216 : Shape := ⟨1, ![393216]⟩
abbrev S393216x1 : Shape := ⟨2, ![393216, 1]⟩
abbrev S393216x16 : Shape := ⟨2, ![393216, 16]⟩
abbrev S1x16 : Shape := ⟨2, ![1, 16]⟩
abbrev S8x16 : Shape := ⟨2, ![8, 16]⟩
abbrev S8192x48x201 : Shape := ⟨3, ![8192, 48, 201]⟩
abbrev S32x16 : Shape := ⟨2, ![32, 16]⟩
abbrev S32x48x16 : Shape := ⟨3, ![32, 48, 16]⟩
abbrev S32x48 : Shape := ⟨2, ![32, 48]⟩
abbrev S32x48x201 : Shape := ⟨3, ![32, 48, 201]⟩
abbrev S1x8 : Shape := ⟨2, ![1, 8]⟩
abbrev S32x3 : Shape := ⟨2, ![32, 3]⟩
abbrev S32x1x3 : Shape := ⟨3, ![32, 1, 3]⟩
abbrev S32x48x3 : Shape := ⟨3, ![32, 48, 3]⟩
abbrev S32x48x1 : Shape := ⟨3, ![32, 48, 1]⟩
abbrev S32x48x8 : Shape := ⟨3, ![32, 48, 8]⟩
abbrev S32x48x8x1 : Shape := ⟨4, ![32, 48, 8, 1]⟩
abbrev S32x48x8x16 : Shape := ⟨4, ![32, 48, 8, 16]⟩
abbrev S32x48x128 : Shape := ⟨3, ![32, 48, 128]⟩
abbrev S128 : Shape := ⟨1, ![128]⟩
abbrev S1x1x128 : Shape := ⟨3, ![1, 1, 128]⟩
abbrev S32x1 : Shape := ⟨2, ![32, 1]⟩
abbrev S32x1x1 : Shape := ⟨3, ![32, 1, 1]⟩
abbrev S32x48x33 : Shape := ⟨3, ![32, 48, 33]⟩
abbrev S1x1x8 : Shape := ⟨3, ![1, 1, 8]⟩
abbrev S8191x16 : Shape := ⟨2, ![8191, 16]⟩
abbrev S8x8 : Shape := ⟨2, ![8, 8]⟩
abbrev S8192x100 : Shape := ⟨2, ![8192, 100]⟩
abbrev S256x16 : Shape := ⟨2, ![256, 16]⟩
abbrev S256x100 : Shape := ⟨2, ![256, 100]⟩
abbrev S256x3 : Shape := ⟨2, ![256, 3]⟩
abbrev S256x19 : Shape := ⟨2, ![256, 19]⟩
abbrev S256x2 : Shape := ⟨2, ![256, 2]⟩

abbrev nBuf : Space → Nat
  | .hbm => 152
  | .vmem => 28
  | .smem => 0
  | _ => 0

abbrev hbmTy0_0 (i : Nat) : BufTy := match i % 128 with
  | 0 => ⟨S8192x4x3, .f32⟩
  | 1 => ⟨S8, .f32⟩
  | 2 => ⟨S3x16, .f32⟩
  | 3 => ⟨S8192, .i32⟩
  | 4 => ⟨S8192, .i32⟩
  | 5 => ⟨S8, .f32⟩
  | 6 => ⟨S8192x1x3, .f32⟩
  | 7 => ⟨S8192x3, .f32⟩
  | 8 => ⟨S8192x1x3, .f32⟩
  | 9 => ⟨S8192x3, .f32⟩
  | 10 => ⟨S8192x1x3, .f32⟩
  | 11 => ⟨S8192x3, .f32⟩
  | 12 => ⟨S8192x3, .f32⟩
  | 13 => ⟨S8192x3, .f32⟩
  | 14 => ⟨S8192x1, .f32⟩
  | 15 => ⟨S8192, .f32⟩
  | 16 => ⟨S8192x1, .f32⟩
  | 17 => ⟨S8192, .f32⟩
  | 18 => ⟨S8192x1, .f32⟩
  | 19 => ⟨S8192, .f32⟩
  | 20 => ⟨S8192x1, .f32⟩
  | 21 => ⟨S8192, .f32⟩
  | 22 => ⟨S8192x1, .f32⟩
  | 23 => ⟨S8192, .f32⟩
  | 24 => ⟨S8192x1, .f32⟩
  | 25 => ⟨S8192, .f32⟩
  | 26 => ⟨S8192, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S1x8192, .f32⟩
  | 36 => ⟨S1x8192, .f32⟩
  | 37 => ⟨S1x8192, .f32⟩
  | 38 => ⟨S3x8192, .f32⟩
  | 39 => ⟨S8192x3, .f32⟩
  | 40 => ⟨S_, .f32⟩
  | 41 => ⟨S8192x3, .f32⟩
  | 42 => ⟨S8192x3, .f32⟩
  | 43 => ⟨S_, .f32⟩
  | 44 => ⟨S8192x3, .f32⟩
  | 45 => ⟨S8192x3, .f32⟩
  | 46 => ⟨S8192x3, .f32⟩
  | 47 => ⟨S_, .f32⟩
  | 48 => ⟨S8192x3, .f32⟩
  | 49 => ⟨S8192x3, .f32⟩
  | 50 => ⟨S8192x3, .f32⟩
  | 51 => ⟨S8192x3, .f32⟩
  | 52 => ⟨S8192x1x3, .f32⟩
  | 53 => ⟨S8192x3, .f32⟩
  | 54 => ⟨S8192, .f32⟩
  | 55 => ⟨S8192x1, .f32⟩
  | 56 => ⟨S8192x16, .f32⟩
  | 57 => ⟨S8192x1x3, .f32⟩
  | 58 => ⟨S8192x3, .f32⟩
  | 59 => ⟨S_, .i32⟩
  | 60 => ⟨S_, .f32⟩
  | 61 => ⟨S8192x8, .f32⟩
  | 62 => ⟨S8192x8192, .f32⟩
  | 63 => ⟨S8192x512, .f32⟩
  | 64 => ⟨S8192x512, .f32⟩
  | 65 => ⟨S8192x48, .f32⟩
  | 66 => ⟨S8192x48, .i32⟩
  | 67 => ⟨S8192x48, .i32⟩
  | 68 => ⟨S8192x48x1, .i32⟩
  | 69 => ⟨S_, .i32⟩
  | 70 => ⟨S8192x48x1, .i32⟩
  | 71 => ⟨S8192x48x1, .i32⟩
  | 72 => ⟨S16, .i32⟩
  | 73 => ⟨S1x1x16, .i32⟩
  | 74 => ⟨S8192x48x16, .i32⟩
  | 75 => ⟨S8192x48x16, .i32⟩
  | 76 => ⟨S8192x48x16, .i32⟩
  | 77 => ⟨S8192x768, .i32⟩
  | 78 => ⟨S_, .i32⟩
  | 79 => ⟨S8192x768, .i32⟩
  | 80 => ⟨S8192x768, .i1⟩
  | 81 => ⟨S_, .i32⟩
  | 82 => ⟨S8192x768, .i32⟩
  | 83 => ⟨S8192x768, .i32⟩
  | 84 => ⟨S8192x768, .i32⟩
  | 85 => ⟨S8192x768x1, .i32⟩
  | 86 => ⟨S1, .i32⟩
  | 87 => ⟨S_, .i32⟩
  | 88 => ⟨S8192x768x1, .i32⟩
  | 89 => ⟨S8192x768x1, .i1⟩
  | 90 => ⟨S1x1x1, .i32⟩
  | 91 => ⟨S8192x768x1, .i32⟩
  | 92 => ⟨S8192x768x1, .i1⟩
  | 93 => ⟨S8192x768x1, .i1⟩
  | 94 => ⟨S_, .i1⟩
  | 95 => ⟨S8192x768, .i1⟩
  | 96 => ⟨S8192x768, .f32⟩
  | 97 => ⟨S_, .f32⟩
  | 98 => ⟨S8192x768, .f32⟩
  | 99 => ⟨S8192x768, .f32⟩
  | 100 => ⟨S8192x768, .f32⟩
  | 101 => ⟨S8192x48, .f32⟩
  | 102 => ⟨S8192x48, .i32⟩
  | 103 => ⟨S_, .i32⟩
  | 104 => ⟨S8192x48, .i32⟩
  | 105 => ⟨S8192x48, .i1⟩
  | 106 => ⟨S_, .i32⟩
  | 107 => ⟨S8192x48, .i32⟩
  | 108 => ⟨S8192x48, .i32⟩
  | 109 => ⟨S8192x48, .i32⟩
  | 110 => ⟨S8192x48x1, .i32⟩
  | 111 => ⟨S1, .i32⟩
  | 112 => ⟨S_, .i32⟩
  | 113 => ⟨S8192x48x1, .i32⟩
  | 114 => ⟨S8192x48x1, .i1⟩
  | 115 => ⟨S1x1x1, .i32⟩
  | 116 => ⟨S8192x48x1, .i32⟩
  | 117 => ⟨S8192x48x1, .i1⟩
  | 118 => ⟨S8192x48x1, .i1⟩
  | 119 => ⟨S_, .i1⟩
  | 120 => ⟨S8192x48, .i1⟩
  | 121 => ⟨S8192x48, .i32⟩
  | 122 => ⟨S_, .i32⟩
  | 123 => ⟨S8192x48, .i32⟩
  | 124 => ⟨S8192x48, .i32⟩
  | 125 => ⟨S393216, .i32⟩
  | 126 => ⟨S_, .i32⟩
  | 127 => ⟨S393216, .i32⟩
  | _ => ⟨S8192x4x3, .f32⟩

abbrev hbmTy0_1 (i : Nat) : BufTy := match i % 128 with
  | 0 => ⟨S393216, .i1⟩
  | 1 => ⟨S_, .i32⟩
  | 2 => ⟨S393216, .i32⟩
  | 3 => ⟨S393216, .i32⟩
  | 4 => ⟨S393216, .i32⟩
  | 5 => ⟨S393216x1, .i32⟩
  | 6 => ⟨S393216x16, .f32⟩
  | 7 => ⟨S8192x48x16, .f32⟩
  | 8 => ⟨S16, .f32⟩
  | 9 => ⟨S1x16, .f32⟩
  | 10 => ⟨S8x16, .f32⟩
  | 11 => ⟨S8192x48x201, .f32⟩
  | 12 => ⟨S1x16, .f32⟩
  | 13 => ⟨S8191x16, .f32⟩
  | 14 => ⟨S8192x16, .f32⟩
  | 15 => ⟨S8191x16, .f32⟩
  | 16 => ⟨S1x16, .f32⟩
  | 17 => ⟨S8192x16, .f32⟩
  | 18 => ⟨S1x8, .f32⟩
  | 19 => ⟨S8x8, .f32⟩
  | 20 => ⟨S_, .i32⟩
  | 21 => ⟨S_, .f32⟩
  | 22 => ⟨S8x16, .f32⟩
  | 23 => ⟨S8192x100, .f32⟩
  | _ => ⟨S8192x4x3, .f32⟩

abbrev hbmTy (i : Nat) : BufTy := match i / 128 with
  | 0 => hbmTy0_0 i
  | 1 => hbmTy0_1 i
  | _ => ⟨S8192x4x3, .f32⟩

abbrev bufTy : (tb : Table) → Fin (tcTables nBuf tb) → BufTy
  | .hbm, ⟨i, _⟩ => hbmTy i
  | .local _ .vmem, ⟨0, _⟩ => ⟨S256x8, .f32⟩
  | .local _ .vmem, ⟨1, _⟩ => ⟨S256x8, .f32⟩
  | .local _ .vmem, ⟨2, _⟩ => ⟨S8192x8, .f32⟩
  | .local _ .vmem, ⟨3, _⟩ => ⟨S256x8192, .f32⟩
  | .local _ .vmem, ⟨4, _⟩ => ⟨S256x8192, .f32⟩
  | .local _ .vmem, ⟨5, _⟩ => ⟨S64x8192, .f32⟩
  | .local _ .vmem, ⟨6, _⟩ => ⟨S64x8192, .f32⟩
  | .local _ .vmem, ⟨7, _⟩ => ⟨S64x512, .f32⟩
  | .local _ .vmem, ⟨8, _⟩ => ⟨S64x512, .f32⟩
  | .local _ .vmem, ⟨9, _⟩ => ⟨S32x16, .f32⟩
  | .local _ .vmem, ⟨10, _⟩ => ⟨S32x16, .f32⟩
  | .local _ .vmem, ⟨11, _⟩ => ⟨S32x48x16, .f32⟩
  | .local _ .vmem, ⟨12, _⟩ => ⟨S32x48x16, .f32⟩
  | .local _ .vmem, ⟨13, _⟩ => ⟨S32x48, .i32⟩
  | .local _ .vmem, ⟨14, _⟩ => ⟨S32x48, .i32⟩
  | .local _ .vmem, ⟨15, _⟩ => ⟨S8x16, .f32⟩
  | .local _ .vmem, ⟨16, _⟩ => ⟨S32x48x201, .f32⟩
  | .local _ .vmem, ⟨17, _⟩ => ⟨S32x48x201, .f32⟩
  | .local _ .vmem, ⟨18, _⟩ => ⟨S256x16, .f32⟩
  | .local _ .vmem, ⟨19, _⟩ => ⟨S256x16, .f32⟩
  | .local _ .vmem, ⟨20, _⟩ => ⟨S256x16, .f32⟩
  | .local _ .vmem, ⟨21, _⟩ => ⟨S256x16, .f32⟩
  | .local _ .vmem, ⟨22, _⟩ => ⟨S256x16, .f32⟩
  | .local _ .vmem, ⟨23, _⟩ => ⟨S256x16, .f32⟩
  | .local _ .vmem, ⟨24, _⟩ => ⟨S8x8, .f32⟩
  | .local _ .vmem, ⟨25, _⟩ => ⟨S8x16, .f32⟩
  | .local _ .vmem, ⟨26, _⟩ => ⟨S256x100, .f32⟩
  | .local _ .vmem, ⟨27, _⟩ => ⟨S256x100, .f32⟩
  | _, _ => ⟨S8192x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c : Ref sig .tc := ⟨.hbm, 59, rfl⟩
abbrev main_call1_v0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_values : Ref sig .tc := ⟨.hbm, 65, rfl⟩
abbrev main_indices : Ref sig .tc := ⟨.hbm, 66, rfl⟩
abbrev main_v29 : Ref sig .tc := ⟨.hbm, 67, rfl⟩
abbrev main_v30 : Ref sig .tc := ⟨.hbm, 68, rfl⟩
abbrev main_c_3 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_cst : Ref sig .tc := ⟨.hbm, 97, rfl⟩
abbrev main_call3_v14 : Ref sig .tc := ⟨.hbm, 98, rfl⟩
abbrev main_v39 : Ref sig .tc := ⟨.hbm, 99, rfl⟩
abbrev main_v40 : Ref sig .tc := ⟨.hbm, 100, rfl⟩
abbrev main_values_4 : Ref sig .tc := ⟨.hbm, 101, rfl⟩
abbrev main_indices_5 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_c_4 : Ref sig .tc := ⟨.hbm, 122, rfl⟩
abbrev main_call4_v14 : Ref sig .tc := ⟨.hbm, 123, rfl⟩
abbrev main_v41 : Ref sig .tc := ⟨.hbm, 124, rfl⟩
abbrev main_v42 : Ref sig .tc := ⟨.hbm, 125, rfl⟩
abbrev main_c_6 : Ref sig .tc := ⟨.hbm, 126, rfl⟩
abbrev main_v43 : Ref sig .tc := ⟨.hbm, 127, rfl⟩
abbrev main_v44 : Ref sig .tc := ⟨.hbm, 128, rfl⟩
abbrev main_c_7 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_call5_v0 : Ref sig .tc := ⟨.hbm, 140, rfl⟩
abbrev main_call5_v1 : Ref sig .tc := ⟨.hbm, 141, rfl⟩
abbrev main_v55 : Ref sig .tc := ⟨.hbm, 142, rfl⟩
abbrev main_call6_v0 : Ref sig .tc := ⟨.hbm, 143, rfl⟩
abbrev main_call6_v1 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_c_8 : Ref sig .tc := ⟨.hbm, 148, rfl⟩
abbrev main_call7_v0 : Ref sig .tc := ⟨.hbm, 149, rfl⟩
abbrev main_v59 : Ref sig .tc := ⟨.hbm, 150, rfl⟩
abbrev main_v60 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x48x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x48 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S32x48x201 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S8x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x100 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "half_pi" => some (((1 / 2) * Real.pi : ℝ) : EReal)
  | _ => none
-- ==== ReferenceIdeal.lean ====
abbrev S8192x4x3 : Shape := ⟨3, ![8192, 4, 3]⟩
abbrev S8 : Shape := ⟨1, ![8]⟩
abbrev S3x16 : Shape := ⟨2, ![3, 16]⟩
abbrev S8192 : Shape := ⟨1, ![8192]⟩
abbrev S8192x1x3 : Shape := ⟨3, ![8192, 1, 3]⟩
abbrev S8192x3 : Shape := ⟨2, ![8192, 3]⟩
abbrev S8192x1 : Shape := ⟨2, ![8192, 1]⟩
abbrev S_ : Shape := ⟨0, ![]⟩
abbrev S1x8192 : Shape := ⟨2, ![1, 8192]⟩
abbrev S8192x8192 : Shape := ⟨2, ![8192, 8192]⟩
abbrev S3x8192 : Shape := ⟨2, ![3, 8192]⟩
abbrev S8192x48 : Shape := ⟨2, ![8192, 48]⟩
abbrev S8192x48x1 : Shape := ⟨3, ![8192, 48, 1]⟩
abbrev S8192x48x3 : Shape := ⟨3, ![8192, 48, 3]⟩
abbrev S1x1x8 : Shape := ⟨3, ![1, 1, 8]⟩
abbrev S8192x48x8 : Shape := ⟨3, ![8192, 48, 8]⟩
abbrev S8192x48x16 : Shape := ⟨3, ![8192, 48, 16]⟩
abbrev S8192x48x19 : Shape := ⟨3, ![8192, 48, 19]⟩
abbrev S8192x48x152 : Shape := ⟨3, ![8192, 48, 152]⟩
abbrev S1x1x33 : Shape := ⟨3, ![1, 1, 33]⟩
abbrev S8192x48x33 : Shape := ⟨3, ![8192, 48, 33]⟩
abbrev S8192x48x201 : Shape := ⟨3, ![8192, 48, 201]⟩
abbrev S1x8 : Shape := ⟨2, ![1, 8]⟩
abbrev S8192x8 : Shape := ⟨2, ![8192, 8]⟩
abbrev S8192x16 : Shape := ⟨2, ![8192, 16]⟩
abbrev S8192x19 : Shape := ⟨2, ![8192, 19]⟩
abbrev S8192x76 : Shape := ⟨2, ![8192, 76]⟩
abbrev S1x3 : Shape := ⟨2, ![1, 3]⟩
abbrev S8191x3 : Shape := ⟨2, ![8191, 3]⟩
abbrev S8192x2 : Shape := ⟨2, ![8192, 2]⟩
abbrev S8192x100 : Shape := ⟨2, ![8192, 100]⟩

abbrev nBuf : Space → Nat
  | .hbm => 818
  | .vmem => 0
  | .smem => 0
  | _ => 0

abbrev hbmTy0_0 (i : Nat) : BufTy := match i % 128 with
  | 0 => ⟨S8192x4x3, .f32⟩
  | 1 => ⟨S8, .f32⟩
  | 2 => ⟨S3x16, .f32⟩
  | 3 => ⟨S8192, .i32⟩
  | 4 => ⟨S8192, .i32⟩
  | 5 => ⟨S8, .f32⟩
  | 6 => ⟨S8192x1x3, .f32⟩
  | 7 => ⟨S8192x3, .f32⟩
  | 8 => ⟨S8192x1x3, .f32⟩
  | 9 => ⟨S8192x3, .f32⟩
  | 10 => ⟨S8192x1x3, .f32⟩
  | 11 => ⟨S8192x3, .f32⟩
  | 12 => ⟨S8192x1x3, .f32⟩
  | 13 => ⟨S8192x3, .f32⟩
  | 14 => ⟨S8192x3, .f32⟩
  | 15 => ⟨S8192x3, .f32⟩
  | 16 => ⟨S8192x1, .f32⟩
  | 17 => ⟨S8192, .f32⟩
  | 18 => ⟨S8192x1, .f32⟩
  | 19 => ⟨S8192, .f32⟩
  | 20 => ⟨S8192x1, .f32⟩
  | 21 => ⟨S8192, .f32⟩
  | 22 => ⟨S8192x1, .f32⟩
  | 23 => ⟨S8192, .f32⟩
  | 24 => ⟨S8192x1, .f32⟩
  | 25 => ⟨S8192, .f32⟩
  | 26 => ⟨S8192x1, .f32⟩
  | 27 => ⟨S8192, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192x1, .f32⟩
  | 38 => ⟨S8192x1, .f32⟩
  | 39 => ⟨S8192x1, .f32⟩
  | 40 => ⟨S8192x3, .f32⟩
  | 41 => ⟨S_, .f32⟩
  | 42 => ⟨S8192x3, .f32⟩
  | 43 => ⟨S8192x3, .f32⟩
  | 44 => ⟨S_, .f32⟩
  | 45 => ⟨S8192x3, .f32⟩
  | 46 => ⟨S8192x3, .f32⟩
  | 47 => ⟨S8192x3, .f32⟩
  | 48 => ⟨S_, .f32⟩
  | 49 => ⟨S8192x3, .f32⟩
  | 50 => ⟨S8192x3, .f32⟩
  | 51 => ⟨S8192x3, .f32⟩
  | 52 => ⟨S8192x3, .f32⟩
  | 53 => ⟨S8192x3, .f32⟩
  | 54 => ⟨S_, .f32⟩
  | 55 => ⟨S8192, .f32⟩
  | 56 => ⟨S8192x1, .f32⟩
  | 57 => ⟨S1x8192, .f32⟩
  | 58 => ⟨S8192x8192, .f32⟩
  | 59 => ⟨S8192x8192, .f32⟩
  | 60 => ⟨S8192x8192, .f32⟩
  | 61 => ⟨S3x8192, .f32⟩
  | 62 => ⟨S8192x8192, .f32⟩
  | 63 => ⟨S_, .f32⟩
  | 64 => ⟨S8192x8192, .f32⟩
  | 65 => ⟨S8192x8192, .f32⟩
  | 66 => ⟨S8192x8192, .f32⟩
  | 67 => ⟨S8192x8192, .i32⟩
  | 68 => ⟨S8192x8192, .i32⟩
  | 69 => ⟨S_, .i32⟩
  | 70 => ⟨S8192x8192, .i32⟩
  | 71 => ⟨S8192x8192, .i32⟩
  | 72 => ⟨S8192x8192, .i1⟩
  | 73 => ⟨S_, .f32⟩
  | 74 => ⟨S_, .f32⟩
  | 75 => ⟨S8192x8192, .f32⟩
  | 76 => ⟨S8192x8192, .f32⟩
  | 77 => ⟨S8192x8192, .f32⟩
  | 78 => ⟨S8192x48, .f32⟩
  | 79 => ⟨S8192x48, .i32⟩
  | 80 => ⟨S_, .i32⟩
  | 81 => ⟨S8192x48, .i32⟩
  | 82 => ⟨S8192x48, .i1⟩
  | 83 => ⟨S_, .i32⟩
  | 84 => ⟨S8192x48, .i32⟩
  | 85 => ⟨S8192x48, .i32⟩
  | 86 => ⟨S8192x48, .i32⟩
  | 87 => ⟨S8192x48x1, .i32⟩
  | 88 => ⟨S8192x48x3, .f32⟩
  | 89 => ⟨S_, .i32⟩
  | 90 => ⟨S8192x48, .i32⟩
  | 91 => ⟨S8192x48, .i1⟩
  | 92 => ⟨S_, .i32⟩
  | 93 => ⟨S8192x48, .i32⟩
  | 94 => ⟨S8192x48, .i32⟩
  | 95 => ⟨S8192x48, .i32⟩
  | 96 => ⟨S8192x48x1, .i32⟩
  | 97 => ⟨S8192x48x3, .f32⟩
  | 98 => ⟨S_, .i32⟩
  | 99 => ⟨S8192x48, .i32⟩
  | 100 => ⟨S8192x48, .i1⟩
  | 101 => ⟨S_, .i32⟩
  | 102 => ⟨S8192x48, .i32⟩
  | 103 => ⟨S8192x48, .i32⟩
  | 104 => ⟨S8192x48, .i32⟩
  | 105 => ⟨S8192x48x1, .i32⟩
  | 106 => ⟨S8192x48x3, .f32⟩
  | 107 => ⟨S_, .i32⟩
  | 108 => ⟨S8192x48, .i32⟩
  | 109 => ⟨S8192x48, .i1⟩
  | 110 => ⟨S_, .i32⟩
  | 111 => ⟨S8192x48, .i32⟩
  | 112 => ⟨S8192x48, .i32⟩
  | 113 => ⟨S8192x48, .i32⟩
  | 114 => ⟨S8192x48x1, .i32⟩
  | 115 => ⟨S8192x48x3, .f32⟩
  | 116 => ⟨S_, .i32⟩
  | 117 => ⟨S8192x48, .i32⟩
  | 118 => ⟨S8192x48, .i1⟩
  | 119 => ⟨S_, .i32⟩
  | 120 => ⟨S8192x48, .i32⟩
  | 121 => ⟨S8192x48, .i32⟩
  | 122 => ⟨S8192x48, .i32⟩
  | 123 => ⟨S8192x48x1, .i32⟩
  | 124 => ⟨S8192x48x3, .f32⟩
  | 125 => ⟨S8192x1x3, .f32⟩
  | 126 => ⟨S8192x48x3, .f32⟩
  | 127 => ⟨S8192x48x3, .f32⟩
  | _ => ⟨S8192x4x3, .f32⟩

abbrev hbmTy0_1 (i : Nat) : BufTy := match i % 128 with
  | 0 => ⟨S8192x1x3, .f32⟩
  | 1 => ⟨S8192x48x3, .f32⟩
  | 2 => ⟨S8192x48x3, .f32⟩
  | 3 => ⟨S8192x1x3, .f32⟩
  | 4 => ⟨S8192x48x3, .f32⟩
  | 5 => ⟨S8192x48x3, .f32⟩
  | 6 => ⟨S8192x1x3, .f32⟩
  | 7 => ⟨S8192x48x3, .f32⟩
  | 8 => ⟨S8192x48x3, .f32⟩
  | 9 => ⟨S8192x1x3, .f32⟩
  | 10 => ⟨S8192x48x3, .f32⟩
  | 11 => ⟨S8192x48x3, .f32⟩
  | 12 => ⟨S8192x1x3, .f32⟩
  | 13 => ⟨S8192x48x3, .f32⟩
  | 14 => ⟨S8192x48x3, .f32⟩
  | 15 => ⟨S8192x1x3, .f32⟩
  | 16 => ⟨S8192x48x3, .f32⟩
  | 17 => ⟨S8192x48x3, .f32⟩
  | 18 => ⟨S8192x1x3, .f32⟩
  | 19 => ⟨S8192x48x3, .f32⟩
  | 20 => ⟨S8192x48x3, .f32⟩
  | 21 => ⟨S8192x48x3, .f32⟩
  | 22 => ⟨S_, .f32⟩
  | 23 => ⟨S8192x48, .f32⟩
  | 24 => ⟨S8192x48x1, .f32⟩
  | 25 => ⟨S8192x48x1, .f32⟩
  | 26 => ⟨S_, .f32⟩
  | 27 => ⟨S8192x48x1, .f32⟩
  | 28 => ⟨S8192x48x1, .f32⟩
  | 29 => ⟨S8192x48x3, .f32⟩
  | 30 => ⟨S8192x48x3, .f32⟩
  | 31 => ⟨S8192x48, .f32⟩
  | 32 => ⟨S8192x48x1, .f32⟩
  | 33 => ⟨S1x1x8, .f32⟩
  | 34 => ⟨S8192x48x8, .f32⟩
  | 35 => ⟨S8192x48x8, .f32⟩
  | 36 => ⟨S8192x48x8, .f32⟩
  | 37 => ⟨S_, .f32⟩
  | 38 => ⟨S8192x48x8, .f32⟩
  | 39 => ⟨S8192x48x8, .f32⟩
  | 40 => ⟨S_, .f32⟩
  | 41 => ⟨S8192x48x8, .f32⟩
  | 42 => ⟨S8192x48x8, .f32⟩
  | 43 => ⟨S8192x48x8, .f32⟩
  | 44 => ⟨S8192x48x8, .f32⟩
  | 45 => ⟨S8192x48x16, .f32⟩
  | 46 => ⟨S8192x48x19, .f32⟩
  | 47 => ⟨S8192x48x3, .f32⟩
  | 48 => ⟨S_, .f32⟩
  | 49 => ⟨S8192x48, .f32⟩
  | 50 => ⟨S8192x48x1, .f32⟩
  | 51 => ⟨S8192x48x1, .f32⟩
  | 52 => ⟨S_, .f32⟩
  | 53 => ⟨S8192x48x1, .f32⟩
  | 54 => ⟨S8192x48x1, .f32⟩
  | 55 => ⟨S8192x48x3, .f32⟩
  | 56 => ⟨S8192x48x3, .f32⟩
  | 57 => ⟨S8192x48, .f32⟩
  | 58 => ⟨S8192x48x1, .f32⟩
  | 59 => ⟨S1x1x8, .f32⟩
  | 60 => ⟨S8192x48x8, .f32⟩
  | 61 => ⟨S8192x48x8, .f32⟩
  | 62 => ⟨S8192x48x8, .f32⟩
  | 63 => ⟨S_, .f32⟩
  | 64 => ⟨S8192x48x8, .f32⟩
  | 65 => ⟨S8192x48x8, .f32⟩
  | 66 => ⟨S_, .f32⟩
  | 67 => ⟨S8192x48x8, .f32⟩
  | 68 => ⟨S8192x48x8, .f32⟩
  | 69 => ⟨S8192x48x8, .f32⟩
  | 70 => ⟨S8192x48x8, .f32⟩
  | 71 => ⟨S8192x48x16, .f32⟩
  | 72 => ⟨S8192x48x19, .f32⟩
  | 73 => ⟨S8192x48x3, .f32⟩
  | 74 => ⟨S_, .f32⟩
  | 75 => ⟨S8192x48, .f32⟩
  | 76 => ⟨S8192x48x1, .f32⟩
  | 77 => ⟨S8192x48x1, .f32⟩
  | 78 => ⟨S_, .f32⟩
  | 79 => ⟨S8192x48x1, .f32⟩
  | 80 => ⟨S8192x48x1, .f32⟩
  | 81 => ⟨S8192x48x3, .f32⟩
  | 82 => ⟨S8192x48x3, .f32⟩
  | 83 => ⟨S8192x48, .f32⟩
  | 84 => ⟨S8192x48x1, .f32⟩
  | 85 => ⟨S1x1x8, .f32⟩
  | 86 => ⟨S8192x48x8, .f32⟩
  | 87 => ⟨S8192x48x8, .f32⟩
  | 88 => ⟨S8192x48x8, .f32⟩
  | 89 => ⟨S_, .f32⟩
  | 90 => ⟨S8192x48x8, .f32⟩
  | 91 => ⟨S8192x48x8, .f32⟩
  | 92 => ⟨S_, .f32⟩
  | 93 => ⟨S8192x48x8, .f32⟩
  | 94 => ⟨S8192x48x8, .f32⟩
  | 95 => ⟨S8192x48x8, .f32⟩
  | 96 => ⟨S8192x48x8, .f32⟩
  | 97 => ⟨S8192x48x16, .f32⟩
  | 98 => ⟨S8192x48x19, .f32⟩
  | 99 => ⟨S8192x48x3, .f32⟩
  | 100 => ⟨S_, .f32⟩
  | 101 => ⟨S8192x48, .f32⟩
  | 102 => ⟨S8192x48x1, .f32⟩
  | 103 => ⟨S8192x48x1, .f32⟩
  | 104 => ⟨S_, .f32⟩
  | 105 => ⟨S8192x48x1, .f32⟩
  | 106 => ⟨S8192x48x1, .f32⟩
  | 107 => ⟨S8192x48x3, .f32⟩
  | 108 => ⟨S8192x48x3, .f32⟩
  | 109 => ⟨S8192x48, .f32⟩
  | 110 => ⟨S8192x48x1, .f32⟩
  | 111 => ⟨S1x1x8, .f32⟩
  | 112 => ⟨S8192x48x8, .f32⟩
  | 113 => ⟨S8192x48x8, .f32⟩
  | 114 => ⟨S8192x48x8, .f32⟩
  | 115 => ⟨S_, .f32⟩
  | 116 => ⟨S8192x48x8, .f32⟩
  | 117 => ⟨S8192x48x8, .f32⟩
  | 118 => ⟨S_, .f32⟩
  | 119 => ⟨S8192x48x8, .f32⟩
  | 120 => ⟨S8192x48x8, .f32⟩
  | 121 => ⟨S8192x48x8, .f32⟩
  | 122 => ⟨S8192x48x8, .f32⟩
  | 123 => ⟨S8192x48x16, .f32⟩
  | 124 => ⟨S8192x48x19, .f32⟩
  | 125 => ⟨S8192x48x3, .f32⟩
  | 126 => ⟨S_, .f32⟩
  | 127 => ⟨S8192x48, .f32⟩
  | _ => ⟨S8192x4x3, .f32⟩

abbrev hbmTy0_2 (i : Nat) : BufTy := match i % 128 with
  | 0 => ⟨S8192x48x1, .f32⟩
  | 1 => ⟨S8192x48x1, .f32⟩
  | 2 => ⟨S_, .f32⟩
  | 3 => ⟨S8192x48x1, .f32⟩
  | 4 => ⟨S8192x48x1, .f32⟩
  | 5 => ⟨S8192x48x3, .f32⟩
  | 6 => ⟨S8192x48x3, .f32⟩
  | 7 => ⟨S8192x48, .f32⟩
  | 8 => ⟨S8192x48x1, .f32⟩
  | 9 => ⟨S1x1x8, .f32⟩
  | 10 => ⟨S8192x48x8, .f32⟩
  | 11 => ⟨S8192x48x8, .f32⟩
  | 12 => ⟨S8192x48x8, .f32⟩
  | 13 => ⟨S_, .f32⟩
  | 14 => ⟨S8192x48x8, .f32⟩
  | 15 => ⟨S8192x48x8, .f32⟩
  | 16 => ⟨S_, .f32⟩
  | 17 => ⟨S8192x48x8, .f32⟩
  | 18 => ⟨S8192x48x8, .f32⟩
  | 19 => ⟨S8192x48x8, .f32⟩
  | 20 => ⟨S8192x48x8, .f32⟩
  | 21 => ⟨S8192x48x16, .f32⟩
  | 22 => ⟨S8192x48x19, .f32⟩
  | 23 => ⟨S8192x48x3, .f32⟩
  | 24 => ⟨S_, .f32⟩
  | 25 => ⟨S8192x48, .f32⟩
  | 26 => ⟨S8192x48x1, .f32⟩
  | 27 => ⟨S8192x48x1, .f32⟩
  | 28 => ⟨S_, .f32⟩
  | 29 => ⟨S8192x48x1, .f32⟩
  | 30 => ⟨S8192x48x1, .f32⟩
  | 31 => ⟨S8192x48x3, .f32⟩
  | 32 => ⟨S8192x48x3, .f32⟩
  | 33 => ⟨S8192x48, .f32⟩
  | 34 => ⟨S8192x48x1, .f32⟩
  | 35 => ⟨S1x1x8, .f32⟩
  | 36 => ⟨S8192x48x8, .f32⟩
  | 37 => ⟨S8192x48x8, .f32⟩
  | 38 => ⟨S8192x48x8, .f32⟩
  | 39 => ⟨S_, .f32⟩
  | 40 => ⟨S8192x48x8, .f32⟩
  | 41 => ⟨S8192x48x8, .f32⟩
  | 42 => ⟨S_, .f32⟩
  | 43 => ⟨S8192x48x8, .f32⟩
  | 44 => ⟨S8192x48x8, .f32⟩
  | 45 => ⟨S8192x48x8, .f32⟩
  | 46 => ⟨S8192x48x8, .f32⟩
  | 47 => ⟨S8192x48x16, .f32⟩
  | 48 => ⟨S8192x48x19, .f32⟩
  | 49 => ⟨S8192x48x3, .f32⟩
  | 50 => ⟨S_, .f32⟩
  | 51 => ⟨S8192x48, .f32⟩
  | 52 => ⟨S8192x48x1, .f32⟩
  | 53 => ⟨S8192x48x1, .f32⟩
  | 54 => ⟨S_, .f32⟩
  | 55 => ⟨S8192x48x1, .f32⟩
  | 56 => ⟨S8192x48x1, .f32⟩
  | 57 => ⟨S8192x48x3, .f32⟩
  | 58 => ⟨S8192x48x3, .f32⟩
  | 59 => ⟨S8192x48, .f32⟩
  | 60 => ⟨S8192x48x1, .f32⟩
  | 61 => ⟨S1x1x8, .f32⟩
  | 62 => ⟨S8192x48x8, .f32⟩
  | 63 => ⟨S8192x48x8, .f32⟩
  | 64 => ⟨S8192x48x8, .f32⟩
  | 65 => ⟨S_, .f32⟩
  | 66 => ⟨S8192x48x8, .f32⟩
  | 67 => ⟨S8192x48x8, .f32⟩
  | 68 => ⟨S_, .f32⟩
  | 69 => ⟨S8192x48x8, .f32⟩
  | 70 => ⟨S8192x48x8, .f32⟩
  | 71 => ⟨S8192x48x8, .f32⟩
  | 72 => ⟨S8192x48x8, .f32⟩
  | 73 => ⟨S8192x48x16, .f32⟩
  | 74 => ⟨S8192x48x19, .f32⟩
  | 75 => ⟨S8192x48x3, .f32⟩
  | 76 => ⟨S_, .f32⟩
  | 77 => ⟨S8192x48, .f32⟩
  | 78 => ⟨S8192x48x1, .f32⟩
  | 79 => ⟨S8192x48x1, .f32⟩
  | 80 => ⟨S_, .f32⟩
  | 81 => ⟨S8192x48x1, .f32⟩
  | 82 => ⟨S8192x48x1, .f32⟩
  | 83 => ⟨S8192x48x3, .f32⟩
  | 84 => ⟨S8192x48x3, .f32⟩
  | 85 => ⟨S8192x48, .f32⟩
  | 86 => ⟨S8192x48x1, .f32⟩
  | 87 => ⟨S1x1x8, .f32⟩
  | 88 => ⟨S8192x48x8, .f32⟩
  | 89 => ⟨S8192x48x8, .f32⟩
  | 90 => ⟨S8192x48x8, .f32⟩
  | 91 => ⟨S_, .f32⟩
  | 92 => ⟨S8192x48x8, .f32⟩
  | 93 => ⟨S8192x48x8, .f32⟩
  | 94 => ⟨S_, .f32⟩
  | 95 => ⟨S8192x48x8, .f32⟩
  | 96 => ⟨S8192x48x8, .f32⟩
  | 97 => ⟨S8192x48x8, .f32⟩
  | 98 => ⟨S8192x48x8, .f32⟩
  | 99 => ⟨S8192x48x16, .f32⟩
  | 100 => ⟨S8192x48x19, .f32⟩
  | 101 => ⟨S8192x48x152, .f32⟩
  | 102 => ⟨S8192x1, .i32⟩
  | 103 => ⟨S_, .i32⟩
  | 104 => ⟨S8192x48, .i32⟩
  | 105 => ⟨S8192x48, .i1⟩
  | 106 => ⟨S_, .i32⟩
  | 107 => ⟨S8192x48, .i32⟩
  | 108 => ⟨S8192x48, .i32⟩
  | 109 => ⟨S8192x48, .i32⟩
  | 110 => ⟨S8192x48x1, .i32⟩
  | 111 => ⟨S8192x48, .i32⟩
  | 112 => ⟨S8192x48, .i32⟩
  | 113 => ⟨S8192x48, .i32⟩
  | 114 => ⟨S8192x1, .i32⟩
  | 115 => ⟨S_, .i32⟩
  | 116 => ⟨S8192x48, .i32⟩
  | 117 => ⟨S8192x48, .i1⟩
  | 118 => ⟨S_, .i32⟩
  | 119 => ⟨S8192x48, .i32⟩
  | 120 => ⟨S8192x48, .i32⟩
  | 121 => ⟨S8192x48, .i32⟩
  | 122 => ⟨S8192x48x1, .i32⟩
  | 123 => ⟨S8192x48, .i32⟩
  | 124 => ⟨S8192x48, .i32⟩
  | 125 => ⟨S8192x48, .i1⟩
  | 126 => ⟨S_, .i32⟩
  | 127 => ⟨S_, .i32⟩
  | _ => ⟨S8192x4x3, .f32⟩

abbrev hbmTy0_3 (i : Nat) : BufTy := match i % 128 with
  | 0 => ⟨S_, .i32⟩
  | 1 => ⟨S8192x48, .i32⟩
  | 2 => ⟨S8192x48, .i32⟩
  | 3 => ⟨S_, .i32⟩
  | 4 => ⟨S8192x48, .i32⟩
  | 5 => ⟨S8192x48, .i32⟩
  | 6 => ⟨S_, .i32⟩
  | 7 => ⟨S8192x48, .i32⟩
  | 8 => ⟨S8192x48, .i32⟩
  | 9 => ⟨S_, .i32⟩
  | 10 => ⟨S_, .i32⟩
  | 11 => ⟨S8192x48, .i32⟩
  | 12 => ⟨S8192x48, .i32⟩
  | 13 => ⟨S8192x48x1, .i32⟩
  | 14 => ⟨S1x1x33, .i32⟩
  | 15 => ⟨S8192x48x33, .i32⟩
  | 16 => ⟨S8192x48x33, .i32⟩
  | 17 => ⟨S8192x48x33, .i1⟩
  | 18 => ⟨S8192x48x33, .f32⟩
  | 19 => ⟨S8192x48, .f32⟩
  | 20 => ⟨S8192x48x1, .f32⟩
  | 21 => ⟨S1x1x8, .f32⟩
  | 22 => ⟨S8192x48x8, .f32⟩
  | 23 => ⟨S8192x48x8, .f32⟩
  | 24 => ⟨S8192x48x8, .f32⟩
  | 25 => ⟨S8192x48x8, .f32⟩
  | 26 => ⟨S8192x48x8, .f32⟩
  | 27 => ⟨S8192x48x16, .f32⟩
  | 28 => ⟨S8192x48x201, .f32⟩
  | 29 => ⟨S8192x3, .f32⟩
  | 30 => ⟨S8192x3, .f32⟩
  | 31 => ⟨S_, .f32⟩
  | 32 => ⟨S8192, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x3, .f32⟩
  | 39 => ⟨S8192x3, .f32⟩
  | 40 => ⟨S8192, .f32⟩
  | 41 => ⟨S8192x1, .f32⟩
  | 42 => ⟨S1x8, .f32⟩
  | 43 => ⟨S8192x8, .f32⟩
  | 44 => ⟨S8192x8, .f32⟩
  | 45 => ⟨S8192x8, .f32⟩
  | 46 => ⟨S_, .f32⟩
  | 47 => ⟨S8192x8, .f32⟩
  | 48 => ⟨S8192x8, .f32⟩
  | 49 => ⟨S_, .f32⟩
  | 50 => ⟨S8192x8, .f32⟩
  | 51 => ⟨S8192x8, .f32⟩
  | 52 => ⟨S8192x8, .f32⟩
  | 53 => ⟨S8192x8, .f32⟩
  | 54 => ⟨S8192x16, .f32⟩
  | 55 => ⟨S8192x19, .f32⟩
  | 56 => ⟨S8192x3, .f32⟩
  | 57 => ⟨S8192x3, .f32⟩
  | 58 => ⟨S_, .f32⟩
  | 59 => ⟨S8192, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x3, .f32⟩
  | 66 => ⟨S8192x3, .f32⟩
  | 67 => ⟨S8192, .f32⟩
  | 68 => ⟨S8192x1, .f32⟩
  | 69 => ⟨S1x8, .f32⟩
  | 70 => ⟨S8192x8, .f32⟩
  | 71 => ⟨S8192x8, .f32⟩
  | 72 => ⟨S8192x8, .f32⟩
  | 73 => ⟨S_, .f32⟩
  | 74 => ⟨S8192x8, .f32⟩
  | 75 => ⟨S8192x8, .f32⟩
  | 76 => ⟨S_, .f32⟩
  | 77 => ⟨S8192x8, .f32⟩
  | 78 => ⟨S8192x8, .f32⟩
  | 79 => ⟨S8192x8, .f32⟩
  | 80 => ⟨S8192x8, .f32⟩
  | 81 => ⟨S8192x16, .f32⟩
  | 82 => ⟨S8192x19, .f32⟩
  | 83 => ⟨S8192x3, .f32⟩
  | 84 => ⟨S8192x3, .f32⟩
  | 85 => ⟨S_, .f32⟩
  | 86 => ⟨S8192, .f32⟩
  | 87 => ⟨S8192x1, .f32⟩
  | 88 => ⟨S8192x1, .f32⟩
  | 89 => ⟨S_, .f32⟩
  | 90 => ⟨S8192x1, .f32⟩
  | 91 => ⟨S8192x1, .f32⟩
  | 92 => ⟨S8192x3, .f32⟩
  | 93 => ⟨S8192x3, .f32⟩
  | 94 => ⟨S8192, .f32⟩
  | 95 => ⟨S8192x1, .f32⟩
  | 96 => ⟨S1x8, .f32⟩
  | 97 => ⟨S8192x8, .f32⟩
  | 98 => ⟨S8192x8, .f32⟩
  | 99 => ⟨S8192x8, .f32⟩
  | 100 => ⟨S_, .f32⟩
  | 101 => ⟨S8192x8, .f32⟩
  | 102 => ⟨S8192x8, .f32⟩
  | 103 => ⟨S_, .f32⟩
  | 104 => ⟨S8192x8, .f32⟩
  | 105 => ⟨S8192x8, .f32⟩
  | 106 => ⟨S8192x8, .f32⟩
  | 107 => ⟨S8192x8, .f32⟩
  | 108 => ⟨S8192x16, .f32⟩
  | 109 => ⟨S8192x19, .f32⟩
  | 110 => ⟨S8192x3, .f32⟩
  | 111 => ⟨S8192x3, .f32⟩
  | 112 => ⟨S_, .f32⟩
  | 113 => ⟨S8192, .f32⟩
  | 114 => ⟨S8192x1, .f32⟩
  | 115 => ⟨S8192x1, .f32⟩
  | 116 => ⟨S_, .f32⟩
  | 117 => ⟨S8192x1, .f32⟩
  | 118 => ⟨S8192x1, .f32⟩
  | 119 => ⟨S8192x3, .f32⟩
  | 120 => ⟨S8192x3, .f32⟩
  | 121 => ⟨S8192, .f32⟩
  | 122 => ⟨S8192x1, .f32⟩
  | 123 => ⟨S1x8, .f32⟩
  | 124 => ⟨S8192x8, .f32⟩
  | 125 => ⟨S8192x8, .f32⟩
  | 126 => ⟨S8192x8, .f32⟩
  | 127 => ⟨S_, .f32⟩
  | _ => ⟨S8192x4x3, .f32⟩

abbrev hbmTy0_4 (i : Nat) : BufTy := match i % 128 with
  | 0 => ⟨S8192x8, .f32⟩
  | 1 => ⟨S8192x8, .f32⟩
  | 2 => ⟨S_, .f32⟩
  | 3 => ⟨S8192x8, .f32⟩
  | 4 => ⟨S8192x8, .f32⟩
  | 5 => ⟨S8192x8, .f32⟩
  | 6 => ⟨S8192x8, .f32⟩
  | 7 => ⟨S8192x16, .f32⟩
  | 8 => ⟨S8192x19, .f32⟩
  | 9 => ⟨S8192x76, .f32⟩
  | 10 => ⟨S1x3, .f32⟩
  | 11 => ⟨S8191x3, .f32⟩
  | 12 => ⟨S8192x3, .f32⟩
  | 13 => ⟨S8191x3, .f32⟩
  | 14 => ⟨S1x3, .f32⟩
  | 15 => ⟨S8192x3, .f32⟩
  | 16 => ⟨S8191x3, .f32⟩
  | 17 => ⟨S1x3, .f32⟩
  | 18 => ⟨S8192x3, .f32⟩
  | 19 => ⟨S8192x3, .f32⟩
  | 20 => ⟨S_, .f32⟩
  | 21 => ⟨S8192x3, .f32⟩
  | 22 => ⟨S8192x3, .f32⟩
  | 23 => ⟨S8192x3, .f32⟩
  | 24 => ⟨S8192x3, .f32⟩
  | 25 => ⟨S8192x3, .f32⟩
  | 26 => ⟨S_, .f32⟩
  | 27 => ⟨S8192, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x3, .f32⟩
  | 34 => ⟨S8192x3, .f32⟩
  | 35 => ⟨S8192x3, .f32⟩
  | 36 => ⟨S_, .f32⟩
  | 37 => ⟨S8192, .f32⟩
  | 38 => ⟨S8192x1, .f32⟩
  | 39 => ⟨S8192x3, .f32⟩
  | 40 => ⟨S8192x3, .f32⟩
  | 41 => ⟨S8192x3, .f32⟩
  | 42 => ⟨S8192x3, .f32⟩
  | 43 => ⟨S_, .f32⟩
  | 44 => ⟨S8192, .f32⟩
  | 45 => ⟨S8192x1, .f32⟩
  | 46 => ⟨S8192x3, .f32⟩
  | 47 => ⟨S8192x3, .f32⟩
  | 48 => ⟨S8192x3, .f32⟩
  | 49 => ⟨S8192x3, .f32⟩
  | 50 => ⟨S_, .f32⟩
  | 51 => ⟨S8192, .f32⟩
  | 52 => ⟨S8192x1, .f32⟩
  | 53 => ⟨S8192, .f32⟩
  | 54 => ⟨S8192x1, .f32⟩
  | 55 => ⟨S8192, .f32⟩
  | 56 => ⟨S8192x1, .f32⟩
  | 57 => ⟨S8192, .f32⟩
  | 58 => ⟨S8192x1, .f32⟩
  | 59 => ⟨S8192, .f32⟩
  | 60 => ⟨S8192x1, .f32⟩
  | 61 => ⟨S8192, .f32⟩
  | 62 => ⟨S8192x1, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192x1, .f32⟩
  | 74 => ⟨S8192x1, .f32⟩
  | 75 => ⟨S8192x1, .f32⟩
  | 76 => ⟨S8192x3, .f32⟩
  | 77 => ⟨S8192x3, .f32⟩
  | 78 => ⟨S_, .f32⟩
  | 79 => ⟨S8192, .f32⟩
  | 80 => ⟨S8192, .f32⟩
  | 81 => ⟨S8192, .f32⟩
  | 82 => ⟨S8192, .f32⟩
  | 83 => ⟨S8192x1, .f32⟩
  | 84 => ⟨S8192x1, .f32⟩
  | 85 => ⟨S8192x2, .f32⟩
  | 86 => ⟨S8192x3, .f32⟩
  | 87 => ⟨S_, .f32⟩
  | 88 => ⟨S8192x3, .f32⟩
  | 89 => ⟨S8192x3, .f32⟩
  | 90 => ⟨S8192x3, .f32⟩
  | 91 => ⟨S8192x3, .f32⟩
  | 92 => ⟨S8192x3, .f32⟩
  | 93 => ⟨S_, .f32⟩
  | 94 => ⟨S8192, .f32⟩
  | 95 => ⟨S8192x1, .f32⟩
  | 96 => ⟨S8192x1, .f32⟩
  | 97 => ⟨S_, .f32⟩
  | 98 => ⟨S8192x1, .f32⟩
  | 99 => ⟨S8192x1, .f32⟩
  | 100 => ⟨S8192x3, .f32⟩
  | 101 => ⟨S8192x3, .f32⟩
  | 102 => ⟨S8192x3, .f32⟩
  | 103 => ⟨S_, .f32⟩
  | 104 => ⟨S8192, .f32⟩
  | 105 => ⟨S8192x1, .f32⟩
  | 106 => ⟨S8192x3, .f32⟩
  | 107 => ⟨S8192x3, .f32⟩
  | 108 => ⟨S8192x3, .f32⟩
  | 109 => ⟨S8192x3, .f32⟩
  | 110 => ⟨S_, .f32⟩
  | 111 => ⟨S8192, .f32⟩
  | 112 => ⟨S8192x1, .f32⟩
  | 113 => ⟨S8192x3, .f32⟩
  | 114 => ⟨S8192x3, .f32⟩
  | 115 => ⟨S8192x3, .f32⟩
  | 116 => ⟨S8192x3, .f32⟩
  | 117 => ⟨S_, .f32⟩
  | 118 => ⟨S8192, .f32⟩
  | 119 => ⟨S8192x1, .f32⟩
  | 120 => ⟨S8192, .f32⟩
  | 121 => ⟨S8192x1, .f32⟩
  | 122 => ⟨S8192, .f32⟩
  | 123 => ⟨S8192x1, .f32⟩
  | 124 => ⟨S8192, .f32⟩
  | 125 => ⟨S8192x1, .f32⟩
  | 126 => ⟨S8192, .f32⟩
  | 127 => ⟨S8192x1, .f32⟩
  | _ => ⟨S8192x4x3, .f32⟩

abbrev hbmTy0_5 (i : Nat) : BufTy := match i % 128 with
  | 0 => ⟨S8192, .f32⟩
  | 1 => ⟨S8192x1, .f32⟩
  | 2 => ⟨S8192, .f32⟩
  | 3 => ⟨S8192, .f32⟩
  | 4 => ⟨S8192, .f32⟩
  | 5 => ⟨S8192, .f32⟩
  | 6 => ⟨S8192, .f32⟩
  | 7 => ⟨S8192, .f32⟩
  | 8 => ⟨S8192, .f32⟩
  | 9 => ⟨S8192, .f32⟩
  | 10 => ⟨S8192, .f32⟩
  | 11 => ⟨S8192, .f32⟩
  | 12 => ⟨S8192x1, .f32⟩
  | 13 => ⟨S8192x1, .f32⟩
  | 14 => ⟨S8192x1, .f32⟩
  | 15 => ⟨S8192x3, .f32⟩
  | 16 => ⟨S8192x3, .f32⟩
  | 17 => ⟨S_, .f32⟩
  | 18 => ⟨S8192, .f32⟩
  | 19 => ⟨S8192, .f32⟩
  | 20 => ⟨S8192, .f32⟩
  | 21 => ⟨S8192, .f32⟩
  | 22 => ⟨S8192x1, .f32⟩
  | 23 => ⟨S8192x1, .f32⟩
  | 24 => ⟨S8192x2, .f32⟩
  | 25 => ⟨S8192x3, .f32⟩
  | 26 => ⟨S_, .f32⟩
  | 27 => ⟨S8192x3, .f32⟩
  | 28 => ⟨S8192x3, .f32⟩
  | 29 => ⟨S8192x3, .f32⟩
  | 30 => ⟨S8192x3, .f32⟩
  | 31 => ⟨S8192x3, .f32⟩
  | 32 => ⟨S_, .f32⟩
  | 33 => ⟨S8192, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x3, .f32⟩
  | 40 => ⟨S8192x3, .f32⟩
  | 41 => ⟨S8192x3, .f32⟩
  | 42 => ⟨S_, .f32⟩
  | 43 => ⟨S8192, .f32⟩
  | 44 => ⟨S8192x1, .f32⟩
  | 45 => ⟨S8192x3, .f32⟩
  | 46 => ⟨S8192x3, .f32⟩
  | 47 => ⟨S8192x3, .f32⟩
  | 48 => ⟨S8192x3, .f32⟩
  | 49 => ⟨S_, .f32⟩
  | 50 => ⟨S8192, .f32⟩
  | 51 => ⟨S8192x1, .f32⟩
  | 52 => ⟨S8192x3, .f32⟩
  | 53 => ⟨S8192x3, .f32⟩
  | 54 => ⟨S8192x3, .f32⟩
  | 55 => ⟨S8192x3, .f32⟩
  | 56 => ⟨S_, .f32⟩
  | 57 => ⟨S8192, .f32⟩
  | 58 => ⟨S8192x1, .f32⟩
  | 59 => ⟨S8192, .f32⟩
  | 60 => ⟨S8192x1, .f32⟩
  | 61 => ⟨S8192, .f32⟩
  | 62 => ⟨S8192x1, .f32⟩
  | 63 => ⟨S8192, .f32⟩
  | 64 => ⟨S8192x1, .f32⟩
  | 65 => ⟨S8192, .f32⟩
  | 66 => ⟨S8192x1, .f32⟩
  | 67 => ⟨S8192, .f32⟩
  | 68 => ⟨S8192x1, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192x1, .f32⟩
  | 80 => ⟨S8192x1, .f32⟩
  | 81 => ⟨S8192x1, .f32⟩
  | 82 => ⟨S8192x3, .f32⟩
  | 83 => ⟨S8192x3, .f32⟩
  | 84 => ⟨S_, .f32⟩
  | 85 => ⟨S8192, .f32⟩
  | 86 => ⟨S8192, .f32⟩
  | 87 => ⟨S8192, .f32⟩
  | 88 => ⟨S8192, .f32⟩
  | 89 => ⟨S8192x1, .f32⟩
  | 90 => ⟨S8192x1, .f32⟩
  | 91 => ⟨S8192x2, .f32⟩
  | 92 => ⟨S8192x3, .f32⟩
  | 93 => ⟨S_, .f32⟩
  | 94 => ⟨S8192x3, .f32⟩
  | 95 => ⟨S8192x3, .f32⟩
  | 96 => ⟨S8192x3, .f32⟩
  | 97 => ⟨S8192x3, .f32⟩
  | 98 => ⟨S8192x3, .f32⟩
  | 99 => ⟨S_, .f32⟩
  | 100 => ⟨S8192, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x3, .f32⟩
  | 107 => ⟨S8192x3, .f32⟩
  | 108 => ⟨S8192x3, .f32⟩
  | 109 => ⟨S_, .f32⟩
  | 110 => ⟨S8192, .f32⟩
  | 111 => ⟨S8192x1, .f32⟩
  | 112 => ⟨S8192x3, .f32⟩
  | 113 => ⟨S8192x3, .f32⟩
  | 114 => ⟨S8192x3, .f32⟩
  | 115 => ⟨S8192x3, .f32⟩
  | 116 => ⟨S_, .f32⟩
  | 117 => ⟨S8192, .f32⟩
  | 118 => ⟨S8192x1, .f32⟩
  | 119 => ⟨S8192x3, .f32⟩
  | 120 => ⟨S8192x3, .f32⟩
  | 121 => ⟨S8192x3, .f32⟩
  | 122 => ⟨S8192x3, .f32⟩
  | 123 => ⟨S_, .f32⟩
  | 124 => ⟨S8192, .f32⟩
  | 125 => ⟨S8192x1, .f32⟩
  | 126 => ⟨S8192, .f32⟩
  | 127 => ⟨S8192x1, .f32⟩
  | _ => ⟨S8192x4x3, .f32⟩

abbrev hbmTy0_6 (i : Nat) : BufTy := match i % 128 with
  | 0 => ⟨S8192, .f32⟩
  | 1 => ⟨S8192x1, .f32⟩
  | 2 => ⟨S8192, .f32⟩
  | 3 => ⟨S8192x1, .f32⟩
  | 4 => ⟨S8192, .f32⟩
  | 5 => ⟨S8192x1, .f32⟩
  | 6 => ⟨S8192, .f32⟩
  | 7 => ⟨S8192x1, .f32⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S8192, .f32⟩
  | 17 => ⟨S8192, .f32⟩
  | 18 => ⟨S8192x1, .f32⟩
  | 19 => ⟨S8192x1, .f32⟩
  | 20 => ⟨S8192x1, .f32⟩
  | 21 => ⟨S8192x3, .f32⟩
  | 22 => ⟨S8192x3, .f32⟩
  | 23 => ⟨S_, .f32⟩
  | 24 => ⟨S8192, .f32⟩
  | 25 => ⟨S8192, .f32⟩
  | 26 => ⟨S8192, .f32⟩
  | 27 => ⟨S8192, .f32⟩
  | 28 => ⟨S8192x1, .f32⟩
  | 29 => ⟨S8192x1, .f32⟩
  | 30 => ⟨S8192x2, .f32⟩
  | 31 => ⟨S8192x8, .f32⟩
  | 32 => ⟨S_, .i32⟩
  | 33 => ⟨S_, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192x16, .f32⟩
  | 49 => ⟨S8192x100, .f32⟩
  | _ => ⟨S8192x4x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x4x3, .f32⟩

abbrev bufTy : (tb : Table) → Fin (tcTables nBuf tb) → BufTy
  | .hbm, ⟨i, _⟩ => hbmTy i
  | _, _ => ⟨S8192x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_0 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_call0_v0 : Ref sig .tc := ⟨.hbm, 74, rfl⟩
abbrev main_call0_v1 : Ref sig .tc := ⟨.hbm, 75, rfl⟩
abbrev main_v61 : Ref sig .tc := ⟨.hbm, 76, rfl⟩
abbrev main_v62 : Ref sig .tc := ⟨.hbm, 77, rfl⟩
abbrev main_values : Ref sig .tc := ⟨.hbm, 78, rfl⟩
abbrev main_indices : Ref sig .tc := ⟨.hbm, 79, rfl⟩
abbrev main_c_6 : Ref sig .tc := ⟨.hbm, 80, rfl⟩
abbrev main_v63 : Ref sig .tc := ⟨.hbm, 81, rfl⟩
abbrev main_v64 : Ref sig .tc := ⟨.hbm, 82, rfl⟩
abbrev main_c_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_8 : Ref sig .tc := ⟨.hbm, 89, rfl⟩
abbrev main_v70 : Ref sig .tc := ⟨.hbm, 90, rfl⟩
abbrev main_v71 : Ref sig .tc := ⟨.hbm, 91, rfl⟩
abbrev main_c_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_10 : Ref sig .tc := ⟨.hbm, 98, rfl⟩
abbrev main_v77 : Ref sig .tc := ⟨.hbm, 99, rfl⟩
abbrev main_v78 : Ref sig .tc := ⟨.hbm, 100, rfl⟩
abbrev main_c_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_12 : Ref sig .tc := ⟨.hbm, 107, rfl⟩
abbrev main_v84 : Ref sig .tc := ⟨.hbm, 108, rfl⟩
abbrev main_v85 : Ref sig .tc := ⟨.hbm, 109, rfl⟩
abbrev main_c_13 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_14 : Ref sig .tc := ⟨.hbm, 116, rfl⟩
abbrev main_v91 : Ref sig .tc := ⟨.hbm, 117, rfl⟩
abbrev main_v92 : Ref sig .tc := ⟨.hbm, 118, rfl⟩
abbrev main_c_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_call1_v0 : Ref sig .tc := ⟨.hbm, 149, rfl⟩
abbrev main_call1_cst : Ref sig .tc := ⟨.hbm, 150, rfl⟩
abbrev main_call1_v1 : Ref sig .tc := ⟨.hbm, 151, rfl⟩
abbrev main_call1_v2 : Ref sig .tc := ⟨.hbm, 152, rfl⟩
abbrev main_v122 : Ref sig .tc := ⟨.hbm, 153, rfl⟩
abbrev main_cst_16 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_17 : Ref sig .tc := ⟨.hbm, 165, rfl⟩
abbrev main_v133 : Ref sig .tc := ⟨.hbm, 166, rfl⟩
abbrev main_v134 : Ref sig .tc := ⟨.hbm, 167, rfl⟩
abbrev main_cst_18 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_call2_v0 : Ref sig .tc := ⟨.hbm, 175, rfl⟩
abbrev main_call2_cst : Ref sig .tc := ⟨.hbm, 176, rfl⟩
abbrev main_call2_v1 : Ref sig .tc := ⟨.hbm, 177, rfl⟩
abbrev main_call2_v2 : Ref sig .tc := ⟨.hbm, 178, rfl⟩
abbrev main_v141 : Ref sig .tc := ⟨.hbm, 179, rfl⟩
abbrev main_cst_19 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_20 : Ref sig .tc := ⟨.hbm, 191, rfl⟩
abbrev main_v152 : Ref sig .tc := ⟨.hbm, 192, rfl⟩
abbrev main_v153 : Ref sig .tc := ⟨.hbm, 193, rfl⟩
abbrev main_cst_21 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_call3_v0 : Ref sig .tc := ⟨.hbm, 201, rfl⟩
abbrev main_call3_cst : Ref sig .tc := ⟨.hbm, 202, rfl⟩
abbrev main_call3_v1 : Ref sig .tc := ⟨.hbm, 203, rfl⟩
abbrev main_call3_v2 : Ref sig .tc := ⟨.hbm, 204, rfl⟩
abbrev main_v160 : Ref sig .tc := ⟨.hbm, 205, rfl⟩
abbrev main_cst_22 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_23 : Ref sig .tc := ⟨.hbm, 217, rfl⟩
abbrev main_v171 : Ref sig .tc := ⟨.hbm, 218, rfl⟩
abbrev main_v172 : Ref sig .tc := ⟨.hbm, 219, rfl⟩
abbrev main_cst_24 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_call4_v0 : Ref sig .tc := ⟨.hbm, 227, rfl⟩
abbrev main_call4_cst : Ref sig .tc := ⟨.hbm, 228, rfl⟩
abbrev main_call4_v1 : Ref sig .tc := ⟨.hbm, 229, rfl⟩
abbrev main_call4_v2 : Ref sig .tc := ⟨.hbm, 230, rfl⟩
abbrev main_v179 : Ref sig .tc := ⟨.hbm, 231, rfl⟩
abbrev main_cst_25 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_26 : Ref sig .tc := ⟨.hbm, 243, rfl⟩
abbrev main_v190 : Ref sig .tc := ⟨.hbm, 244, rfl⟩
abbrev main_v191 : Ref sig .tc := ⟨.hbm, 245, rfl⟩
abbrev main_cst_27 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_call5_v0 : Ref sig .tc := ⟨.hbm, 253, rfl⟩
abbrev main_call5_cst : Ref sig .tc := ⟨.hbm, 254, rfl⟩
abbrev main_call5_v1 : Ref sig .tc := ⟨.hbm, 255, rfl⟩
abbrev main_call5_v2 : Ref sig .tc := ⟨.hbm, 256, rfl⟩
abbrev main_v198 : Ref sig .tc := ⟨.hbm, 257, rfl⟩
abbrev main_cst_28 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_cst_29 : Ref sig .tc := ⟨.hbm, 269, rfl⟩
abbrev main_v209 : Ref sig .tc := ⟨.hbm, 270, rfl⟩
abbrev main_v210 : Ref sig .tc := ⟨.hbm, 271, rfl⟩
abbrev main_cst_30 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_call6_v0 : Ref sig .tc := ⟨.hbm, 279, rfl⟩
abbrev main_call6_cst : Ref sig .tc := ⟨.hbm, 280, rfl⟩
abbrev main_call6_v1 : Ref sig .tc := ⟨.hbm, 281, rfl⟩
abbrev main_call6_v2 : Ref sig .tc := ⟨.hbm, 282, rfl⟩
abbrev main_v217 : Ref sig .tc := ⟨.hbm, 283, rfl⟩
abbrev main_cst_31 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_32 : Ref sig .tc := ⟨.hbm, 295, rfl⟩
abbrev main_v228 : Ref sig .tc := ⟨.hbm, 296, rfl⟩
abbrev main_v229 : Ref sig .tc := ⟨.hbm, 297, rfl⟩
abbrev main_cst_33 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_call7_v0 : Ref sig .tc := ⟨.hbm, 305, rfl⟩
abbrev main_call7_cst : Ref sig .tc := ⟨.hbm, 306, rfl⟩
abbrev main_call7_v1 : Ref sig .tc := ⟨.hbm, 307, rfl⟩
abbrev main_call7_v2 : Ref sig .tc := ⟨.hbm, 308, rfl⟩
abbrev main_v236 : Ref sig .tc := ⟨.hbm, 309, rfl⟩
abbrev main_cst_34 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_cst_35 : Ref sig .tc := ⟨.hbm, 321, rfl⟩
abbrev main_v247 : Ref sig .tc := ⟨.hbm, 322, rfl⟩
abbrev main_v248 : Ref sig .tc := ⟨.hbm, 323, rfl⟩
abbrev main_cst_36 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_call8_v0 : Ref sig .tc := ⟨.hbm, 331, rfl⟩
abbrev main_call8_cst : Ref sig .tc := ⟨.hbm, 332, rfl⟩
abbrev main_call8_v1 : Ref sig .tc := ⟨.hbm, 333, rfl⟩
abbrev main_call8_v2 : Ref sig .tc := ⟨.hbm, 334, rfl⟩
abbrev main_v255 : Ref sig .tc := ⟨.hbm, 335, rfl⟩
abbrev main_cst_37 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_cst_38 : Ref sig .tc := ⟨.hbm, 347, rfl⟩
abbrev main_v266 : Ref sig .tc := ⟨.hbm, 348, rfl⟩
abbrev main_v267 : Ref sig .tc := ⟨.hbm, 349, rfl⟩
abbrev main_cst_39 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_c_40 : Ref sig .tc := ⟨.hbm, 359, rfl⟩
abbrev main_v276 : Ref sig .tc := ⟨.hbm, 360, rfl⟩
abbrev main_v277 : Ref sig .tc := ⟨.hbm, 361, rfl⟩
abbrev main_c_41 : Ref sig .tc := ⟨.hbm, 362, rfl⟩
abbrev main_v278 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_c_42 : Ref sig .tc := ⟨.hbm, 371, rfl⟩
abbrev main_v286 : Ref sig .tc := ⟨.hbm, 372, rfl⟩
abbrev main_v287 : Ref sig .tc := ⟨.hbm, 373, rfl⟩
abbrev main_c_43 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_c_44 : Ref sig .tc := ⟨.hbm, 382, rfl⟩
abbrev main_c_45 : Ref sig .tc := ⟨.hbm, 383, rfl⟩
abbrev main_call9_v0 : Ref sig .tc := ⟨.hbm, 384, rfl⟩
abbrev main_call9_v1 : Ref sig .tc := ⟨.hbm, 385, rfl⟩
abbrev main_call9_v2 : Ref sig .tc := ⟨.hbm, 386, rfl⟩
abbrev main_call9_v3 : Ref sig .tc := ⟨.hbm, 387, rfl⟩
abbrev main_call9_v4 : Ref sig .tc := ⟨.hbm, 388, rfl⟩
abbrev main_v295 : Ref sig .tc := ⟨.hbm, 389, rfl⟩
abbrev main_c_46 : Ref sig .tc := ⟨.hbm, 390, rfl⟩
abbrev main_v296 : Ref sig .tc := ⟨.hbm, 391, rfl⟩
abbrev main_v297 : Ref sig .tc := ⟨.hbm, 392, rfl⟩
abbrev main_c_47 : Ref sig .tc := ⟨.hbm, 393, rfl⟩
abbrev main_call10_v0 : Ref sig .tc := ⟨.hbm, 394, rfl⟩
abbrev main_call10_v1 : Ref sig .tc := ⟨.hbm, 395, rfl⟩
abbrev main_v298 : Ref sig .tc := ⟨.hbm, 396, rfl⟩
abbrev main_call11_v0 : Ref sig .tc := ⟨.hbm, 397, rfl⟩
abbrev main_call11_v1 : Ref sig .tc := ⟨.hbm, 398, rfl⟩
abbrev main_call11_v2 : Ref sig .tc := ⟨.hbm, 399, rfl⟩
abbrev main_call11_v3 : Ref sig .tc := ⟨.hbm, 400, rfl⟩
abbrev main_call11_v4 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_v310 : Ref sig .tc := ⟨.hbm, 413, rfl⟩
abbrev main_call12_v0 : Ref sig .tc := ⟨.hbm, 414, rfl⟩
abbrev main_call12_cst : Ref sig .tc := ⟨.hbm, 415, rfl⟩
abbrev main_call12_v1 : Ref sig .tc := ⟨.hbm, 416, rfl⟩
abbrev main_call12_v2 : Ref sig .tc := ⟨.hbm, 417, rfl⟩
abbrev main_v311 : Ref sig .tc := ⟨.hbm, 418, rfl⟩
abbrev main_cst_48 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_cst_49 : Ref sig .tc := ⟨.hbm, 430, rfl⟩
abbrev main_v322 : Ref sig .tc := ⟨.hbm, 431, rfl⟩
abbrev main_v323 : Ref sig .tc := ⟨.hbm, 432, rfl⟩
abbrev main_cst_50 : Ref sig .tc := ⟨.hbm, 433, rfl⟩
abbrev main_v324 : Ref sig .tc := ⟨.hbm, 434, rfl⟩
abbrev main_v325 : Ref sig .tc := ⟨.hbm, 435, rfl⟩
abbrev main_v326 : Ref sig .tc := ⟨.hbm, 436, rfl⟩
abbrev main_v327 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_call13_v0 : Ref sig .tc := ⟨.hbm, 441, rfl⟩
abbrev main_call13_cst : Ref sig .tc := ⟨.hbm, 442, rfl⟩
abbrev main_call13_v1 : Ref sig .tc := ⟨.hbm, 443, rfl⟩
abbrev main_call13_v2 : Ref sig .tc := ⟨.hbm, 444, rfl⟩
abbrev main_v331 : Ref sig .tc := ⟨.hbm, 445, rfl⟩
abbrev main_cst_51 : Ref sig .tc := ⟨.hbm, 446, rfl⟩
abbrev main_v332 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_cst_52 : Ref sig .tc := ⟨.hbm, 457, rfl⟩
abbrev main_v342 : Ref sig .tc := ⟨.hbm, 458, rfl⟩
abbrev main_v343 : Ref sig .tc := ⟨.hbm, 459, rfl⟩
abbrev main_cst_53 : Ref sig .tc := ⟨.hbm, 460, rfl⟩
abbrev main_v344 : Ref sig .tc := ⟨.hbm, 461, rfl⟩
abbrev main_v345 : Ref sig .tc := ⟨.hbm, 462, rfl⟩
abbrev main_v346 : Ref sig .tc := ⟨.hbm, 463, rfl⟩
abbrev main_v347 : Ref sig .tc := ⟨.hbm, 464, rfl⟩
abbrev main_v348 : Ref sig .tc := ⟨.hbm, 465, rfl⟩
abbrev main_v349 : Ref sig .tc := ⟨.hbm, 466, rfl⟩
abbrev main_v350 : Ref sig .tc := ⟨.hbm, 467, rfl⟩
abbrev main_call14_v0 : Ref sig .tc := ⟨.hbm, 468, rfl⟩
abbrev main_call14_cst : Ref sig .tc := ⟨.hbm, 469, rfl⟩
abbrev main_call14_v1 : Ref sig .tc := ⟨.hbm, 470, rfl⟩
abbrev main_call14_v2 : Ref sig .tc := ⟨.hbm, 471, rfl⟩
abbrev main_v351 : Ref sig .tc := ⟨.hbm, 472, rfl⟩
abbrev main_cst_54 : Ref sig .tc := ⟨.hbm, 473, rfl⟩
abbrev main_v352 : Ref sig .tc := ⟨.hbm, 474, rfl⟩
abbrev main_v353 : Ref sig .tc := ⟨.hbm, 475, rfl⟩
abbrev main_v354 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_v360 : Ref sig .tc := ⟨.hbm, 482, rfl⟩
abbrev main_v361 : Ref sig .tc := ⟨.hbm, 483, rfl⟩
abbrev main_cst_55 : Ref sig .tc := ⟨.hbm, 484, rfl⟩
abbrev main_v362 : Ref sig .tc := ⟨.hbm, 485, rfl⟩
abbrev main_v363 : Ref sig .tc := ⟨.hbm, 486, rfl⟩
abbrev main_cst_56 : Ref sig .tc := ⟨.hbm, 487, rfl⟩
abbrev main_v364 : Ref sig .tc := ⟨.hbm, 488, rfl⟩
abbrev main_v365 : Ref sig .tc := ⟨.hbm, 489, rfl⟩
abbrev main_v366 : Ref sig .tc := ⟨.hbm, 490, rfl⟩
abbrev main_v367 : Ref sig .tc := ⟨.hbm, 491, rfl⟩
abbrev main_v368 : Ref sig .tc := ⟨.hbm, 492, rfl⟩
abbrev main_v369 : Ref sig .tc := ⟨.hbm, 493, rfl⟩
abbrev main_v370 : Ref sig .tc := ⟨.hbm, 494, rfl⟩
abbrev main_call15_v0 : Ref sig .tc := ⟨.hbm, 495, rfl⟩
abbrev main_call15_cst : Ref sig .tc := ⟨.hbm, 496, rfl⟩
abbrev main_call15_v1 : Ref sig .tc := ⟨.hbm, 497, rfl⟩
abbrev main_call15_v2 : Ref sig .tc := ⟨.hbm, 498, rfl⟩
abbrev main_v371 : Ref sig .tc := ⟨.hbm, 499, rfl⟩
abbrev main_cst_57 : Ref sig .tc := ⟨.hbm, 500, rfl⟩
abbrev main_v372 : Ref sig .tc := ⟨.hbm, 501, rfl⟩
abbrev main_v373 : Ref sig .tc := ⟨.hbm, 502, rfl⟩
abbrev main_v374 : Ref sig .tc := ⟨.hbm, 503, rfl⟩
abbrev main_v375 : Ref sig .tc := ⟨.hbm, 504, rfl⟩
abbrev main_v376 : Ref sig .tc := ⟨.hbm, 505, rfl⟩
abbrev main_v377 : Ref sig .tc := ⟨.hbm, 506, rfl⟩
abbrev main_v378 : Ref sig .tc := ⟨.hbm, 507, rfl⟩
abbrev main_v379 : Ref sig .tc := ⟨.hbm, 508, rfl⟩
abbrev main_v380 : Ref sig .tc := ⟨.hbm, 509, rfl⟩
abbrev main_v381 : Ref sig .tc := ⟨.hbm, 510, rfl⟩
abbrev main_cst_58 : Ref sig .tc := ⟨.hbm, 511, rfl⟩
abbrev main_v382 : Ref sig .tc := ⟨.hbm, 512, rfl⟩
abbrev main_v383 : Ref sig .tc := ⟨.hbm, 513, rfl⟩
abbrev main_cst_59 : Ref sig .tc := ⟨.hbm, 514, rfl⟩
abbrev main_v384 : Ref sig .tc := ⟨.hbm, 515, rfl⟩
abbrev main_v385 : Ref sig .tc := ⟨.hbm, 516, rfl⟩
abbrev main_v386 : Ref sig .tc := ⟨.hbm, 517, rfl⟩
abbrev main_v387 : Ref sig .tc := ⟨.hbm, 518, rfl⟩
abbrev main_v388 : Ref sig .tc := ⟨.hbm, 519, rfl⟩
abbrev main_v389 : Ref sig .tc := ⟨.hbm, 520, rfl⟩
abbrev main_v390 : Ref sig .tc := ⟨.hbm, 521, rfl⟩
abbrev main_call16_v0 : Ref sig .tc := ⟨.hbm, 522, rfl⟩
abbrev main_call16_v1 : Ref sig .tc := ⟨.hbm, 523, rfl⟩
abbrev main_v391 : Ref sig .tc := ⟨.hbm, 524, rfl⟩
abbrev main_call17_v0 : Ref sig .tc := ⟨.hbm, 525, rfl⟩
abbrev main_call17_v1 : Ref sig .tc := ⟨.hbm, 526, rfl⟩
abbrev main_v392 : Ref sig .tc := ⟨.hbm, 527, rfl⟩
abbrev main_call18_v0 : Ref sig .tc := ⟨.hbm, 528, rfl⟩
abbrev main_call18_v1 : Ref sig .tc := ⟨.hbm, 529, rfl⟩
abbrev main_v393 : Ref sig .tc := ⟨.hbm, 530, rfl⟩
abbrev main_v394 : Ref sig .tc := ⟨.hbm, 531, rfl⟩
abbrev main_cst_60 : Ref sig .tc := ⟨.hbm, 532, rfl⟩
abbrev main_v395 : Ref sig .tc := ⟨.hbm, 533, rfl⟩
abbrev main_v396 : Ref sig .tc := ⟨.hbm, 534, rfl⟩
abbrev main_v397 : Ref sig .tc := ⟨.hbm, 535, rfl⟩
abbrev main_v398 : Ref sig .tc := ⟨.hbm, 536, rfl⟩
abbrev main_call19_v0 : Ref sig .tc := ⟨.hbm, 537, rfl⟩
abbrev main_call19_cst : Ref sig .tc := ⟨.hbm, 538, rfl⟩
abbrev main_call19_v1 : Ref sig .tc := ⟨.hbm, 539, rfl⟩
abbrev main_call19_v2 : Ref sig .tc := ⟨.hbm, 540, rfl⟩
abbrev main_v399 : Ref sig .tc := ⟨.hbm, 541, rfl⟩
abbrev main_cst_61 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩
abbrev main_v403 : Ref sig .tc := ⟨.hbm, 546, rfl⟩
abbrev main_v404 : Ref sig .tc := ⟨.hbm, 547, rfl⟩
abbrev main_cst_62 : Ref sig .tc := ⟨.hbm, 548, rfl⟩
abbrev main_v405 : Ref sig .tc := ⟨.hbm, 549, rfl⟩
abbrev main_v406 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_cst_63 : Ref sig .tc := ⟨.hbm, 555, rfl⟩
abbrev main_v411 : Ref sig .tc := ⟨.hbm, 556, rfl⟩
abbrev main_v412 : Ref sig .tc := ⟨.hbm, 557, rfl⟩
abbrev main_v413 : Ref sig .tc := ⟨.hbm, 558, rfl⟩
abbrev main_v414 : Ref sig .tc := ⟨.hbm, 559, rfl⟩
abbrev main_v415 : Ref sig .tc := ⟨.hbm, 560, rfl⟩
abbrev main_v416 : Ref sig .tc := ⟨.hbm, 561, rfl⟩
abbrev main_cst_64 : Ref sig .tc := ⟨.hbm, 562, rfl⟩
abbrev main_v417 : Ref sig .tc := ⟨.hbm, 563, rfl⟩
abbrev main_v418 : Ref sig .tc := ⟨.hbm, 564, rfl⟩
abbrev main_v419 : Ref sig .tc := ⟨.hbm, 565, rfl⟩
abbrev main_v420 : Ref sig .tc := ⟨.hbm, 566, rfl⟩
abbrev main_v421 : Ref sig .tc := ⟨.hbm, 567, rfl⟩
abbrev main_v422 : Ref sig .tc := ⟨.hbm, 568, rfl⟩
abbrev main_v423 : Ref sig .tc := ⟨.hbm, 569, rfl⟩
abbrev main_v424 : Ref sig .tc := ⟨.hbm, 570, rfl⟩
abbrev main_v425 : Ref sig .tc := ⟨.hbm, 571, rfl⟩
abbrev main_v426 : Ref sig .tc := ⟨.hbm, 572, rfl⟩
abbrev main_v427 : Ref sig .tc := ⟨.hbm, 573, rfl⟩
abbrev main_v428 : Ref sig .tc := ⟨.hbm, 574, rfl⟩
abbrev main_v429 : Ref sig .tc := ⟨.hbm, 575, rfl⟩
abbrev main_v430 : Ref sig .tc := ⟨.hbm, 576, rfl⟩
abbrev main_v431 : Ref sig .tc := ⟨.hbm, 577, rfl⟩
abbrev main_v432 : Ref sig .tc := ⟨.hbm, 578, rfl⟩
abbrev main_v433 : Ref sig .tc := ⟨.hbm, 579, rfl⟩
abbrev main_v434 : Ref sig .tc := ⟨.hbm, 580, rfl⟩
abbrev main_v435 : Ref sig .tc := ⟨.hbm, 581, rfl⟩
abbrev main_v436 : Ref sig .tc := ⟨.hbm, 582, rfl⟩
abbrev main_v437 : Ref sig .tc := ⟨.hbm, 583, rfl⟩
abbrev main_v438 : Ref sig .tc := ⟨.hbm, 584, rfl⟩
abbrev main_v439 : Ref sig .tc := ⟨.hbm, 585, rfl⟩
abbrev main_v440 : Ref sig .tc := ⟨.hbm, 586, rfl⟩
abbrev main_v441 : Ref sig .tc := ⟨.hbm, 587, rfl⟩
abbrev main_v442 : Ref sig .tc := ⟨.hbm, 588, rfl⟩
abbrev main_v443 : Ref sig .tc := ⟨.hbm, 589, rfl⟩
abbrev main_cst_65 : Ref sig .tc := ⟨.hbm, 590, rfl⟩
abbrev main_v444 : Ref sig .tc := ⟨.hbm, 591, rfl⟩
abbrev main_v445 : Ref sig .tc := ⟨.hbm, 592, rfl⟩
abbrev main_v446 : Ref sig .tc := ⟨.hbm, 593, rfl⟩
abbrev main_v447 : Ref sig .tc := ⟨.hbm, 594, rfl⟩
abbrev main_v448 : Ref sig .tc := ⟨.hbm, 595, rfl⟩
abbrev main_v449 : Ref sig .tc := ⟨.hbm, 596, rfl⟩
abbrev main_v450 : Ref sig .tc := ⟨.hbm, 597, rfl⟩
abbrev main_v451 : Ref sig .tc := ⟨.hbm, 598, rfl⟩
abbrev main_cst_66 : Ref sig .tc := ⟨.hbm, 599, rfl⟩
abbrev main_v452 : Ref sig .tc := ⟨.hbm, 600, rfl⟩
abbrev main_v453 : Ref sig .tc := ⟨.hbm, 601, rfl⟩
abbrev main_v454 : Ref sig .tc := ⟨.hbm, 602, rfl⟩
abbrev main_v455 : Ref sig .tc := ⟨.hbm, 603, rfl⟩
abbrev main_call20_v0 : Ref sig .tc := ⟨.hbm, 604, rfl⟩
abbrev main_call20_cst : Ref sig .tc := ⟨.hbm, 605, rfl⟩
abbrev main_call20_v1 : Ref sig .tc := ⟨.hbm, 606, rfl⟩
abbrev main_call20_v2 : Ref sig .tc := ⟨.hbm, 607, rfl⟩
abbrev main_v456 : Ref sig .tc := ⟨.hbm, 608, rfl⟩
abbrev main_cst_67 : Ref sig .tc := ⟨.hbm, 609, rfl⟩
abbrev main_v457 : Ref sig .tc := ⟨.hbm, 610, rfl⟩
abbrev main_v458 : Ref sig .tc := ⟨.hbm, 611, rfl⟩
abbrev main_v459 : Ref sig .tc := ⟨.hbm, 612, rfl⟩
abbrev main_v460 : Ref sig .tc := ⟨.hbm, 613, rfl⟩
abbrev main_v461 : Ref sig .tc := ⟨.hbm, 614, rfl⟩
abbrev main_cst_68 : Ref sig .tc := ⟨.hbm, 615, rfl⟩
abbrev main_v462 : Ref sig .tc := ⟨.hbm, 616, rfl⟩
abbrev main_v463 : Ref sig .tc := ⟨.hbm, 617, rfl⟩
abbrev main_v464 : Ref sig .tc := ⟨.hbm, 618, rfl⟩
abbrev main_v465 : Ref sig .tc := ⟨.hbm, 619, rfl⟩
abbrev main_v466 : Ref sig .tc := ⟨.hbm, 620, rfl⟩
abbrev main_v467 : Ref sig .tc := ⟨.hbm, 621, rfl⟩
abbrev main_cst_69 : Ref sig .tc := ⟨.hbm, 622, rfl⟩
abbrev main_v468 : Ref sig .tc := ⟨.hbm, 623, rfl⟩
abbrev main_v469 : Ref sig .tc := ⟨.hbm, 624, rfl⟩
abbrev main_v470 : Ref sig .tc := ⟨.hbm, 625, rfl⟩
abbrev main_v471 : Ref sig .tc := ⟨.hbm, 626, rfl⟩
abbrev main_v472 : Ref sig .tc := ⟨.hbm, 627, rfl⟩
abbrev main_v473 : Ref sig .tc := ⟨.hbm, 628, rfl⟩
abbrev main_cst_70 : Ref sig .tc := ⟨.hbm, 629, rfl⟩
abbrev main_v474 : Ref sig .tc := ⟨.hbm, 630, rfl⟩
abbrev main_v475 : Ref sig .tc := ⟨.hbm, 631, rfl⟩
abbrev main_v476 : Ref sig .tc := ⟨.hbm, 632, rfl⟩
abbrev main_v477 : Ref sig .tc := ⟨.hbm, 633, rfl⟩
abbrev main_v478 : Ref sig .tc := ⟨.hbm, 634, rfl⟩
abbrev main_v479 : Ref sig .tc := ⟨.hbm, 635, rfl⟩
abbrev main_v480 : Ref sig .tc := ⟨.hbm, 636, rfl⟩
abbrev main_v481 : Ref sig .tc := ⟨.hbm, 637, rfl⟩
abbrev main_v482 : Ref sig .tc := ⟨.hbm, 638, rfl⟩
abbrev main_v483 : Ref sig .tc := ⟨.hbm, 639, rfl⟩
abbrev main_v484 : Ref sig .tc := ⟨.hbm, 640, rfl⟩
abbrev main_v485 : Ref sig .tc := ⟨.hbm, 641, rfl⟩
abbrev main_v486 : Ref sig .tc := ⟨.hbm, 642, rfl⟩
abbrev main_v487 : Ref sig .tc := ⟨.hbm, 643, rfl⟩
abbrev main_v488 : Ref sig .tc := ⟨.hbm, 644, rfl⟩
abbrev main_v489 : Ref sig .tc := ⟨.hbm, 645, rfl⟩
abbrev main_v490 : Ref sig .tc := ⟨.hbm, 646, rfl⟩
abbrev main_v491 : Ref sig .tc := ⟨.hbm, 647, rfl⟩
abbrev main_v492 : Ref sig .tc := ⟨.hbm, 648, rfl⟩
abbrev main_v493 : Ref sig .tc := ⟨.hbm, 649, rfl⟩
abbrev main_v494 : Ref sig .tc := ⟨.hbm, 650, rfl⟩
abbrev main_v495 : Ref sig .tc := ⟨.hbm, 651, rfl⟩
abbrev main_v496 : Ref sig .tc := ⟨.hbm, 652, rfl⟩
abbrev main_v497 : Ref sig .tc := ⟨.hbm, 653, rfl⟩
abbrev main_v498 : Ref sig .tc := ⟨.hbm, 654, rfl⟩
abbrev main_v499 : Ref sig .tc := ⟨.hbm, 655, rfl⟩
abbrev main_v500 : Ref sig .tc := ⟨.hbm, 656, rfl⟩
abbrev main_cst_71 : Ref sig .tc := ⟨.hbm, 657, rfl⟩
abbrev main_v501 : Ref sig .tc := ⟨.hbm, 658, rfl⟩
abbrev main_v502 : Ref sig .tc := ⟨.hbm, 659, rfl⟩
abbrev main_v503 : Ref sig .tc := ⟨.hbm, 660, rfl⟩
abbrev main_v504 : Ref sig .tc := ⟨.hbm, 661, rfl⟩
abbrev main_v505 : Ref sig .tc := ⟨.hbm, 662, rfl⟩
abbrev main_v506 : Ref sig .tc := ⟨.hbm, 663, rfl⟩
abbrev main_v507 : Ref sig .tc := ⟨.hbm, 664, rfl⟩
abbrev main_v508 : Ref sig .tc := ⟨.hbm, 665, rfl⟩
abbrev main_cst_72 : Ref sig .tc := ⟨.hbm, 666, rfl⟩
abbrev main_v509 : Ref sig .tc := ⟨.hbm, 667, rfl⟩
abbrev main_v510 : Ref sig .tc := ⟨.hbm, 668, rfl⟩
abbrev main_v511 : Ref sig .tc := ⟨.hbm, 669, rfl⟩
abbrev main_v512 : Ref sig .tc := ⟨.hbm, 670, rfl⟩
abbrev main_call21_v0 : Ref sig .tc := ⟨.hbm, 671, rfl⟩
abbrev main_call21_cst : Ref sig .tc := ⟨.hbm, 672, rfl⟩
abbrev main_call21_v1 : Ref sig .tc := ⟨.hbm, 673, rfl⟩
abbrev main_call21_v2 : Ref sig .tc := ⟨.hbm, 674, rfl⟩
abbrev main_v513 : Ref sig .tc := ⟨.hbm, 675, rfl⟩
abbrev main_cst_73 : Ref sig .tc := ⟨.hbm, 676, rfl⟩
abbrev main_v514 : Ref sig .tc := ⟨.hbm, 677, rfl⟩
abbrev main_v515 : Ref sig .tc := ⟨.hbm, 678, rfl⟩
abbrev main_v516 : Ref sig .tc := ⟨.hbm, 679, rfl⟩
abbrev main_v517 : Ref sig .tc := ⟨.hbm, 680, rfl⟩
abbrev main_v518 : Ref sig .tc := ⟨.hbm, 681, rfl⟩
abbrev main_cst_74 : Ref sig .tc := ⟨.hbm, 682, rfl⟩
abbrev main_v519 : Ref sig .tc := ⟨.hbm, 683, rfl⟩
abbrev main_v520 : Ref sig .tc := ⟨.hbm, 684, rfl⟩
abbrev main_v521 : Ref sig .tc := ⟨.hbm, 685, rfl⟩
abbrev main_v522 : Ref sig .tc := ⟨.hbm, 686, rfl⟩
abbrev main_v523 : Ref sig .tc := ⟨.hbm, 687, rfl⟩
abbrev main_v524 : Ref sig .tc := ⟨.hbm, 688, rfl⟩
abbrev main_cst_75 : Ref sig .tc := ⟨.hbm, 689, rfl⟩
abbrev main_v525 : Ref sig .tc := ⟨.hbm, 690, rfl⟩
abbrev main_v526 : Ref sig .tc := ⟨.hbm, 691, rfl⟩
abbrev main_v527 : Ref sig .tc := ⟨.hbm, 692, rfl⟩
abbrev main_v528 : Ref sig .tc := ⟨.hbm, 693, rfl⟩
abbrev main_v529 : Ref sig .tc := ⟨.hbm, 694, rfl⟩
abbrev main_v530 : Ref sig .tc := ⟨.hbm, 695, rfl⟩
abbrev main_cst_76 : Ref sig .tc := ⟨.hbm, 696, rfl⟩
abbrev main_v531 : Ref sig .tc := ⟨.hbm, 697, rfl⟩
abbrev main_v532 : Ref sig .tc := ⟨.hbm, 698, rfl⟩
abbrev main_v533 : Ref sig .tc := ⟨.hbm, 699, rfl⟩
abbrev main_v534 : Ref sig .tc := ⟨.hbm, 700, rfl⟩
abbrev main_v535 : Ref sig .tc := ⟨.hbm, 701, rfl⟩
abbrev main_v536 : Ref sig .tc := ⟨.hbm, 702, rfl⟩
abbrev main_v537 : Ref sig .tc := ⟨.hbm, 703, rfl⟩
abbrev main_v538 : Ref sig .tc := ⟨.hbm, 704, rfl⟩
abbrev main_v539 : Ref sig .tc := ⟨.hbm, 705, rfl⟩
abbrev main_v540 : Ref sig .tc := ⟨.hbm, 706, rfl⟩
abbrev main_v541 : Ref sig .tc := ⟨.hbm, 707, rfl⟩
abbrev main_v542 : Ref sig .tc := ⟨.hbm, 708, rfl⟩
abbrev main_v543 : Ref sig .tc := ⟨.hbm, 709, rfl⟩
abbrev main_v544 : Ref sig .tc := ⟨.hbm, 710, rfl⟩
abbrev main_v545 : Ref sig .tc := ⟨.hbm, 711, rfl⟩
abbrev main_v546 : Ref sig .tc := ⟨.hbm, 712, rfl⟩
abbrev main_v547 : Ref sig .tc := ⟨.hbm, 713, rfl⟩
abbrev main_v548 : Ref sig .tc := ⟨.hbm, 714, rfl⟩
abbrev main_v549 : Ref sig .tc := ⟨.hbm, 715, rfl⟩
abbrev main_v550 : Ref sig .tc := ⟨.hbm, 716, rfl⟩
abbrev main_v551 : Ref sig .tc := ⟨.hbm, 717, rfl⟩
abbrev main_v552 : Ref sig .tc := ⟨.hbm, 718, rfl⟩
abbrev main_v553 : Ref sig .tc := ⟨.hbm, 719, rfl⟩
abbrev main_v554 : Ref sig .tc := ⟨.hbm, 720, rfl⟩
abbrev main_v555 : Ref sig .tc := ⟨.hbm, 721, rfl⟩
abbrev main_v556 : Ref sig .tc := ⟨.hbm, 722, rfl⟩
abbrev main_v557 : Ref sig .tc := ⟨.hbm, 723, rfl⟩
abbrev main_cst_77 : Ref sig .tc := ⟨.hbm, 724, rfl⟩
abbrev main_v558 : Ref sig .tc := ⟨.hbm, 725, rfl⟩
abbrev main_v559 : Ref sig .tc := ⟨.hbm, 726, rfl⟩
abbrev main_v560 : Ref sig .tc := ⟨.hbm, 727, rfl⟩
abbrev main_v561 : Ref sig .tc := ⟨.hbm, 728, rfl⟩
abbrev main_v562 : Ref sig .tc := ⟨.hbm, 729, rfl⟩
abbrev main_v563 : Ref sig .tc := ⟨.hbm, 730, rfl⟩
abbrev main_v564 : Ref sig .tc := ⟨.hbm, 731, rfl⟩
abbrev main_v565 : Ref sig .tc := ⟨.hbm, 732, rfl⟩
abbrev main_cst_78 : Ref sig .tc := ⟨.hbm, 733, rfl⟩
abbrev main_v566 : Ref sig .tc := ⟨.hbm, 734, rfl⟩
abbrev main_v567 : Ref sig .tc := ⟨.hbm, 735, rfl⟩
abbrev main_v568 : Ref sig .tc := ⟨.hbm, 736, rfl⟩
abbrev main_v569 : Ref sig .tc := ⟨.hbm, 737, rfl⟩
abbrev main_call22_v0 : Ref sig .tc := ⟨.hbm, 738, rfl⟩
abbrev main_call22_cst : Ref sig .tc := ⟨.hbm, 739, rfl⟩
abbrev main_call22_v1 : Ref sig .tc := ⟨.hbm, 740, rfl⟩
abbrev main_call22_v2 : Ref sig .tc := ⟨.hbm, 741, rfl⟩
abbrev main_v570 : Ref sig .tc := ⟨.hbm, 742, rfl⟩
abbrev main_cst_79 : Ref sig .tc := ⟨.hbm, 743, rfl⟩
abbrev main_v571 : Ref sig .tc := ⟨.hbm, 744, rfl⟩
abbrev main_v572 : Ref sig .tc := ⟨.hbm, 745, rfl⟩
abbrev main_v573 : Ref sig .tc := ⟨.hbm, 746, rfl⟩
abbrev main_v574 : Ref sig .tc := ⟨.hbm, 747, rfl⟩
abbrev main_v575 : Ref sig .tc := ⟨.hbm, 748, rfl⟩
abbrev main_cst_80 : Ref sig .tc := ⟨.hbm, 749, rfl⟩
abbrev main_v576 : Ref sig .tc := ⟨.hbm, 750, rfl⟩
abbrev main_v577 : Ref sig .tc := ⟨.hbm, 751, rfl⟩
abbrev main_v578 : Ref sig .tc := ⟨.hbm, 752, rfl⟩
abbrev main_v579 : Ref sig .tc := ⟨.hbm, 753, rfl⟩
abbrev main_v580 : Ref sig .tc := ⟨.hbm, 754, rfl⟩
abbrev main_v581 : Ref sig .tc := ⟨.hbm, 755, rfl⟩
abbrev main_cst_81 : Ref sig .tc := ⟨.hbm, 756, rfl⟩
abbrev main_v582 : Ref sig .tc := ⟨.hbm, 757, rfl⟩
abbrev main_v583 : Ref sig .tc := ⟨.hbm, 758, rfl⟩
abbrev main_v584 : Ref sig .tc := ⟨.hbm, 759, rfl⟩
abbrev main_v585 : Ref sig .tc := ⟨.hbm, 760, rfl⟩
abbrev main_v586 : Ref sig .tc := ⟨.hbm, 761, rfl⟩
abbrev main_v587 : Ref sig .tc := ⟨.hbm, 762, rfl⟩
abbrev main_cst_82 : Ref sig .tc := ⟨.hbm, 763, rfl⟩
abbrev main_v588 : Ref sig .tc := ⟨.hbm, 764, rfl⟩
abbrev main_v589 : Ref sig .tc := ⟨.hbm, 765, rfl⟩
abbrev main_v590 : Ref sig .tc := ⟨.hbm, 766, rfl⟩
abbrev main_v591 : Ref sig .tc := ⟨.hbm, 767, rfl⟩
abbrev main_v592 : Ref sig .tc := ⟨.hbm, 768, rfl⟩
abbrev main_v593 : Ref sig .tc := ⟨.hbm, 769, rfl⟩
abbrev main_v594 : Ref sig .tc := ⟨.hbm, 770, rfl⟩
abbrev main_v595 : Ref sig .tc := ⟨.hbm, 771, rfl⟩
abbrev main_v596 : Ref sig .tc := ⟨.hbm, 772, rfl⟩
abbrev main_v597 : Ref sig .tc := ⟨.hbm, 773, rfl⟩
abbrev main_v598 : Ref sig .tc := ⟨.hbm, 774, rfl⟩
abbrev main_v599 : Ref sig .tc := ⟨.hbm, 775, rfl⟩
abbrev main_v600 : Ref sig .tc := ⟨.hbm, 776, rfl⟩
abbrev main_v601 : Ref sig .tc := ⟨.hbm, 777, rfl⟩
abbrev main_v602 : Ref sig .tc := ⟨.hbm, 778, rfl⟩
abbrev main_v603 : Ref sig .tc := ⟨.hbm, 779, rfl⟩
abbrev main_v604 : Ref sig .tc := ⟨.hbm, 780, rfl⟩
abbrev main_v605 : Ref sig .tc := ⟨.hbm, 781, rfl⟩
abbrev main_v606 : Ref sig .tc := ⟨.hbm, 782, rfl⟩
abbrev main_v607 : Ref sig .tc := ⟨.hbm, 783, rfl⟩
abbrev main_v608 : Ref sig .tc := ⟨.hbm, 784, rfl⟩
abbrev main_v609 : Ref sig .tc := ⟨.hbm, 785, rfl⟩
abbrev main_v610 : Ref sig .tc := ⟨.hbm, 786, rfl⟩
abbrev main_v611 : Ref sig .tc := ⟨.hbm, 787, rfl⟩
abbrev main_v612 : Ref sig .tc := ⟨.hbm, 788, rfl⟩
abbrev main_v613 : Ref sig .tc := ⟨.hbm, 789, rfl⟩
abbrev main_v614 : Ref sig .tc := ⟨.hbm, 790, rfl⟩
abbrev main_cst_83 : Ref sig .tc := ⟨.hbm, 791, rfl⟩
abbrev main_v615 : Ref sig .tc := ⟨.hbm, 792, rfl⟩
abbrev main_v616 : Ref sig .tc := ⟨.hbm, 793, rfl⟩
abbrev main_v617 : Ref sig .tc := ⟨.hbm, 794, rfl⟩
abbrev main_v618 : Ref sig .tc := ⟨.hbm, 795, rfl⟩
abbrev main_v619 : Ref sig .tc := ⟨.hbm, 796, rfl⟩
abbrev main_v620 : Ref sig .tc := ⟨.hbm, 797, rfl⟩
abbrev main_v621 : Ref sig .tc := ⟨.hbm, 798, rfl⟩
abbrev main_v622 : Ref sig .tc := ⟨.hbm, 799, rfl⟩
abbrev main_c_84 : Ref sig .tc := ⟨.hbm, 800, rfl⟩
abbrev main_c_85 : Ref sig .tc := ⟨.hbm, 801, rfl⟩
abbrev main_call23_v0 : Ref sig .tc := ⟨.hbm, 802, rfl⟩
abbrev main_call23_v1 : Ref sig .tc := ⟨.hbm, 803, rfl⟩
abbrev main_call23_v2 : Ref sig .tc := ⟨.hbm, 804, rfl⟩
abbrev main_call23_v3 : Ref sig .tc := ⟨.hbm, 805, rfl⟩
abbrev main_call23_v4 : Ref sig .tc := ⟨.hbm, 806, rfl⟩
abbrev main_v623 : Ref sig .tc := ⟨.hbm, 807, rfl⟩
abbrev main_c_86 : Ref sig .tc := ⟨.hbm, 808, rfl⟩
abbrev main_v624 : Ref sig .tc := ⟨.hbm, 809, rfl⟩
abbrev main_v625 : Ref sig .tc := ⟨.hbm, 810, rfl⟩
abbrev main_c_87 : Ref sig .tc := ⟨.hbm, 811, rfl⟩
abbrev main_v626 : Ref sig .tc := ⟨.hbm, 812, rfl⟩
abbrev main_v627 : Ref sig .tc := ⟨.hbm, 813, rfl⟩
abbrev main_v628 : Ref sig .tc := ⟨.hbm, 814, rfl⟩
abbrev main_v629 : Ref sig .tc := ⟨.hbm, 815, rfl⟩
abbrev main_v630 : Ref sig .tc := ⟨.hbm, 816, rfl⟩
abbrev main_v631 : Ref sig .tc := ⟨.hbm, 817, rfl⟩

abbrev nD : Nat := 1
abbrev τ : Topo := Topo.v7x

variable {F : FTy → Type} [FloatOps F]
-- ==== Proof.WellPosedFacts.lean ====
/- The side conditions that the precondition's own operations state. -/
module

public import proofs.«01_k».proof.Pre_well_posed
public import Idealize.ShloMosaic.Lib.Decide

@[expose] public section

namespace Cert.WellPosed

open Idealize.ShloMosaic

/-- Every side condition of the precondition's operations holds: slices lie inside their arrays, reshapes keep
    the number of elements, broadcasts and concatenations have matching extents. -/
instance facts : Cert.Pre_well_posed.Facts where
  slices_S8192x4x3_S8192x1x3_0_0_0 := by decide
  shapeCasts_S8192x1x3_S8192x3 := by decide
  slices_S8192x4x3_S8192x1x3_0_1_0 := by decide
  slices_S8192x4x3_S8192x1x3_0_2_0 := by decide
  slices_S8192x4x3_S8192x1x3_0_3_0 := by decide
  slices_S8192x3_S1x3_8191_0 := by decide
  slices_S8192x3_S8191x3_0_0 := by decide
  concatenates_S1x3_S8191x3_S8192x3_d0 := by decide
  slices_S8192x3_S8191x3_1_0 := by decide
  slices_S8192x3_S1x3_0_0 := by decide
  concatenates_S8191x3_S1x3_S8192x3_d0 := by decide
  bcast_S_S8192x3 := by decide
  reducesTo_S8192x3_S8192_d1 := by decide
  h_S_ := by decide
  bcast_S8192_S8192x1_0 := by decide
  bcast_S_S8192x1 := by decide
  bcast_S8192x1_S8192x3_0_1 := by decide
  slices_S8192x3_S8192x1_0_0 := by decide
  shapeCasts_S8192x1_S8192 := by decide
  slices_S8192x3_S8192x1_0_1 := by decide
  slices_S8192x3_S8192x1_0_2 := by decide
  concatenates_S8192x1_S8192x1_S8192x1_S8192x3_d1 := by decide
  bcast_S_S8192 := by decide
  bcast_S_S8192x4x3 := by decide
  shapeCasts_S8192x4x3_S8192x12 := by decide
  concatenates_S8192x12_S8192x1_S8192x1_S8192x1_S8192x1_S8192x1_S8192x17_d1 := by decide

end Cert.WellPosed

end
-- ==== Proof.Frames.lean ====
/- The claims that say nothing of a result's contents: the frames, and the named constant. -/
module

public import proofs.«01_k».proof.Defs
public import proofs.«01_k».proof.Proof.WellPosedFacts
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Frames

open Idealize.ShloMosaic Idealize.SL.Sem

/-- The kernel as printed runs, its arguments unchanged, every counter back at zero. -/
theorem frame_kernel : Cert.quiescent_Kernel := fun m ρ _ => Cert.Kernel.Gen.frame m ρ

/-- The idealized kernel runs, its arguments unchanged, every counter back at zero. -/
theorem frame_ideal : Cert.quiescent_KernelIdeal := fun m ρ _ => Cert.KernelIdeal.Gen.frame m ρ

/-- The same under the precondition. -/
theorem frame_ideal_pre : Cert.quiescent_KernelIdeal_pre_well_posed := fun m ρ _ => Cert.KernelIdeal.Gen.frame m ρ

/-- The idealized reference runs, its arguments unchanged; it has no counters. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The same under the precondition. -/
theorem frame_reference_pre : Cert.quiescent_ReferenceIdeal_pre_well_posed := fun m ρ _ =>
  frame_reference m ρ trivial

/-- The named constant: `"half_pi"` is π/2. -/
theorem preserves : Cert.preserves_Kernel_KernelIdeal :=
  IdealRules.named_const.statement Cert.KernelIdeal.κ "half_pi" .f32 0x3FC90FDB#32 (((1 / 2) * Real.pi : ℝ) : EReal) rfl

end Cert.Frames

end
-- ==== Proof.KernelRun.lean ====
/- The run of the idealized kernel with the contents of its result arrays. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution of the kernel ends with each result array at what the last boundary of the run holds there
    (`W19`), and with the argument arrays as launched. -/
theorem run_results : θ_run defs (onTc (τ := τ) (main (F := F))) ⟨m, fun _ => 0, ρ⟩ (fun r => ∀ c : Dev nD,
      r.2.mem ((c.tc : Thread nD τ).loc main_v60) = W19 m ρ c (Proc.devRef .tc main_v60)
      ∧ r.2.mem ((c.tc : Thread nD τ).loc main_v54) = W19 m ρ c (Proc.devRef .tc main_v54)
      ∧ r.2.mem ((c.tc : Thread nD τ).loc main_v41) = W19 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => fun c =>
      ⟨h c _ (mem_uc main_v60 (by decide)), h c _ (mem_uc main_v54 (by decide)), h c _ (mem_uc main_v41 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c)⟩)

end Cert.KernelIdeal.Gen

end
-- ==== Proof.Spec.lean ====
/- Plain formulas over the extended reals that both programs compute: the squared distance, the split of a vector into its
   direction and the encoding of its length, and the sine and cosine of a dihedral angle. -/
module

public import Idealize.ShloMosaic.Lib.Pointwise
public import Idealize.ShloMosaic.Lib.Pipeline.Value

@[expose] public section

noncomputable section

namespace Cert.Spec

open Idealize.ShloMosaic

/-- The squared distance of two residues, `|a|² + |b|² − 2 a·b`, with the diagonal set to 10⁹. -/
def d2 {n : Nat} (p : Fin 8192 → Fin n → EReal) (a b : Fin 8192) : EReal :=
  if a = b then Ideal.ofBits FTy.f32 0x4E6E6B28#32
  else ∑ x, p a x * p a x + ∑ x, p b x * p b x - Ideal.ofBits FTy.f32 0x40000000#32 * ∑ x, p a x * p b x

/-- The least value over window `w` of sixteen residues, starting from plus infinity. -/
def wmin (d : Fin 8192 → EReal) (w : Fin 512) : EReal :=
  Finset.fold min (Ideal.ofBits FTy.f32 0x7F800000#32)
    (fun x : Fin 16 => d ⟨w.val * 16 + x.val, by have := w.isLt; have := x.isLt; omega⟩) Finset.univ

/-- A squared distance is the same over lanes padded by zeros. -/
theorem d2_pad (p : Fin 8192 → Fin 8 → EReal) (q : Fin 8192 → Fin 3 → EReal)
    (h0 : ∀ a, p a 0 = q a 0) (h1 : ∀ a, p a 1 = q a 1) (h2 : ∀ a, p a 2 = q a 2)
    (h : ∀ a (x : Fin 8), 3 ≤ x.val → p a x = 0) : d2 p = d2 q := by
  have hs : ∀ a b, ∑ x, p a x * p b x = ∑ x, q a x * q b x := by
    intro a b
    simp [Fin.sum_univ_succ, Fin.sum_univ_zero]
    rw [h a 3 (by decide), h a 4 (by decide), h a 5 (by decide), h a 6 (by decide), h a 7 (by decide)] <;>
    simp [h0, h1, h2]
  funext a b
  simp only [d2, hs]

/-- A choice on a comparison of two words is a choice on their equality. -/
theorem select_eq {α : Type} {n : Nat} (x y : BitVec n) (a b : α) :
    Scalar.select (IntOp.cmpi .eq x y) a b = if x = y then a else b := by
  simp only [Scalar.select, IntOp.cmpi]
  by_cases h : x = y
  · simp [h]
  · have : (x == y) = false := by simpa using h
    simp [this, h]

/-- The length of a vector of three components. -/
def nrm (u : Fin 3 → EReal) : EReal := Ideal.sqrt (∑ k, u k * u k)

/-- A component of the direction of a vector, the length bounded below by 10⁻⁶. -/
def dir (u : Fin 3 → EReal) (k : Fin 3) : EReal := Ideal.div (u k) (max (nrm u) (Ideal.ofBits FTy.f32 0x358637BD#32))

/-- The encoding of a length: its cosine at eight frequencies, then its sine at them. -/
def enc (n : EReal) (w : Fin 8 → EReal) (x : Fin 16) : EReal :=
  if h : x.val < 8 then
    Ideal.cos (n * w ⟨x.val, h⟩ * Ideal.ofBits FTy.f32 0x40000000#32 * Ideal.ofBits FTy.f32 0x40490FDB#32)
  else Ideal.sin (n * w ⟨x.val - 8, by have := x.isLt; omega⟩ * Ideal.ofBits FTy.f32 0x40000000#32
    * Ideal.ofBits FTy.f32 0x40490FDB#32)

/-- The lanes of an edge: eight blocks of a direction and a length's encoding, a one-hot word, a cosine and a sine. -/
def lanes201 (D : Fin 8 → Fin 3 → EReal) (E : Fin 8 → Fin 16 → EReal) (O : Fin 33 → EReal) (C S : Fin 8 → EReal)
    (l : Fin 201) : EReal :=
  if h : l.val < 152 then
    if h' : l.val % 19 < 3 then D ⟨l.val / 19, by omega⟩ ⟨l.val % 19, h'⟩
    else E ⟨l.val / 19, by omega⟩ ⟨l.val % 19 - 3, by omega⟩
  else if h' : l.val < 185 then O ⟨l.val - 152, by omega⟩
  else if h'' : l.val < 193 then C ⟨l.val - 185, by omega⟩
  else S ⟨l.val - 193, by have := l.isLt; omega⟩

variable {D : Fin 8 → Fin 3 → EReal} {E : Fin 8 → Fin 16 → EReal} {O : Fin 33 → EReal} {C S : Fin 8 → EReal}

/-- An edge's lanes: a direction. -/
theorem lanes201_D {x : Fin 201} (b : Fin 8) (k : Fin 3) (hx : x.val = 19 * b.val + k.val) :
    lanes201 D E O C S x = D b k := by
  have hb := b.isLt
  have hk := k.isLt
  rw [lanes201, dif_pos (show x.val < 152 by omega), dif_pos (show x.val % 19 < 3 by omega)]
  congr 1 <;> (try congr 1) <;> omega

/-- An edge's lanes: an encoded length. -/
theorem lanes201_E {x : Fin 201} (b : Fin 8) (k : Fin 16) (hx : x.val = 19 * b.val + 3 + k.val) :
    lanes201 D E O C S x = E b k := by
  have hb := b.isLt
  have hk := k.isLt
  rw [lanes201, dif_pos (show x.val < 152 by omega), dif_neg (show ¬ x.val % 19 < 3 by omega)]
  congr 1 <;> (try congr 1) <;> omega

/-- An edge's lanes: the class. -/
theorem lanes201_O {x : Fin 201} (k : Fin 33) (hx : x.val = 152 + k.val) : lanes201 D E O C S x = O k := by
  have hk := k.isLt
  rw [lanes201, dif_neg (show ¬ x.val < 152 by omega), dif_pos (show x.val < 185 by omega)]
  congr 1; apply Fin.ext; simp only; omega

/-- An edge's lanes: the cosines of the offset. -/
theorem lanes201_C {x : Fin 201} (k : Fin 8) (hx : x.val = 185 + k.val) : lanes201 D E O C S x = C k := by
  have hk := k.isLt
  rw [lanes201, dif_neg (show ¬ x.val < 152 by omega), dif_neg (show ¬ x.val < 185 by omega),
    dif_pos (show x.val < 193 by omega)]
  congr 1; apply Fin.ext; simp only; omega

/-- An edge's lanes: the sines of the offset. -/
theorem lanes201_S {x : Fin 201} (k : Fin 8) (hx : x.val = 193 + k.val) : lanes201 D E O C S x = S k := by
  have hk := k.isLt
  rw [lanes201, dif_neg (show ¬ x.val < 152 by omega), dif_neg (show ¬ x.val < 185 by omega),
    dif_neg (show ¬ x.val < 193 by omega)]
  congr 1; apply Fin.ext; simp only; omega

/-- Every lane of an edge is of one of the five sorts. -/
theorem lanes201_cases (x : Fin 201) :
    (∃ (b : Fin 8) (k : Fin 3), x.val = 19 * b.val + k.val) ∨ (∃ (b : Fin 8) (k : Fin 16), x.val = 19 * b.val + 3 + k.val)
    ∨ (∃ k : Fin 33, x.val = 152 + k.val) ∨ (∃ k : Fin 8, x.val = 185 + k.val) ∨ (∃ k : Fin 8, x.val = 193 + k.val) := by
  have hx := x.isLt
  by_cases h : x.val < 152
  · by_cases h' : x.val % 19 < 3
    · exact .inl ⟨⟨x.val / 19, by omega⟩, ⟨x.val % 19, h'⟩, by simp only; omega⟩
    · exact .inr (.inl ⟨⟨x.val / 19, by omega⟩, ⟨x.val % 19 - 3, by omega⟩, by simp only; omega⟩)
  · by_cases h1 : x.val < 185
    · exact .inr (.inr (.inl ⟨⟨x.val - 152, by omega⟩, by simp only; omega⟩))
    · by_cases h2 : x.val < 193
      · exact .inr (.inr (.inr (.inl ⟨⟨x.val - 185, by omega⟩, by simp only; omega⟩)))
      · exact .inr (.inr (.inr (.inr ⟨⟨x.val - 193, by omega⟩, by simp only; omega⟩)))

/-- A concatenation along the last of three axes, read in its piece `k`. -/
theorem cat3 {α : Type} {R E N n : Nat} (xs : List ((s : Shape) × (s.Idx → α)))
    (hc : Shape.Concatenates (xs.map (·.1)) ⟨3, ![R, E, N]⟩ 2) (r : Fin R) (e : Fin E) (x : Fin N)
    (k : Nat) (p : (⟨3, ![R, E, n]⟩ : Shape).Idx → α) (hxk : xs[k]? = some ⟨⟨3, ![R, E, n]⟩, p⟩) (pre : Nat)
    (ss : List Shape) (hss : xs.map (·.1) = ss)
    (hpre : ((ss.take k).map fun s => if h : s.rank = 3 then s.size ((2 : Fin 3).cast h.symm) else 0).sum = pre)
    (i : Fin n) (ha : x.val = pre + i.val) :
    concatenate ⟨3, ![R, E, N]⟩ 2 xs hc (ix3 r e x) = p (ix3 r e i) := by
  obtain ⟨hk, hxk⟩ := List.getElem?_eq_some_iff.mp hxk
  rw [← hss, ← List.map_take] at hpre
  refine concatenate_apply_piece (t := ⟨3, ![R, E, N]⟩) 2 xs hc (ix3 r e x) k hk ⟨3, ![R, E, n]⟩ p hxk rfl pre hpre
    (ix3 r e i) ?_ ha.symm
  intro b hb
  fin_cases b
  · rfl
  · rfl
  · exact absurd rfl hb

/-- A concatenation along the last of two axes, read in its piece `k`. -/
theorem cat2 {α : Type} {R N n : Nat} (xs : List ((s : Shape) × (s.Idx → α)))
    (hc : Shape.Concatenates (xs.map (·.1)) ⟨2, ![R, N]⟩ 1) (r : Fin R) (x : Fin N)
    (k : Nat) (p : (⟨2, ![R, n]⟩ : Shape).Idx → α) (hxk : xs[k]? = some ⟨⟨2, ![R, n]⟩, p⟩) (pre : Nat)
    (ss : List Shape) (hss : xs.map (·.1) = ss)
    (hpre : ((ss.take k).map fun s => if h : s.rank = 2 then s.size ((1 : Fin 2).cast h.symm) else 0).sum = pre)
    (i : Fin n) (ha : x.val = pre + i.val) :
    concatenate ⟨2, ![R, N]⟩ 1 xs hc (ix2 r x) = p (ix2 r i) := by
  obtain ⟨hk, hxk⟩ := List.getElem?_eq_some_iff.mp hxk
  rw [← hss, ← List.map_take] at hpre
  refine concatenate_apply_piece (t := ⟨2, ![R, N]⟩) 1 xs hc (ix2 r x) k hk ⟨2, ![R, n]⟩ p hxk rfl pre hpre
    (ix2 r i) ?_ ha.symm
  intro b hb
  fin_cases b
  · rfl
  · exact absurd rfl hb

/-- Where the first point of each of the eight vectors of an edge lies in a residue's row of atoms. -/
def off1 : Fin 8 → Nat := ![3, 3, 3, 3, 3, 0, 6, 9]

/-- Where the second point of each of the eight vectors of an edge lies in the neighbour's row of atoms. -/
def off2 : Fin 8 → Nat := ![3, 0, 6, 9, 12, 3, 3, 3]

/-- The offsets of the first points lie within a row. -/
theorem off1_le (b : Fin 8) : off1 b ≤ 12 := by revert b; decide
/-- The offsets of the second points lie within a row. -/
theorem off2_le (b : Fin 8) : off2 b ≤ 12 := by revert b; decide

/-- The eight vectors of an edge, from the row of the residue to the row of its neighbour. -/
def vecs (T N : Fin 16 → EReal) (b : Fin 8) (k : Fin 3) : EReal :=
  T ⟨off1 b + k.val, by have := off1_le b; omega⟩ - N ⟨off2 b + k.val, by have := off2_le b; omega⟩

/-- The class of the difference in sequence, clipped to sixteen either way, and 32 between chains. -/
def relClass (T N : Fin 16 → EReal) (d : BitVec 32) : BitVec 32 :=
  if T 15 = N 15 then IntOp.addi (IntOp.minsi 16#32 (IntOp.maxsi 4294967280#32 d)) 16#32 else 32#32

/-- The features of an edge. -/
def edge (T N : Fin 16 → EReal) (w f : Fin 8 → EReal) (d : BitVec 32) (l : Fin 201) : EReal :=
  lanes201 (fun b => dir (vecs T N b)) (fun b => enc (nrm (vecs T N b)) w)
    (fun j => if BitVec.ofNat 32 j.val = relClass T N d then 1 else 0)
    (fun x => Ideal.cos (((d.toInt : ℝ) : EReal) * f x)) (fun x => Ideal.sin (((d.toInt : ℝ) : EReal) * f x)) l

/-- The inner product of two vectors of three components. -/
def dot (u v : Fin 3 → EReal) : EReal := ∑ k, u k * v k

/-- A vector over its length, the length bounded below by 10⁻⁷. -/
def axis (u : Fin 3 → EReal) (k : Fin 3) : EReal := Ideal.div (u k) (max (nrm u) (Ideal.ofBits FTy.f32 0x33D6BF95#32))

/-- What is left of a vector `u` without its part along `n`. -/
def flat (u n : Fin 3 → EReal) (k : Fin 3) : EReal := u k - dot u n * n k

/-- The cross product of two vectors. -/
def cross (a b : Fin 3 → EReal) : Fin 3 → EReal :=
  ![a 1 * b 2 - a 2 * b 1, a 2 * b 0 - a 0 * b 2, a 0 * b 1 - a 1 * b 0]

/-- The cross product written as a ladder over its three components. -/
theorem cross_eq (n v : Fin 3 → EReal) : (fun x : Fin 3 =>
      if h : x.val < 1 then n ⟨1 + x.val, by omega⟩ * v ⟨2 + x.val, by omega⟩ - n ⟨2 + x.val, by omega⟩ * v ⟨1 + x.val, by omega⟩
      else if h' : x.val - 1 < 1 then
        n ⟨2 + (x.val - 1), by omega⟩ * v ⟨x.val - 1, by omega⟩ - n ⟨x.val - 1, by omega⟩ * v ⟨2 + (x.val - 1), by omega⟩
      else n ⟨x.val - 1 - 1, by omega⟩ * v ⟨1 + (x.val - 1 - 1), by omega⟩
        - n ⟨1 + (x.val - 1 - 1), by omega⟩ * v ⟨x.val - 1 - 1, by omega⟩) = cross n v := by
  funext x
  fin_cases x <;> rfl

/-- The first coordinate of the dihedral angle of three successive vectors. -/
def dihX (b0 b1 b2 : Fin 3 → EReal) : EReal := dot (flat b0 (axis b1)) (flat b2 (axis b1))

/-- The second coordinate of the dihedral angle of three successive vectors. -/
def dihY (b0 b1 b2 : Fin 3 → EReal) : EReal := dot (cross (axis b1) (flat b0 (axis b1))) (flat b2 (axis b1))

/-- The length of a point of the plane, bounded below by 10⁻³⁰. -/
def rad (x y : EReal) : EReal := max (Ideal.sqrt (x * x + y * y)) (Ideal.ofBits FTy.f32 0x0DA24260#32)

/-- The sine and the cosine of the dihedral angle, without the angle. -/
def circ (b0 b1 b2 : Fin 3 → EReal) (k : Fin 2) : EReal :=
  if k.val < 1 then Ideal.div (dihY b0 b1 b2) (rad (dihX b0 b1 b2) (dihY b0 b1 b2))
  else Ideal.div (dihX b0 b1 b2) (rad (dihX b0 b1 b2) (dihY b0 b1 b2))

/-- An atom of a residue's row. -/
def atom (T : Fin 16 → EReal) (a : Fin 5) (k : Fin 3) : EReal := T ⟨3 * a.val + k.val, by omega⟩

/-- A residue's row: five atoms of three lanes, then the kind. -/
def row16 (p0 p1 p2 p3 p4 : Fin 3 → EReal) (q : EReal) (j : Fin 16) : EReal :=
  if h0 : j.val < 3 then p0 ⟨j.val, h0⟩
  else if h1 : j.val - 3 < 3 then p1 ⟨j.val - 3, h1⟩
  else if h2 : j.val - 3 - 3 < 3 then p2 ⟨j.val - 3 - 3, h2⟩
  else if h3 : j.val - 3 - 3 - 3 < 3 then p3 ⟨j.val - 3 - 3 - 3, h3⟩
  else if h4 : j.val - 3 - 3 - 3 - 3 < 3 then p4 ⟨j.val - 3 - 3 - 3 - 3, h4⟩
  else q

/-- The vector from one point to another. -/
def seg (p q : Fin 3 → EReal) (k : Fin 3) : EReal := q k - p k

/-- The virtual atom of a residue from three of its atoms. -/
def beta (p0 p1 p2 : Fin 3 → EReal) (k : Fin 3) : EReal :=
  Ideal.ofBits FTy.f32 0xBF152E13#32 * cross (seg p0 p1) (seg p1 p2) k
    + Ideal.ofBits FTy.f32 0x3F116A4D#32 * seg p0 p1 k - Ideal.ofBits FTy.f32 0x3F0A69A8#32 * seg p1 p2 k + p1 k

/-- A vector's direction and its length's encoding. -/
def block (u : Fin 3 → EReal) (w : Fin 8 → EReal) (x : Fin 19) : EReal :=
  if h : x.val < 3 then dir u ⟨x.val, h⟩ else enc (nrm u) w ⟨x.val - 3, by omega⟩

/-- The lanes of a residue: four blocks, four pairs and a row of sixteen. -/
def lanes100 (B : Fin 4 → Fin 19 → EReal) (A : Fin 4 → Fin 2 → EReal) (Y : Fin 16 → EReal) (l : Fin 100) : EReal :=
  if h : l.val < 76 then B ⟨l.val / 19, by omega⟩ ⟨l.val % 19, by omega⟩
  else if h' : l.val < 84 then A ⟨(l.val - 76) / 2, by omega⟩ ⟨(l.val - 76) % 2, by omega⟩
  else Y ⟨l.val - 84, by omega⟩

variable {B : Fin 4 → Fin 19 → EReal} {A : Fin 4 → Fin 2 → EReal} {Y : Fin 16 → EReal}

/-- A residue's lanes: a block. -/
theorem lanes100_B {x : Fin 100} (b : Fin 4) (k : Fin 19) (hx : x.val = 19 * b.val + k.val) :
    lanes100 B A Y x = B b k := by
  have hb := b.isLt
  have hk := k.isLt
  rw [lanes100, dif_pos (show x.val < 76 by omega)]
  congr 1 <;> (try congr 1) <;> omega

/-- A residue's lanes: a sine or a cosine of an angle. -/
theorem lanes100_A {x : Fin 100} (b : Fin 4) (k : Fin 2) (hx : x.val = 76 + 2 * b.val + k.val) :
    lanes100 B A Y x = A b k := by
  have hb := b.isLt
  have hk := k.isLt
  rw [lanes100, dif_neg (show ¬ x.val < 76 by omega), dif_pos (show x.val < 84 by omega)]
  congr 1 <;> (try congr 1) <;> omega

/-- A residue's lanes: the embedded kind. -/
theorem lanes100_Y {x : Fin 100} (k : Fin 16) (hx : x.val = 84 + k.val) : lanes100 B A Y x = Y k := by
  have hk := k.isLt
  rw [lanes100, dif_neg (show ¬ x.val < 76 by omega), dif_neg (show ¬ x.val < 84 by omega)]
  congr 1; apply Fin.ext; simp only; omega

/-- Every lane of a residue is of one of the three sorts. -/
theorem lanes100_cases (x : Fin 100) :
    (∃ (b : Fin 4) (k : Fin 19), x.val = 19 * b.val + k.val) ∨ (∃ (b : Fin 4) (k : Fin 2), x.val = 76 + 2 * b.val + k.val)
    ∨ (∃ k : Fin 16, x.val = 84 + k.val) := by
  have hx := x.isLt
  by_cases h : x.val < 76
  · exact .inl ⟨⟨x.val / 19, by omega⟩, ⟨x.val % 19, by omega⟩, by simp only; omega⟩
  · by_cases h1 : x.val < 84
    · exact .inr (.inl ⟨⟨(x.val - 76) / 2, by omega⟩, ⟨(x.val - 76) % 2, by omega⟩, by simp only; omega⟩)
    · exact .inr (.inr ⟨⟨x.val - 84, by omega⟩, by simp only; omega⟩)

/-- The four vectors within a residue, from the second atom to the others. -/
def intra (T : Fin 16 → EReal) : Fin 4 → Fin 3 → EReal :=
  ![seg (atom T 1) (atom T 0), seg (atom T 1) (atom T 2), seg (atom T 1) (atom T 3), seg (atom T 1) (atom T 4)]

/-- The first of the three vectors of each dihedral angle, from the rows of the previous residue, the residue and the next. -/
def ang0 (P T X : Fin 16 → EReal) : Fin 4 → Fin 3 → EReal :=
  ![seg (atom T 0) (atom P 2), seg (atom T 1) (atom T 0), seg (atom T 2) (atom T 1), seg (atom T 1) (atom T 0)]

/-- The second of the three vectors of each dihedral angle. -/
def ang1 (P T X : Fin 16 → EReal) : Fin 4 → Fin 3 → EReal :=
  ![seg (atom T 0) (atom T 1), seg (atom T 1) (atom T 2), seg (atom T 2) (atom X 0), seg (atom T 1) (atom T 2)]

/-- The third of the three vectors of each dihedral angle. -/
def ang2 (P T X : Fin 16 → EReal) : Fin 4 → Fin 3 → EReal :=
  ![seg (atom T 1) (atom T 2), seg (atom T 2) (atom X 0), seg (atom X 0) (atom X 1), seg (atom T 2) (atom T 3)]

/-- The row of the embedding for a kind between nought and two, given as a number. -/
def kindRow (M : Fin 3 → Fin 16 → EReal) (q : EReal) (x : Fin 16) : EReal :=
  if min (max q 0) (Ideal.ofBits FTy.f32 0x40000000#32) = 0 then M 0 x
  else if min (max q 0) (Ideal.ofBits FTy.f32 0x40000000#32) = 1 then M 1 x else M 2 x

/-- The features of a residue. -/
def node (P T X : Fin 16 → EReal) (w : Fin 8 → EReal) (M : Fin 3 → Fin 16 → EReal) (l : Fin 100) : EReal :=
  lanes100 (fun b => block (intra T b) w) (fun b => circ (ang0 P T X b) (ang1 P T X b) (ang2 P T X b))
    (kindRow M (T 15)) l

/-- An atom of a residue among the atoms of all. -/
def point (A : (⟨3, ![8192, 4, 3]⟩ : Shape).Idx → EReal) (a : Fin 8192) (n : Fin 4) (k : Fin 3) : EReal := A (ix3 a n k)

/-- A residue's row of atoms, virtual atom and kind. -/
def tab (A : (⟨3, ![8192, 4, 3]⟩ : Shape).Idx → EReal) (K : (⟨1, ![8192]⟩ : Shape).Idx → BitVec 32) (a : Fin 8192) :
    Fin 16 → EReal :=
  row16 (point A a 0) (point A a 1) (point A a 2) (point A a 3) (beta (point A a 0) (point A a 1) (point A a 2))
    (((K (ix1 a)).toInt : ℝ) : EReal)

/-- The squared distances from a residue to the others. -/
def dist (A : (⟨3, ![8192, 4, 3]⟩ : Shape).Idx → EReal) (a : Fin 8192) : Fin 8192 → EReal :=
  d2 (fun b k => point A b 1 k) a

end Cert.Spec
-- ==== Proof.Selection.lean ====
/- Selecting the first `k` of a stably sorted list, in one stage or in two.
   Positions `a` of a list of keys `v` are ordered by key first and by position second (`Prec`). The number of positions before `a`
in that order is its `rank`; a stable sort by key puts at place `s` the one position of rank `s`. From this follows that choosing
the `k` first windows by their least key, and then the `k` first candidates among the elements of those windows, chooses the same
positions in the same order as a sort of all of them.
-/
module

public import Idealize.ShloMosaic.Lib.SortFacts
public import Mathlib.Data.Finset.Card
public import Mathlib.Order.Interval.Finset.Fin

@[expose] public section

namespace Cert.Selection

open Idealize Idealize.ShloMosaic

variable {α : Type} [LinearOrder α]

/-- Position `a` comes before position `b`: a smaller key, or the same key at an earlier position. -/
def Prec {n : Nat} (v : Fin n → α) (a b : Fin n) : Prop := v a < v b ∨ (v a = v b ∧ a < b)

/-- Whether one entry precedes another can be decided. -/
instance {n : Nat} (v : Fin n → α) (a b : Fin n) : Decidable (Prec v a b) := by unfold Prec; infer_instance

/-- No position comes before itself. -/
theorem Prec.irrefl {n : Nat} (v : Fin n → α) (a : Fin n) : ¬ Prec v a a := by
  rintro (h | ⟨_, h⟩)
  · exact lt_irrefl _ h
  · exact lt_irrefl _ h

/-- The order of positions is transitive. -/
theorem Prec.trans {n : Nat} {v : Fin n → α} {a b c : Fin n} (h : Prec v a b) (h' : Prec v b c) : Prec v a c := by
  rcases h with h | ⟨h, h1⟩ <;> rcases h' with h' | ⟨h', h2⟩
  · exact Or.inl (h.trans h')
  · exact Or.inl (h' ▸ h)
  · exact Or.inl (h ▸ h')
  · exact Or.inr ⟨h.trans h', h1.trans h2⟩

/-- Two different positions are ordered one way or the other. -/
theorem Prec.total {n : Nat} (v : Fin n → α) {a b : Fin n} (h : a ≠ b) : Prec v a b ∨ Prec v b a := by
  rcases lt_trichotomy (v a) (v b) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

/-- Inserting a position ahead of all those in an ordered list leaves the list ordered. -/
theorem pairwise_insert {n : Nat} (v : Fin n → α) (a : Fin n) (l : List (Fin n)) (ha : ∀ b ∈ l, a < b)
    (hl : l.Pairwise (Prec v)) : (insertBefore (fun a b => decide (v a < v b)) a l).Pairwise (Prec v) := by
  induction l with
  | nil => exact List.pairwise_singleton _ _
  | cons b l ih =>
    have hl' := List.pairwise_cons.mp hl
    unfold insertBefore
    split
    · rename_i h
      refine List.pairwise_cons.mpr ⟨fun c hc => ?_, ih (fun c hc => ha c (List.mem_cons_of_mem _ hc)) hl'.2⟩
      rcases List.mem_cons.mp ((perm_insertBefore _ a l).mem_iff.mp hc) with rfl | hc'
      · exact Or.inl (of_decide_eq_true h)
      · exact hl'.1 c hc'
    · rename_i h
      have hab : Prec v a b := by
        rcases lt_trichotomy (v a) (v b) with h1 | h1 | h1
        · exact Or.inl h1
        · exact Or.inr ⟨h1, ha b List.mem_cons_self⟩
        · exact absurd (decide_eq_true h1) h
      refine List.pairwise_cons.mpr ⟨fun c hc => ?_, hl⟩
      rcases List.mem_cons.mp hc with rfl | hc'
      · exact hab
      · exact hab.trans (hl'.1 c hc')

/-- A stable sort of positions listed in increasing order is ordered by key first and position second. -/
theorem pairwise_sort {n : Nat} (v : Fin n → α) (l : List (Fin n)) (hl : l.Pairwise (· < ·)) :
    (stableSort (fun a b => decide (v a < v b)) l).Pairwise (Prec v) := by
  induction l with
  | nil => exact List.Pairwise.nil
  | cons a l ih =>
    have hl' := List.pairwise_cons.mp hl
    unfold stableSort
    exact pairwise_insert v a _ (fun b hb => hl'.1 b ((perm_stableSort _ l).mem_iff.mp hb)) (ih hl'.2)

/-- The position a stable sort by the key `v` puts at place `s`. -/
def nth {n : Nat} (v : Fin n → α) (s : Fin n) : Fin n := sortedFrom (fun a b => decide (v a < v b)) s

/-- Places are filled in order. -/
theorem nth_prec {n : Nat} (v : Fin n → α) {i j : Fin n} (h : i < j) : Prec v (nth v i) (nth v j) := by
  have hp := List.pairwise_iff_get.mp (pairwise_sort v (List.finRange n) (List.pairwise_lt_finRange n))
  unfold nth sortedFrom
  exact hp _ _ (show i.val < j.val from h)

/-- Different places hold different positions. -/
theorem nth_injective {n : Nat} (v : Fin n → α) : Function.Injective (nth v) := sortedFrom_injective _

/-- Every position is put at some place. -/
theorem nth_surjective {n : Nat} (v : Fin n → α) : Function.Surjective (nth v) := sortedFrom_surjective _

/-- How many positions come before `a`. -/
def rank {n : Nat} (v : Fin n → α) (a : Fin n) : Nat := (Finset.univ.filter fun b => Prec v b a).card

/-- The position at place `s` has rank `s`. -/
theorem rank_nth {n : Nat} (v : Fin n → α) (s : Fin n) : rank v (nth v s) = s.val := by
  have h : (Finset.univ.filter fun b => Prec v b (nth v s)) = (Finset.univ.filter fun i : Fin n => i < s).image (nth v) := by
    ext b
    simp only [Finset.mem_filter, Finset.mem_univ, true_and, Finset.mem_image]
    constructor
    · intro hb
      obtain ⟨i, rfl⟩ := nth_surjective v b
      refine ⟨i, ?_, rfl⟩
      by_contra hi
      rcases eq_or_lt_of_le (not_lt.mp hi) with h1 | h1
      · exact Prec.irrefl v _ (h1 ▸ hb)
      · exact Prec.irrefl v _ (hb.trans (nth_prec v h1))
    · rintro ⟨i, hi, rfl⟩
      exact nth_prec v hi
  rw [rank, h, Finset.card_image_of_injective _ (nth_injective v)]
  have : (Finset.univ.filter fun i : Fin n => i < s) = Finset.Iio s := by ext i; simp
  rw [this, Fin.card_Iio]

/-- The position of rank `s` is the one at place `s`. -/
theorem eq_nth {n : Nat} (v : Fin n → α) (a s : Fin n) (h : rank v a = s.val) : a = nth v s := by
  obtain ⟨t, rfl⟩ := nth_surjective v a
  rw [rank_nth] at h
  rw [Fin.ext h]

/-- Two-stage selection: the candidates `c` (listed in increasing order) hold every element of each window that is among the
    first `k` by its least key; then the first `k` candidates are the first `k` elements. -/
theorem two_stage {N M P : Nat} (d : Fin N → α) (wm : Fin M → α) (win : Fin N → Fin M) (c : Fin P → Fin N) (k : Nat) (hk : k ≤ M)
    (hwin : ∀ a b, a ≤ b → win a ≤ win b) (hle : ∀ a, wm (win a) ≤ d a) (hatt : ∀ w, ∃ a, win a = w ∧ d a = wm w)
    (hc : StrictMono c) (hcov : ∀ a, rank wm (win a) < k → ∃ q, c q = a)
    (s : Fin P) (hs : s.val < k) (s' : Fin N) (hs' : s'.val = s.val) :
    c (nth (fun q => d (c q)) s) = nth d s' := by
  apply eq_nth
  rw [hs', ← rank_nth (fun q => d (c q)) s]
  set p := nth (fun q => d (c q)) s with hp
  have hprec : ∀ q, Prec (fun q => d (c q)) q p ↔ Prec d (c q) (c p) := by
    intro q
    simp only [Prec, hc.lt_iff_lt]
  have hsub : ∀ b, Prec d b (c p) → ∃ q, c q = b := by
    intro b hb
    by_contra hno
    have hw : ¬ rank wm (win b) < k := fun h => hno (hcov b h)
    -- every window among the first `k` comes before the window of `b`
    have hbefore : ∀ w, rank wm w < k → Prec wm w (win b) := by
      intro w hwk
      have hne : w ≠ win b := fun h => hw (h ▸ hwk)
      rcases Prec.total wm hne with h | h
      · exact h
      · exfalso
        apply hw
        refine lt_of_le_of_lt (Finset.card_le_card ?_) hwk
        intro x hx
        simp only [Finset.mem_filter, Finset.mem_univ, true_and] at hx ⊢
        exact hx.trans h
    choose e he1 he2 using hatt
    -- the least element of each such window is a candidate that comes before `b`, hence before `c p`
    have hfew : (Finset.univ.filter fun w : Fin M => rank wm w < k).card ≤ rank (fun q => d (c q)) p := by
      have hq : ∀ w, rank wm w < k → ∃ q, c q = e w := fun w hwk => hcov _ (by rw [he1]; exact hwk)
      have himg : (Finset.univ.filter fun w : Fin M => rank wm w < k).image e
          ⊆ (Finset.univ.filter fun q => Prec (fun q => d (c q)) q p).image c := by
        intro x hx
        simp only [Finset.mem_image, Finset.mem_filter, Finset.mem_univ, true_and] at hx ⊢
        obtain ⟨w, hwk, rfl⟩ := hx
        obtain ⟨q, hqe⟩ := hq w hwk
        refine ⟨q, ?_, hqe⟩
        rw [hprec, hqe]
        refine Prec.trans ?_ hb
        rcases hbefore w hwk with h | ⟨h, h'⟩
        · exact Or.inl (by rw [he2]; exact lt_of_lt_of_le h (hle b))
        · rcases lt_or_eq_of_le (hle b) with h1 | h1
          · exact Or.inl (by rw [he2, h]; exact h1)
          · refine Or.inr ⟨by rw [he2, h, h1], ?_⟩
            by_contra hge
            have := hwin b (e w) (not_lt.mp hge)
            rw [he1] at this
            exact absurd h' (not_lt.mpr this)
      have heinj : Function.Injective e := by
        intro w w' h
        have := congrArg win h
        rwa [he1, he1] at this
      have h1 := Finset.card_le_card himg
      rw [Finset.card_image_of_injective _ heinj, Finset.card_image_of_injective _ hc.injective] at h1
      exact h1
    have hcount : k ≤ (Finset.univ.filter fun w : Fin M => rank wm w < k).card := by
      have hsub2 : (Finset.univ : Finset (Fin k)).image (fun i => nth wm (i.castLE hk))
          ⊆ (Finset.univ.filter fun w : Fin M => rank wm w < k) := by
        intro x hx
        simp only [Finset.mem_image, Finset.mem_filter, Finset.mem_univ, true_and] at hx ⊢
        obtain ⟨i, rfl⟩ := hx
        rw [rank_nth]
        exact i.isLt
      have h2 := Finset.card_le_card hsub2
      rw [Finset.card_image_of_injective _ (fun i j h => by
        have := nth_injective wm h
        exact Fin.ext (by simpa using congrArg Fin.val this))] at h2
      simpa using h2
    have hrank := rank_nth (fun q => d (c q)) s
    rw [← hp] at hrank
    omega
  have hset : (Finset.univ.filter fun b => Prec d b (c p)) = (Finset.univ.filter fun q => Prec (fun q => d (c q)) q p).image c := by
    ext b
    simp only [Finset.mem_image, Finset.mem_filter, Finset.mem_univ, true_and]
    constructor
    · intro hb
      obtain ⟨q, rfl⟩ := hsub b hb
      exact ⟨q, (hprec q).mpr hb, rfl⟩
    · rintro ⟨q, hq, rfl⟩
      exact (hprec q).mp hq
  rw [rank, hset, Finset.card_image_of_injective _ hc.injective, rank]

end Cert.Selection

end
-- ==== Proof.HostIndex.lean ====
/- The programs' host gathers and top-k selections, read at an index. -/
module

public import proofs.«01_k».proof.KernelIdeal
public import proofs.«01_k».proof.ReferenceIdeal
public import proofs.«01_k».proof.Proof.Gen.KernelIdeal
public import proofs.«01_k».proof.Proof.Gen.ReferenceIdeal
public import proofs.«01_k».proof.Proof.Selection
public import Idealize.ShloMosaic.Lib.Pointwise

@[expose] public section

noncomputable section

namespace Cert.HostIndex

open Idealize.ShloMosaic Cert.Selection

/-- A word holding a natural below `2 ^ 31`, read signed and clamped to a bound it does not pass, is that natural. -/
theorem clamp_ofNat (n b : Nat) (h : n ≤ b) (hb : b < 2 ^ 31) : min (BitVec.ofNat 32 n).toInt.toNat b = n := by
  have h1 : (BitVec.ofNat 32 n).toInt = (n : Int) := by
    rw [BitVec.toInt_eq_toNat_of_lt]
    · simp [BitVec.toNat_ofNat]; omega
    · simp [BitVec.toNat_ofNat]; omega
  rw [h1]
  simp [h]

/-- A coordinate on an axis found to be `a` is the coordinate on `a`. -/
theorem coord_eq {t : Shape} (j : t.Idx) (X a : Fin t.rank) (h : X = a) : (j X).val = (j a).val := by subst h; rfl

section kernel
open Cert.KernelIdeal

/-- Distances taken along a row by index words. -/
theorem gather_dist {α : Type} (x : S8192x8192.Idx → α) (idx : IVec S8192x768x1 32) (r : Fin 8192) (q : Fin 768) (n : Fin 8192)
    (hn : idx (ix3 r q 0) = BitVec.ofNat 32 n.val) :
    Host.gather gather_S8192x8192_S8192x768x1_S8192x768_n_1_0_0_1_2_11 x idx (ix2 r q) = x (ix2 r n) := by
  unfold Host.gather
  refine congrArg x (funext fun a => Fin.ext ?_)
  match a with
  | ⟨0, _⟩ =>
    show gather_S8192x8192_S8192x768x1_S8192x768_n_1_0_0_1_2_11.start (ix2 r q) idx 0 + gather_S8192x8192_S8192x768x1_S8192x768_n_1_0_0_1_2_11.batchCoord (ix2 r q) 0 + gather_S8192x8192_S8192x768x1_S8192x768_n_1_0_0_1_2_11.offCoord (ix2 r q) 0 = (ix2 r n 0).val
    rw [GatherDims.start_batching _ _ _ _ (by decide), GatherDims.offCoord_eq_zero _ _ _ (by decide)]
    unfold GatherDims.batchCoord
    rw [dif_pos (by decide)]
    unfold GatherDims.siCoord
    simp only [Nat.zero_add, Nat.add_zero]
    exact coord_eq (ix2 r q) _ 0 (by decide)
  | ⟨1, _⟩ =>
    show gather_S8192x8192_S8192x768x1_S8192x768_n_1_0_0_1_2_11.start (ix2 r q) idx 1 + gather_S8192x8192_S8192x768x1_S8192x768_n_1_0_0_1_2_11.batchCoord (ix2 r q) 1 + gather_S8192x8192_S8192x768x1_S8192x768_n_1_0_0_1_2_11.offCoord (ix2 r q) 1 = (ix2 r n 1).val
    rw [GatherDims.batchCoord_eq_zero _ _ _ (by decide), GatherDims.offCoord_eq_zero _ _ _ (by decide)]
    unfold GatherDims.start
    rw [dif_pos (by decide)]
    have hsi : ∀ h, gather_S8192x8192_S8192x768x1_S8192x768_n_1_0_0_1_2_11.siIdx (ix2 r q) ⟨gather_S8192x8192_S8192x768x1_S8192x768_n_1_0_0_1_2_11.startIndexMap.idxOf 1, h⟩ = ix3 r q 0 := by
      intro h
      funext b
      apply Fin.ext
      match b with
      | ⟨0, _⟩ =>
        unfold GatherDims.siIdx
        split
        · rename_i he
          exact absurd (show (0 : Nat) = 2 from he) (by decide)
        · unfold GatherDims.siCoord
          exact coord_eq (ix2 r q) (gather_S8192x8192_S8192x768x1_S8192x768_n_1_0_0_1_2_11.batchDims[List.idxOf (0 : Fin S8192x768x1.rank) gather_S8192x8192_S8192x768x1_S8192x768_n_1_0_0_1_2_11.siKept]'(by decide)) 0 (by decide)
      | ⟨1, _⟩ =>
        unfold GatherDims.siIdx
        split
        · rename_i he
          exact absurd (show (1 : Nat) = 2 from he) (by decide)
        · unfold GatherDims.siCoord
          exact coord_eq (ix2 r q) (gather_S8192x8192_S8192x768x1_S8192x768_n_1_0_0_1_2_11.batchDims[List.idxOf (1 : Fin S8192x768x1.rank) gather_S8192x8192_S8192x768x1_S8192x768_n_1_0_0_1_2_11.siKept]'(by decide)) 1 (by decide)
      | ⟨2, _⟩ =>
        unfold GatherDims.siIdx
        split
        · exact (by decide : List.idxOf (1 : Fin S8192x8192.rank) gather_S8192x8192_S8192x768x1_S8192x768_n_1_0_0_1_2_11.startIndexMap = 0)
        · rename_i hne
          exact absurd rfl hne
    rw [hsi, hn]
    show min (BitVec.ofNat 32 n.val).toInt.toNat (8192 - 1) + 0 + 0 = n.val
    exact clamp_ofNat _ _ (by omega) (by omega)

/-- Candidates taken along a row by index words. -/
theorem gather_cand {α : Type} (x : S8192x768.Idx → α) (idx : IVec S8192x48x1 32) (r : Fin 8192) (s : Fin 48) (n : Fin 768)
    (hn : idx (ix3 r s 0) = BitVec.ofNat 32 n.val) :
    Host.gather gather_S8192x768_S8192x48x1_S8192x48_n_1_0_0_1_2_11 x idx (ix2 r s) = x (ix2 r n) := by
  unfold Host.gather
  refine congrArg x (funext fun a => Fin.ext ?_)
  match a with
  | ⟨0, _⟩ =>
    show gather_S8192x768_S8192x48x1_S8192x48_n_1_0_0_1_2_11.start (ix2 r s) idx 0 + gather_S8192x768_S8192x48x1_S8192x48_n_1_0_0_1_2_11.batchCoord (ix2 r s) 0 + gather_S8192x768_S8192x48x1_S8192x48_n_1_0_0_1_2_11.offCoord (ix2 r s) 0 = (ix2 r n 0).val
    rw [GatherDims.start_batching _ _ _ _ (by decide), GatherDims.offCoord_eq_zero _ _ _ (by decide)]
    unfold GatherDims.batchCoord
    rw [dif_pos (by decide)]
    unfold GatherDims.siCoord
    simp only [Nat.zero_add, Nat.add_zero]
    exact coord_eq (ix2 r s) _ 0 (by decide)
  | ⟨1, _⟩ =>
    show gather_S8192x768_S8192x48x1_S8192x48_n_1_0_0_1_2_11.start (ix2 r s) idx 1 + gather_S8192x768_S8192x48x1_S8192x48_n_1_0_0_1_2_11.batchCoord (ix2 r s) 1 + gather_S8192x768_S8192x48x1_S8192x48_n_1_0_0_1_2_11.offCoord (ix2 r s) 1 = (ix2 r n 1).val
    rw [GatherDims.batchCoord_eq_zero _ _ _ (by decide), GatherDims.offCoord_eq_zero _ _ _ (by decide)]
    unfold GatherDims.start
    rw [dif_pos (by decide)]
    have hsi : ∀ h, gather_S8192x768_S8192x48x1_S8192x48_n_1_0_0_1_2_11.siIdx (ix2 r s) ⟨gather_S8192x768_S8192x48x1_S8192x48_n_1_0_0_1_2_11.startIndexMap.idxOf 1, h⟩ = ix3 r s 0 := by
      intro h
      funext b
      apply Fin.ext
      match b with
      | ⟨0, _⟩ =>
        unfold GatherDims.siIdx
        split
        · rename_i he
          exact absurd (show (0 : Nat) = 2 from he) (by decide)
        · unfold GatherDims.siCoord
          exact coord_eq (ix2 r s) (gather_S8192x768_S8192x48x1_S8192x48_n_1_0_0_1_2_11.batchDims[List.idxOf (0 : Fin S8192x48x1.rank) gather_S8192x768_S8192x48x1_S8192x48_n_1_0_0_1_2_11.siKept]'(by decide)) 0 (by decide)
      | ⟨1, _⟩ =>
        unfold GatherDims.siIdx
        split
        · rename_i he
          exact absurd (show (1 : Nat) = 2 from he) (by decide)
        · unfold GatherDims.siCoord
          exact coord_eq (ix2 r s) (gather_S8192x768_S8192x48x1_S8192x48_n_1_0_0_1_2_11.batchDims[List.idxOf (1 : Fin S8192x48x1.rank) gather_S8192x768_S8192x48x1_S8192x48_n_1_0_0_1_2_11.siKept]'(by decide)) 1 (by decide)
      | ⟨2, _⟩ =>
        unfold GatherDims.siIdx
        split
        · exact (by decide : List.idxOf (1 : Fin S8192x768.rank) gather_S8192x768_S8192x48x1_S8192x48_n_1_0_0_1_2_11.startIndexMap = 0)
        · rename_i hne
          exact absurd rfl hne
    rw [hsi, hn]
    show min (BitVec.ofNat 32 n.val).toInt.toNat (768 - 1) + 0 + 0 = n.val
    exact clamp_ofNat _ _ (by omega) (by omega)

/-- Rows of the atom table taken by index words. -/
theorem gather_table {α : Type} (x : S8192x16.Idx → α) (idx : IVec S393216x1 32) (p : Fin 393216) (l : Fin 16) (n : Fin 8192)
    (hn : idx (ix2 p 0) = BitVec.ofNat 32 n.val) :
    Host.gather gather_S8192x16_S393216x1_S393216x16_1_0_n_n_0_1_116 x idx (ix2 p l) = x (ix2 n l) := by
  unfold Host.gather
  refine congrArg x (funext fun a => Fin.ext ?_)
  match a with
  | ⟨0, _⟩ =>
    show gather_S8192x16_S393216x1_S393216x16_1_0_n_n_0_1_116.start (ix2 p l) idx 0 + gather_S8192x16_S393216x1_S393216x16_1_0_n_n_0_1_116.batchCoord (ix2 p l) 0 + gather_S8192x16_S393216x1_S393216x16_1_0_n_n_0_1_116.offCoord (ix2 p l) 0 = (ix2 n l 0).val
    rw [GatherDims.batchCoord_eq_zero _ _ _ (by decide), GatherDims.offCoord_eq_zero _ _ _ (by decide)]
    unfold GatherDims.start
    rw [dif_pos (by decide)]
    have hsi : ∀ h, gather_S8192x16_S393216x1_S393216x16_1_0_n_n_0_1_116.siIdx (ix2 p l) ⟨gather_S8192x16_S393216x1_S393216x16_1_0_n_n_0_1_116.startIndexMap.idxOf 0, h⟩ = ix2 p 0 := by
      intro h
      funext b
      apply Fin.ext
      match b with
      | ⟨0, _⟩ =>
        unfold GatherDims.siIdx
        split
        · rename_i he
          exact absurd (show (0 : Nat) = 1 from he) (by decide)
        · unfold GatherDims.siCoord
          exact coord_eq (ix2 p l) (gather_S8192x16_S393216x1_S393216x16_1_0_n_n_0_1_116.batchDims[List.idxOf (0 : Fin S393216x1.rank) gather_S8192x16_S393216x1_S393216x16_1_0_n_n_0_1_116.siKept]'(by decide)) 0 (by decide)
      | ⟨1, _⟩ =>
        unfold GatherDims.siIdx
        split
        · exact (by decide : List.idxOf (0 : Fin S8192x16.rank) gather_S8192x16_S393216x1_S393216x16_1_0_n_n_0_1_116.startIndexMap = 0)
        · rename_i hne
          exact absurd rfl hne
    rw [hsi, hn]
    show min (BitVec.ofNat 32 n.val).toInt.toNat (8192 - 1) + 0 + 0 = n.val
    exact clamp_ofNat _ _ (by omega) (by omega)
  | ⟨1, _⟩ =>
    show gather_S8192x16_S393216x1_S393216x16_1_0_n_n_0_1_116.start (ix2 p l) idx 1 + gather_S8192x16_S393216x1_S393216x16_1_0_n_n_0_1_116.batchCoord (ix2 p l) 1 + gather_S8192x16_S393216x1_S393216x16_1_0_n_n_0_1_116.offCoord (ix2 p l) 1 = (ix2 n l 1).val
    rw [GatherDims.batchCoord_eq_zero _ _ _ (by decide)]
    unfold GatherDims.start
    rw [dif_neg (by decide)]
    unfold GatherDims.offCoord
    rw [dif_pos (by decide)]
    simp only [Nat.zero_add]
    exact coord_eq (ix2 p l) _ 1 (by decide)

end kernel

section reference
open Cert.ReferenceIdeal

/-- Atoms of the neighbours taken by index words. -/
theorem gather_atom {α : Type} (x : S8192x3.Idx → α) (idx : IVec S8192x48x1 32) (r : Fin 8192) (s : Fin 48) (k : Fin 3) (n : Fin 8192)
    (hn : idx (ix3 r s 0) = BitVec.ofNat 32 n.val) :
    Host.gather gather_S8192x3_S8192x48x1_S8192x48x3_2_0_n_n_0_2_13 x idx (ix3 r s k) = x (ix2 n k) := by
  unfold Host.gather
  refine congrArg x (funext fun a => Fin.ext ?_)
  match a with
  | ⟨0, _⟩ =>
    show gather_S8192x3_S8192x48x1_S8192x48x3_2_0_n_n_0_2_13.start (ix3 r s k) idx 0 + gather_S8192x3_S8192x48x1_S8192x48x3_2_0_n_n_0_2_13.batchCoord (ix3 r s k) 0 + gather_S8192x3_S8192x48x1_S8192x48x3_2_0_n_n_0_2_13.offCoord (ix3 r s k) 0 = (ix2 n k 0).val
    rw [GatherDims.batchCoord_eq_zero _ _ _ (by decide), GatherDims.offCoord_eq_zero _ _ _ (by decide)]
    unfold GatherDims.start
    rw [dif_pos (by decide)]
    have hsi : ∀ h, gather_S8192x3_S8192x48x1_S8192x48x3_2_0_n_n_0_2_13.siIdx (ix3 r s k) ⟨gather_S8192x3_S8192x48x1_S8192x48x3_2_0_n_n_0_2_13.startIndexMap.idxOf 0, h⟩ = ix3 r s 0 := by
      intro h
      funext b
      apply Fin.ext
      match b with
      | ⟨0, _⟩ =>
        unfold GatherDims.siIdx
        split
        · rename_i he
          exact absurd (show (0 : Nat) = 2 from he) (by decide)
        · unfold GatherDims.siCoord
          exact coord_eq (ix3 r s k) (gather_S8192x3_S8192x48x1_S8192x48x3_2_0_n_n_0_2_13.batchDims[List.idxOf (0 : Fin S8192x48x1.rank) gather_S8192x3_S8192x48x1_S8192x48x3_2_0_n_n_0_2_13.siKept]'(by decide)) 0 (by decide)
      | ⟨1, _⟩ =>
        unfold GatherDims.siIdx
        split
        · rename_i he
          exact absurd (show (1 : Nat) = 2 from he) (by decide)
        · unfold GatherDims.siCoord
          exact coord_eq (ix3 r s k) (gather_S8192x3_S8192x48x1_S8192x48x3_2_0_n_n_0_2_13.batchDims[List.idxOf (1 : Fin S8192x48x1.rank) gather_S8192x3_S8192x48x1_S8192x48x3_2_0_n_n_0_2_13.siKept]'(by decide)) 1 (by decide)
      | ⟨2, _⟩ =>
        unfold GatherDims.siIdx
        split
        · exact (by decide : List.idxOf (0 : Fin S8192x3.rank) gather_S8192x3_S8192x48x1_S8192x48x3_2_0_n_n_0_2_13.startIndexMap = 0)
        · rename_i hne
          exact absurd rfl hne
    rw [hsi, hn]
    show min (BitVec.ofNat 32 n.val).toInt.toNat (8192 - 1) + 0 + 0 = n.val
    exact clamp_ofNat _ _ (by omega) (by omega)
  | ⟨1, _⟩ =>
    show gather_S8192x3_S8192x48x1_S8192x48x3_2_0_n_n_0_2_13.start (ix3 r s k) idx 1 + gather_S8192x3_S8192x48x1_S8192x48x3_2_0_n_n_0_2_13.batchCoord (ix3 r s k) 1 + gather_S8192x3_S8192x48x1_S8192x48x3_2_0_n_n_0_2_13.offCoord (ix3 r s k) 1 = (ix2 n k 1).val
    rw [GatherDims.batchCoord_eq_zero _ _ _ (by decide)]
    unfold GatherDims.start
    rw [dif_neg (by decide)]
    unfold GatherDims.offCoord
    rw [dif_pos (by decide)]
    simp only [Nat.zero_add]
    exact coord_eq (ix3 r s k) _ 2 (by decide)

/-- Words of the neighbours taken by index words. -/
theorem gather_word {α : Type} (x : S8192.Idx → α) (idx : IVec S8192x48x1 32) (r : Fin 8192) (s : Fin 48) (n : Fin 8192)
    (hn : idx (ix3 r s 0) = BitVec.ofNat 32 n.val) :
    Host.gather gather_S8192_S8192x48x1_S8192x48_n_0_n_n_0_2_1 x idx (ix2 r s) = x (ix1 n) := by
  unfold Host.gather
  refine congrArg x (funext fun a => Fin.ext ?_)
  match a with
  | ⟨0, _⟩ =>
    show gather_S8192_S8192x48x1_S8192x48_n_0_n_n_0_2_1.start (ix2 r s) idx 0 + gather_S8192_S8192x48x1_S8192x48_n_0_n_n_0_2_1.batchCoord (ix2 r s) 0 + gather_S8192_S8192x48x1_S8192x48_n_0_n_n_0_2_1.offCoord (ix2 r s) 0 = (ix1 n 0).val
    rw [GatherDims.batchCoord_eq_zero _ _ _ (by decide), GatherDims.offCoord_eq_zero _ _ _ (by decide)]
    unfold GatherDims.start
    rw [dif_pos (by decide)]
    have hsi : ∀ h, gather_S8192_S8192x48x1_S8192x48_n_0_n_n_0_2_1.siIdx (ix2 r s) ⟨gather_S8192_S8192x48x1_S8192x48_n_0_n_n_0_2_1.startIndexMap.idxOf 0, h⟩ = ix3 r s 0 := by
      intro h
      funext b
      apply Fin.ext
      match b with
      | ⟨0, _⟩ =>
        unfold GatherDims.siIdx
        split
        · rename_i he
          exact absurd (show (0 : Nat) = 2 from he) (by decide)
        · unfold GatherDims.siCoord
          exact coord_eq (ix2 r s) (gather_S8192_S8192x48x1_S8192x48_n_0_n_n_0_2_1.batchDims[List.idxOf (0 : Fin S8192x48x1.rank) gather_S8192_S8192x48x1_S8192x48_n_0_n_n_0_2_1.siKept]'(by decide)) 0 (by decide)
      | ⟨1, _⟩ =>
        unfold GatherDims.siIdx
        split
        · rename_i he
          exact absurd (show (1 : Nat) = 2 from he) (by decide)
        · unfold GatherDims.siCoord
          exact coord_eq (ix2 r s) (gather_S8192_S8192x48x1_S8192x48_n_0_n_n_0_2_1.batchDims[List.idxOf (1 : Fin S8192x48x1.rank) gather_S8192_S8192x48x1_S8192x48_n_0_n_n_0_2_1.siKept]'(by decide)) 1 (by decide)
      | ⟨2, _⟩ =>
        unfold GatherDims.siIdx
        split
        · exact (by decide : List.idxOf (0 : Fin S8192.rank) gather_S8192_S8192x48x1_S8192x48_n_0_n_n_0_2_1.startIndexMap = 0)
        · rename_i hne
          exact absurd rfl hne
    rw [hsi, hn]
    show min (BitVec.ofNat 32 n.val).toInt.toNat (8192 - 1) + 0 + 0 = n.val
    exact clamp_ofNat _ _ (by omega) (by omega)

/-- Rows of the type table taken by index words. -/
theorem gather_type {α : Type} (x : S3x16.Idx → α) (idx : IVec S8192x1 32) (r : Fin 8192) (k : Fin 16) (n : Fin 3)
    (hn : idx (ix2 r 0) = BitVec.ofNat 32 n.val) :
    Host.gather gather_S3x16_S8192x1_S8192x16_1_0_n_n_0_1_116 x idx (ix2 r k) = x (ix2 n k) := by
  unfold Host.gather
  refine congrArg x (funext fun a => Fin.ext ?_)
  match a with
  | ⟨0, _⟩ =>
    show gather_S3x16_S8192x1_S8192x16_1_0_n_n_0_1_116.start (ix2 r k) idx 0 + gather_S3x16_S8192x1_S8192x16_1_0_n_n_0_1_116.batchCoord (ix2 r k) 0 + gather_S3x16_S8192x1_S8192x16_1_0_n_n_0_1_116.offCoord (ix2 r k) 0 = (ix2 n k 0).val
    rw [GatherDims.batchCoord_eq_zero _ _ _ (by decide), GatherDims.offCoord_eq_zero _ _ _ (by decide)]
    unfold GatherDims.start
    rw [dif_pos (by decide)]
    have hsi : ∀ h, gather_S3x16_S8192x1_S8192x16_1_0_n_n_0_1_116.siIdx (ix2 r k) ⟨gather_S3x16_S8192x1_S8192x16_1_0_n_n_0_1_116.startIndexMap.idxOf 0, h⟩ = ix2 r 0 := by
      intro h
      funext b
      apply Fin.ext
      match b with
      | ⟨0, _⟩ =>
        unfold GatherDims.siIdx
        split
        · rename_i he
          exact absurd (show (0 : Nat) = 1 from he) (by decide)
        · unfold GatherDims.siCoord
          exact coord_eq (ix2 r k) (gather_S3x16_S8192x1_S8192x16_1_0_n_n_0_1_116.batchDims[List.idxOf (0 : Fin S8192x1.rank) gather_S3x16_S8192x1_S8192x16_1_0_n_n_0_1_116.siKept]'(by decide)) 0 (by decide)
      | ⟨1, _⟩ =>
        unfold GatherDims.siIdx
        split
        · exact (by decide : List.idxOf (0 : Fin S3x16.rank) gather_S3x16_S8192x1_S8192x16_1_0_n_n_0_1_116.startIndexMap = 0)
        · rename_i hne
          exact absurd rfl hne
    rw [hsi, hn]
    show min (BitVec.ofNat 32 n.val).toInt.toNat (3 - 1) + 0 + 0 = n.val
    exact clamp_ofNat _ _ (by omega) (by omega)
  | ⟨1, _⟩ =>
    show gather_S3x16_S8192x1_S8192x16_1_0_n_n_0_1_116.start (ix2 r k) idx 1 + gather_S3x16_S8192x1_S8192x16_1_0_n_n_0_1_116.batchCoord (ix2 r k) 1 + gather_S3x16_S8192x1_S8192x16_1_0_n_n_0_1_116.offCoord (ix2 r k) 1 = (ix2 n k 1).val
    rw [GatherDims.batchCoord_eq_zero _ _ _ (by decide)]
    unfold GatherDims.start
    rw [dif_neg (by decide)]
    unfold GatherDims.offCoord
    rw [dif_pos (by decide)]
    simp only [Nat.zero_add]
    exact coord_eq (ix2 r k) _ 1 (by decide)

end reference

/-- A comparison "greater" of two negated keys is a comparison "smaller" of the keys. -/
theorem gt_neg (a b : EReal) :
    (FloatOps.cmpfTotal (F := Ideal) (φ := .f32) .gt (-a) (-b) == 1#1) = decide (a < b) := by
  show ((BitVec.ofBool (decide (-b < -a))) == 1#1) = decide (a < b)
  have h : (-b < -a) ↔ a < b := EReal.neg_lt_neg_iff
  by_cases hab : a < b <;> simp [h, hab]

/-- The index words of a top-k over the negated keys `d` of a row: the positions a stable sort by `d` puts first. -/
theorem topK_index {R N K : Nat} (x : (⟨2, ![R, N]⟩ : Shape).Idx → EReal) (h : (⟨2, ![R, N]⟩ : Shape).Slices (fun _ => 0) ⟨2, ![R, K]⟩)
    (r : Fin R) (d : Fin N → EReal) (hx : ∀ k, x (ix2 r k) = -d k) (s : Fin K) (s' : Fin N) (hs : s'.val = s.val) :
    (Host.topK ⟨2, ![R, K]⟩ 1 (FloatOps.cmpfTotal (F := Ideal) (φ := .f32) .gt) x h).2 (ix2 r s) = BitVec.ofNat 32 (nth d s').val := by
  have key : (fun k k' : Fin N => FloatOps.cmpfTotal (F := Ideal) (φ := .f32) .gt
      (x ((ix2 r s' : (⟨2, ![R, N]⟩ : Shape).Idx).along (1 : Fin 2) k)) (x ((ix2 r s' : (⟨2, ![R, N]⟩ : Shape).Idx).along (1 : Fin 2) k')) == 1#1)
      = fun k k' => decide (d k < d k') := by
    have hidx : ∀ k : Fin N, (ix2 r s' : (⟨2, ![R, N]⟩ : Shape).Idx).along (1 : Fin 2) k = ix2 r k := by
      intro k
      funext a
      match a with
      | ⟨0, _⟩ => rfl
      | ⟨1, _⟩ => rfl
    funext k k'
    rw [hidx, hidx, hx, hx, gt_neg]
  have hj : (fun a : Fin 2 => (⟨0 + ((ix2 r s : (⟨2, ![R, K]⟩ : Shape).Idx) (a.cast h.1.symm)).val,
      Nat.lt_of_lt_of_le (Nat.add_lt_add_left (Fin.isLt _) _) (h.2 a)⟩ : Fin ((⟨2, ![R, N]⟩ : Shape).size a))) = ix2 r s' := by
    funext a
    match a with
    | ⟨0, _⟩ => exact Fin.ext (Nat.zero_add _)
    | ⟨1, _⟩ => exact Fin.ext ((Nat.zero_add _).trans hs.symm)
  unfold Host.topK Host.sort2
  simp only [show (1 : Nat) < (⟨2, ![R, N]⟩ : Shape).rank from Nat.one_lt_two, ↓reduceDIte]
  unfold extractStridedSlice
  simp only [hj]
  show BitVec.ofNat 32 (sortedFrom (fun k k' : Fin N => FloatOps.cmpfTotal (F := Ideal) (φ := .f32) .gt
      (x ((ix2 r s' : (⟨2, ![R, N]⟩ : Shape).Idx).along (1 : Fin 2) k)) (x ((ix2 r s' : (⟨2, ![R, N]⟩ : Shape).Idx).along (1 : Fin 2) k')) == 1#1)
      (⟨0 + s.val, by rw [Nat.zero_add, ← hs]; exact s'.isLt⟩ : Fin N)).val = _
  rw [key, show (⟨0 + s.val, by rw [Nat.zero_add, ← hs]; exact s'.isLt⟩ : Fin N) = s' from Fin.ext ((Nat.zero_add _).trans hs.symm)]
  rfl

end Cert.HostIndex

end
-- ==== Proof.KernelHost.lean ====
/- The host's arrays between the launches of the idealized kernel, read at an index. -/
module

public import proofs.«01_k».proof.Proof.Gen.KernelIdeal.Frame
public import proofs.«01_k».proof.Proof.Spec
public import proofs.«01_k».proof.Proof.HostIndex
public import Idealize.ShloMosaic.Lib.Pointwise
public import Idealize.ShloMosaic.Lib.StableHlo.ReadAt

@[expose] public section

set_option maxRecDepth 16384

noncomputable section

namespace Cert.KernelHost

open Idealize.ShloMosaic Idealize.ShloMosaic.TcCoe
open Cert.KernelIdeal Cert.KernelIdeal.Gen

variable (V : Valuation τ sig (Elt Ideal))

/-- The first atoms. -/
theorem v1 (a : Fin 8192) (k : Fin 3) : StableHlo.after hostOps0 V (Proc.devRef .tc main_v1) (ix2 a k)
    = V (Proc.devRef .tc main_arg0) (ix3 a 0 k) := by
  after_reads_at

/-- The second atoms. -/
theorem v3 (a : Fin 8192) (k : Fin 3) : StableHlo.after hostOps0 V (Proc.devRef .tc main_v3) (ix2 a k)
    = V (Proc.devRef .tc main_arg0) (ix3 a 1 k) := by
  after_reads_at

/-- The third atoms. -/
theorem v5 (a : Fin 8192) (k : Fin 3) : StableHlo.after hostOps0 V (Proc.devRef .tc main_v5) (ix2 a k)
    = V (Proc.devRef .tc main_arg0) (ix3 a 2 k) := by
  after_reads_at

/-- The vectors from the first atoms to the second. -/
theorem v6 (a : Fin 8192) (k : Fin 3) : StableHlo.after hostOps0 V (Proc.devRef .tc main_v6) (ix2 a k)
    = Spec.seg (fun k => V (Proc.devRef .tc main_arg0) (ix3 a 0 k)) (fun k => V (Proc.devRef .tc main_arg0) (ix3 a 1 k)) k := by
  after_reads_at
  rfl

/-- The vectors from the second atoms to the third. -/
theorem v7 (a : Fin 8192) (k : Fin 3) : StableHlo.after hostOps0 V (Proc.devRef .tc main_v7) (ix2 a k)
    = Spec.seg (fun k => V (Proc.devRef .tc main_arg0) (ix3 a 1 k)) (fun k => V (Proc.devRef .tc main_arg0) (ix3 a 2 k)) k := by
  after_reads_at
  rfl

/-- The cross products of these two vectors. -/
theorem v8 (a : Fin 8192) (k : Fin 3) : StableHlo.after hostOps0_1 V (Proc.devRef .tc main_v8) (ix2 a k)
    = Spec.cross (fun k => V (Proc.devRef .tc main_v6) (ix2 a k)) (fun k => V (Proc.devRef .tc main_v7) (ix2 a k)) k := by
  after_reads_at
  after_reads_at
  fin_cases k <;> rfl

/-- The table of residues. -/
theorem v22 (a : Fin 8192) (j : Fin 16) : StableHlo.after hostOps0_2 V (Proc.devRef .tc main_v22) (ix2 a j)
    = Spec.row16 (fun k => V (Proc.devRef .tc main_v1) (ix2 a k)) (fun k => V (Proc.devRef .tc main_v3) (ix2 a k))
        (fun k => V (Proc.devRef .tc main_v5) (ix2 a k)) (fun k => V (Proc.devRef .tc main_arg0) (ix3 a 3 k))
        (fun k => Ideal.ofBits FTy.f32 0xBF152E13#32 * V (Proc.devRef .tc main_v8) (ix2 a k)
          + Ideal.ofBits FTy.f32 0x3F116A4D#32 * V (Proc.devRef .tc main_v6) (ix2 a k)
          - Ideal.ofBits FTy.f32 0x3F0A69A8#32 * V (Proc.devRef .tc main_v7) (ix2 a k) + V (Proc.devRef .tc main_v3) (ix2 a k))
        (((V (Proc.devRef .tc main_arg4) (ix1 a)).toInt : ℝ) : EReal) j := by
  after_reads_at
  after_reads_at
  rfl

/-- The second atoms, as the distances take them. -/
theorem v24 (a : Fin 8192) (k : Fin 3) : StableHlo.after hostOps0_2 V (Proc.devRef .tc main_v24) (ix2 a k)
    = V (Proc.devRef .tc main_arg0) (ix3 a 1 k) := by
  after_reads_at

/-- The padded points: the three coordinates. -/
theorem v25_lt (a : Fin 8192) (k : Fin 8) (h : k.val < 3) : StableHlo.after hostOps0_3 V (Proc.devRef .tc main_v25) (ix2 a k)
    = V (Proc.devRef .tc main_v24) (ix2 a ⟨k.val, h⟩) := by
  after_reads_at
  rw [dif_pos h]

/-- The padded points: the padding value after the coordinates. -/
theorem v25_ge (a : Fin 8192) (k : Fin 8) (h : ¬ k.val < 3) : StableHlo.after hostOps0_3 V (Proc.devRef .tc main_v25) (ix2 a k)
    = (((V (Proc.devRef .tc main_c) (Shape.Idx.first h_S_)).toInt : ℝ) : EReal) := by
  after_reads_at
  rw [dif_neg h]
  rfl

/-- A small number's word, read as a signed number. -/
theorem toInt_ofNat (y : Nat) (h : y < 2 ^ 31) : (BitVec.ofNat 32 y).toInt = (y : Int) := by
  rw [BitVec.toInt_eq_toNat_of_lt]
  · simp [BitVec.toNat_ofNat]; omega
  · simp [BitVec.toNat_ofNat]; omega

/-- The wrap of a negative index leaves an index word below 8192. -/
theorem wrap_eq (y : Nat) (h : y < 8192) : Scalar.select (IntOp.cmpi CmpIPredicate.slt (BitVec.ofNat 32 y) 0#32)
    (IntOp.addi (BitVec.ofNat 32 y) 8192#32) (BitVec.ofNat 32 y) = BitVec.ofNat 32 y := by
  have : IntOp.cmpi CmpIPredicate.slt (BitVec.ofNat 32 y) 0#32 = 0#1 := by
    simp only [IntOp.cmpi]
    rw [show (BitVec.ofNat 32 y).slt 0#32 = false from by
      rw [BitVec.slt]; simp [toInt_ofNat y (by omega)]]
    rfl
  rw [this]; rfl

/-- A small index among the candidates needs no counting from the end. -/
theorem wrap_eq' (y : Nat) (h : y < 768) : Scalar.select (IntOp.cmpi CmpIPredicate.slt (BitVec.ofNat 32 y) 0#32)
    (IntOp.addi (BitVec.ofNat 32 y) 768#32) (BitVec.ofNat 32 y) = BitVec.ofNat 32 y := by
  have : IntOp.cmpi CmpIPredicate.slt (BitVec.ofNat 32 y) 0#32 = 0#1 := by
    simp only [IntOp.cmpi]
    rw [show (BitVec.ofNat 32 y).slt 0#32 = false from by
      rw [BitVec.slt]; simp [toInt_ofNat y (by omega)]]
    rfl
  rw [this]; rfl

/-- An index word within a range passes the bounds' mask. -/
theorem inside (y b : Nat) (h : y ≤ b) (hb : b < 2 ^ 31) : Finset.fold IntOp.andi (1#1)
    (fun x : Fin 1 => IntOp.andi (IntOp.cmpi CmpIPredicate.sge (BitVec.ofNat 32 y) 0#32)
      (IntOp.cmpi CmpIPredicate.sle (BitVec.ofNat 32 y) (BitVec.ofNat 32 b))) Finset.univ = 1#1 := by
  have h1 : IntOp.cmpi CmpIPredicate.sge (BitVec.ofNat 32 y) 0#32 = 1#1 := by
    simp only [IntOp.cmpi]
    rw [show (0#32).sle (BitVec.ofNat 32 y) = true from by
      rw [BitVec.sle]; simp [toInt_ofNat y (by omega)]]
    rfl
  have h2 : IntOp.cmpi CmpIPredicate.sle (BitVec.ofNat 32 y) (BitVec.ofNat 32 b) = 1#1 := by
    simp only [IntOp.cmpi]
    rw [show (BitVec.ofNat 32 y).sle (BitVec.ofNat 32 b) = true from by
      rw [BitVec.sle]; simp [toInt_ofNat y (by omega), toInt_ofNat b hb, h]]
    rfl
  rw [h1, h2]
  rfl

/-- A choice whose condition holds is its first branch. -/
theorem select_one {α : Type} (a b : α) : Scalar.select 1#1 a b = a := rfl

/-- The padding value is nought. -/
theorem c_eq (i : S_.Idx) : StableHlo.after hostOps0_2 V (Proc.devRef .tc main_c) i = 0#32 := by
  after_reads_at

/-- The windows that the first top-k picks. -/
theorem indices (r : Fin 8192) (s : Fin 48) (d : Fin 512 → EReal)
    (hd : ∀ k, V (Proc.devRef .tc main_v27) (ix2 r k) = d k) (s' : Fin 512) (hs : s'.val = s.val) :
    StableHlo.after hostOps2 V (Proc.devRef .tc main_indices) (ix2 r s) = BitVec.ofNat 32 (Selection.nth d s').val := by
  after_reads_at
  refine HostIndex.topK_index _ _ r d (fun k => ?_) s s' hs
  rw [← hd k]
  rfl

/-- The windows in ascending order. -/
theorem v29 : StableHlo.after hostOps2_1 V (Proc.devRef .tc main_v29)
    = Host.sort S8192x48 1 comparator_i32_d1 (V (Proc.devRef .tc main_indices)) := by
  funext i
  idx_vars i
  after_reads_at

/-- The candidates: sixteen neighbours of each window picked. -/
theorem v38 (a : Fin 8192) (q : Fin 768) : StableHlo.after hostOps2_2 V (Proc.devRef .tc main_v38) (ix2 a q)
    = IntOp.addi (IntOp.muli (V (Proc.devRef .tc main_v29) (ix2 a ⟨q.val / 16, by omega⟩)) 16#32)
        (BitVec.ofNat 32 (q.val % 16)) := by
  after_reads_at

/-- The candidates that the second top-k picks. -/
theorem indices5 (r : Fin 8192) (s : Fin 48) (d : Fin 768 → EReal)
    (hd : ∀ k, V (Proc.devRef .tc main_v39) (ix2 r k) = d k) (s' : Fin 768) (hs : s'.val = s.val) :
    StableHlo.after hostOps2_4 V (Proc.devRef .tc main_indices_5) (ix2 r s) = BitVec.ofNat 32 (Selection.nth d s').val := by
  after_reads_at
  refine HostIndex.topK_index _ _ r d (fun k => ?_) s s' hs
  rw [← hd k]
  rfl

/-- The first eight lanes of the frequencies: the given ones. -/
theorem v53_lt (k : Fin 8) : StableHlo.after hostOps2_6 V (Proc.devRef .tc main_v53) (ix2 0 ⟨k.val, by omega⟩)
    = V (Proc.devRef .tc main_arg1) (ix1 k) := by
  after_reads_at
  after_reads_at

/-- The last eight lanes of the frequencies: the constants. -/
theorem v53_ge (k : Fin 8) : StableHlo.after hostOps2_6 V (Proc.devRef .tc main_v53) (ix2 0 ⟨8 + k.val, by omega⟩)
    = V (Proc.devRef .tc main_cst) (ix1 k) := by
  after_reads_at
  after_reads_at

/-- The table of the previous residues. -/
theorem v55 (a b : Fin 8192) (j : Fin 16) (hb : b.val = (a.val + 8191) % 8192) :
    StableHlo.after hostOps3 V (Proc.devRef .tc main_v55) (ix2 a j) = V (Proc.devRef .tc main_v22) (ix2 b j) := by
  after_reads_at
  by_cases h : a.val < 1
  · rw [dif_pos h]
    after_reads_at
    exact congrArg (fun q => V (Proc.devRef .tc main_v22) (ix2 q j)) (Fin.ext (by simp only; omega))
  · rw [dif_neg h]
    after_reads_at
    exact congrArg (fun q => V (Proc.devRef .tc main_v22) (ix2 q j)) (Fin.ext (by simp only; omega))

/-- The table of the next residues. -/
theorem v56 (a b : Fin 8192) (j : Fin 16) (hb : b.val = (a.val + 1) % 8192) :
    StableHlo.after hostOps3_1 V (Proc.devRef .tc main_v56) (ix2 a j) = V (Proc.devRef .tc main_v22) (ix2 b j) := by
  after_reads_at
  by_cases h : a.val < 8191
  · rw [dif_pos h]
    refine congrArg (V (Proc.devRef .tc main_v22)) (funext fun q => Fin.ext ?_ : _ = (ix2 b j : S8192x16.Idx))
    match q with
    | ⟨0, _⟩ => show 1 + a.val = b.val; omega
    | ⟨1, _⟩ => show 0 + j.val = j.val; omega
  · rw [dif_neg h]
    refine congrArg (V (Proc.devRef .tc main_v22)) (funext fun q => Fin.ext ?_ : _ = (ix2 b j : S8192x16.Idx))
    match q with
    | ⟨0, _⟩ => show 0 + (a.val - 8191) = b.val; omega
    | ⟨1, _⟩ => show 0 + j.val = j.val; omega

/-- The frequencies, as the node region takes them. -/
theorem v58 (k : Fin 8) : StableHlo.after hostOps3_2 V (Proc.devRef .tc main_v58) (ix2 0 k)
    = V (Proc.devRef .tc main_arg1) (ix1 k) := by
  after_reads_at
  try after_reads_at

/-- The embedding of kinds, as the node region takes it. -/
theorem v59 (k : Fin 3) (j : Fin 16) : StableHlo.after hostOps3_3 V (Proc.devRef .tc main_v59) (ix2 ⟨k.val, by omega⟩ j)
    = V (Proc.devRef .tc main_arg2) (ix2 k j) := by
  after_reads_at

/-- The distances of the candidates. -/
theorem v39 (a : Fin 8192) (q : Fin 768) (y : Fin 8192) (hy : V (Proc.devRef .tc main_v38) (ix2 a q) = BitVec.ofNat 32 y.val) :
    StableHlo.after hostOps2_3 V (Proc.devRef .tc main_v39) (ix2 a q) = V (Proc.devRef .tc main_v26) (ix2 a y) := by
  after_reads_at
  rw [HostIndex.gather_dist _ _ a q y (by show Scalar.select (IntOp.cmpi CmpIPredicate.slt (V (Proc.devRef .tc main_v38) (ix2 a q)) 0#32) (IntOp.addi (V (Proc.devRef .tc main_v38) (ix2 a q)) 8192#32) (V (Proc.devRef .tc main_v38) (ix2 a q)) = _; rw [hy, wrap_eq _ y.isLt])]
  simp only [hy, wrap_eq _ y.isLt]
  rw [inside y.val 8191 (by omega) (by decide), select_one]

/-- The indices of the neighbours. -/
theorem v41 (a : Fin 8192) (s : Fin 48) (q : Fin 768) (hq : V (Proc.devRef .tc main_indices_5) (ix2 a s) = BitVec.ofNat 32 q.val) :
    StableHlo.after hostOps2_5 V (Proc.devRef .tc main_v41) (ix2 a s) = V (Proc.devRef .tc main_v38) (ix2 a q) := by
  after_reads_at
  rw [HostIndex.gather_cand _ _ a s q (by show Scalar.select (IntOp.cmpi CmpIPredicate.slt (V (Proc.devRef .tc main_indices_5) (ix2 a s)) 0#32) (IntOp.addi (V (Proc.devRef .tc main_indices_5) (ix2 a s)) 768#32) (V (Proc.devRef .tc main_indices_5) (ix2 a s)) = _; rw [hq, wrap_eq' _ q.isLt])]
  simp only [hq, wrap_eq' _ q.isLt]
  rw [inside q.val 767 (by omega) (by decide), select_one]

/-- The rows of the neighbours. -/
theorem v50 (a : Fin 8192) (s : Fin 48) (j : Fin 16) (y : Fin 8192)
    (hy : V (Proc.devRef .tc main_v41) (ix2 a s) = BitVec.ofNat 32 y.val) :
    StableHlo.after hostOps2_6 V (Proc.devRef .tc main_v50) (ix3 a s j) = V (Proc.devRef .tc main_v22) (ix2 y j) := by
  after_reads_at
  refine HostIndex.gather_table _ _ _ j y ?_
  pointwise
  have h0 : (⟨(a.val * 48 + s.val) / 48, by omega⟩ : Fin 8192) = a := Fin.ext (by simp only; omega)
  have h1 : (⟨(a.val * 48 + s.val) % 48, by omega⟩ : Fin 48) = s := Fin.ext (by simp only; omega)
  rw [h0, h1, hy, wrap_eq _ y.isLt]

end Cert.KernelHost
-- ==== Proof.KernelDist.lean ====
/- The arrays that the first two launches of the idealized kernel leave: the table of squared distances and the least
   squared distance of each window of sixteen residues. -/
module

public import proofs.«01_k».proof.Proof.Gen.KernelIdeal.Frame
public import proofs.«01_k».proof.Proof.Spec
public import Idealize.ShloMosaic.Lib.Pointwise
public import Idealize.ShloMosaic.Lib.Tactic.WordOmega
public import Idealize.ShloMosaic.Lib.Pipeline.ValueKit

@[expose] public section

set_option maxRecDepth 16384

noncomputable section

namespace Cert.KernelDist

open Idealize.ShloMosaic Idealize.ShloMosaic.TcCoe
open Cert.KernelIdeal Cert.KernelIdeal.Gen

variable (V : (c : Dev nD) → (b : Ref sig .tc) → Buf (Elt Ideal) ((c : Thread nD τ).loc b)) (c : Dev nD)

/-- Which block each window of the first region takes at each step. -/
theorem idx0 (t : Fin cfg0.N) : (cfg0.win 0).index t = ![(grid0.coords t 0).val, 0] ∧ (cfg0.win 1).index t = ![0, 0]
    ∧ (cfg0.win 2).index t = ![(grid0.coords t 0).val, 0] ∧ (grid0.coords t 0).val < 32 :=
  (by decide +kernel : ∀ t : Fin cfg0.N, (cfg0.win 0).index t = ![(grid0.coords t 0).val, 0] ∧ (cfg0.win 1).index t = ![0, 0]
    ∧ (cfg0.win 2).index t = ![(grid0.coords t 0).val, 0] ∧ (grid0.coords t 0).val < 32) t

/-- Which block each window of the second region takes at each step. -/
theorem idx1 (t : Fin cfg1.N) : (cfg1.win 0).index t = ![(grid1.coords t 0).val, 0]
    ∧ (cfg1.win 1).index t = ![(grid1.coords t 0).val, 0] ∧ (grid1.coords t 0).val < 128 :=
  (by decide +kernel : ∀ t : Fin cfg1.N, (cfg1.win 0).index t = ![(grid1.coords t 0).val, 0]
    ∧ (cfg1.win 1).index t = ![(grid1.coords t 0).val, 0] ∧ (grid1.coords t 0).val < 128) t

set_option maxHeartbeats 2000000 in
/-- The first launch leaves the squared distances of the rows of its padded operand. -/
theorem arr0 : (dat0 V c).arrAt 2 cfg0.N = fun i : S8192x8192.Idx =>
    Spec.d2 (fun a (x : Fin 8) => V c (Pipeline.arrRef spec0 0) (ix2 a x)) (i 0) (i 1) := by
  refine (dat0 V c).arrAt_eq_of_covers 2 _ (by decide +kernel) fun t hf y => ?_
  obtain ⟨e0, e1, e2, hl⟩ := idx0 t
  blk_simp
  rw [after0_2]
  frame_out
  idx_vars y
  pointwise [k0_pay1]
  rw [Spec.select_eq]
  have hy0 := y0.isLt
  have hy1 := y1.isLt
  have h0 : ∀ x : Fin 8, iblk0 V c 0 t (ix2 y0 x)
      = V c (Pipeline.arrRef spec0 0) (ix2 ⟨(grid0.coords t 0).val * 256 + y0.val, by omega⟩ x) := by
    intro x; blk_ext [iblk0, e0]
  have h1 : ∀ x : Fin 8, iblk0 V c 1 t (ix2 y1 x) = V c (Pipeline.arrRef spec0 0) (ix2 y1 x) := by
    intro x; blk_ext [iblk0, e1]
  have hb0 : ((View.whole main_v26).slice (win0_2.rect t)).emb (ix2 y0 y1) 0
      = (⟨(grid0.coords t 0).val * 256 + y0.val, by omega⟩ : Fin 8192) := by
    apply Fin.ext; blk_ext [e2]
  have hb1 : ((View.whole main_v26).slice (win0_2.rect t)).emb (ix2 y0 y1) 1 = (y1 : Fin 8192) := by
    apply Fin.ext; blk_ext [e2]
  rw [hb0, hb1]
  simp only [h0, h1]
  unfold Spec.d2
  refine if_congr ?_ rfl rfl
  rw [Fin.ext_iff]
  constructor
  · intro h
    have := congrArg BitVec.toNat h
    simp only [Scalar.muli, IntOp.muli] at this
    word_omega
  · intro h
    apply BitVec.eq_of_toNat_eq
    simp only [Scalar.muli, IntOp.muli]
    simp only at h
    word_omega

/-- The second launch leaves the least value of each window of sixteen columns. -/
theorem arr1 : (dat1 V c).arrAt 1 cfg1.N = fun i : S8192x512.Idx =>
    Spec.wmin (fun b => V c (Pipeline.arrRef spec1 0) (ix2 (i 0) b)) (i 1) := by
  refine (dat1 V c).arrAt_eq_of_covers 1 _ (by decide +kernel) fun t hf y => ?_
  obtain ⟨e0, e1, hl⟩ := idx1 t
  blk_simp
  rw [after1_1]
  frame_out
  idx_vars y
  pointwise [k1_pay1]
  unfold Spec.wmin
  congr 1
  funext x
  blk_ext [iblk1, e0, e1]

end Cert.KernelDist
-- ==== Proof.KernelSelect.lean ====
/- The residues that the idealized kernel chooses are the nearest ones. -/
module

public import proofs.«01_k».proof.Proof.KernelHost
public import proofs.«01_k».proof.Proof.KernelDist
public import proofs.«01_k».proof.Proof.Selection
public import Idealize.ShloMosaic.Lib.SortFacts

@[expose] public section

set_option maxRecDepth 16384

noncomputable section

namespace Cert.KernelSelect

open Idealize.ShloMosaic Idealize.ShloMosaic.TcCoe
open Cert.KernelIdeal Cert.KernelIdeal.Gen

/-- Sorting distinct words of a row in ascending order: the words ascend strictly and none is lost. -/
theorem sorted (x : IVec S8192x48 32) (a : Fin 8192) (f : Fin 48 → Fin 512) (hf : Function.Injective f)
    (hx : ∀ s, x (ix2 a s) = BitVec.ofNat 32 (f s).val) :
    ∃ ws : Fin 48 → Fin 512, StrictMono ws ∧ (∀ s, Host.sort S8192x48 1 comparator_i32_d1 x (ix2 a s) = BitVec.ofNat 32 (ws s).val)
      ∧ ∀ s, ∃ s', ws s' = f s := by
  let B : Fin 48 → Fin 48 → Bool := fun k k' => decide ((f k).val < (f k').val)
  have hidx : ∀ s k : Fin 48, (ix2 a s : S8192x48.Idx).along (1 : Fin 2) k = ix2 a k := by
    intro s k
    funext q
    match q with
    | ⟨0, _⟩ => rfl
    | ⟨1, _⟩ => rfl
  have hcmp : ∀ k k' : Fin 48, (comparator_i32_d1 (x (ix2 a k)) (x (ix2 a k')) == 1#1) = B k k' := by
    intro k k'
    rw [hx, hx]
    show ((BitVec.ofBool ((BitVec.ofNat 32 (f k).val).slt (BitVec.ofNat 32 (f k').val))) == 1#1) = decide _
    have h : (BitVec.ofNat 32 (f k).val).slt (BitVec.ofNat 32 (f k').val) = decide ((f k).val < (f k').val) := by
      rw [BitVec.slt, KernelHost.toInt_ofNat _ (by omega), KernelHost.toInt_ofNat _ (by omega)]
      simp
    rw [h]
    by_cases hk : (f k).val < (f k').val <;> simp [hk]
  have hsort : ∀ s, Host.sort S8192x48 1 comparator_i32_d1 x (ix2 a s) = x (ix2 a (sortedFrom B s)) := by
    intro s
    have hB : (fun k k' : Fin 48 => comparator_i32_d1 (x ((ix2 a s : S8192x48.Idx).along (1 : Fin 2) k))
        (x ((ix2 a s : S8192x48.Idx).along (1 : Fin 2) k')) == 1#1) = B := by
      funext k k'
      rw [hidx, hidx, hcmp]
    show x ((ix2 a s : S8192x48.Idx).along (1 : Fin 2) (sortedFrom (fun k k' : Fin 48 =>
      comparator_i32_d1 (x ((ix2 a s : S8192x48.Idx).along (1 : Fin 2) k))
        (x ((ix2 a s : S8192x48.Idx).along (1 : Fin 2) k')) == 1#1) s)) = _
    rw [hB]
    exact congrArg x (hidx s _)
  refine ⟨fun s => f (sortedFrom B s), ?_, ?_, ?_⟩
  · intro i j hij
    have h := sortedFrom_noInversion B B (by intro p q h; simp only [B, decide_eq_true_eq, decide_eq_false_iff_not] at *; omega)
      (fun p q h => h) (by intro p q r h h'; simp only [B, decide_eq_false_iff_not] at *; omega) i j hij
    have h := of_decide_eq_false h
    have hne : f (sortedFrom B i) ≠ f (sortedFrom B j) := fun e => hij.ne (sortedFrom_injective B (hf e))
    have hne' : (f (sortedFrom B i)).val ≠ (f (sortedFrom B j)).val := fun e => hne (Fin.ext e)
    show (f (sortedFrom B i)).val < (f (sortedFrom B j)).val
    omega
  · intro s
    rw [hsort, hx]
  · intro s
    obtain ⟨s', h⟩ := sortedFrom_surjective B s
    exact ⟨s', congrArg f h⟩

/-- The least value of a window is at most each of its values. -/
theorem wmin_le (d : Fin 8192 → EReal) (a : Fin 8192) : Spec.wmin d ⟨a.val / 16, by omega⟩ ≤ d a := by
  unfold Spec.wmin
  rw [Finset.fold_min_le]
  refine .inr ⟨⟨a.val % 16, by omega⟩, Finset.mem_univ _, ?_⟩
  exact le_of_eq (congrArg d (Fin.ext (by simp only; omega)))

/-- The least of finitely many values is one of them. -/
theorem fold_mem (g : Fin 16 → EReal) : ∃ x, g x = Finset.fold min ⊤ g Finset.univ := by
  obtain ⟨x, -, hx⟩ := Finset.exists_mem_eq_inf' (Finset.univ_nonempty (α := Fin 16)) g
  refine ⟨x, hx.symm.trans ?_⟩
  rw [Finset.inf'_eq_inf]
  rfl

/-- The least value of a window is one of its values. -/
theorem wmin_mem (d : Fin 8192 → EReal) (w : Fin 512) : ∃ a : Fin 8192, (⟨a.val / 16, by omega⟩ : Fin 512) = w ∧ d a = Spec.wmin d w := by
  have htop : Ideal.ofBits FTy.f32 0x7F800000#32 = (⊤ : EReal) := by
    simp [Ideal.ofBits, Ideal.ieee]
  obtain ⟨x, hx⟩ := fold_mem fun x : Fin 16 => d ⟨w.val * 16 + x.val, by omega⟩
  refine ⟨⟨w.val * 16 + x.val, by omega⟩, Fin.ext (by simp only; omega), ?_⟩
  unfold Spec.wmin
  rw [htop]
  exact hx

variable (m : (ℓ : Loc nD τ sig) → Buf (Elt Ideal) ℓ) (ρ : Dev nD → PrngReg) (c : Dev nD)

/-- The atoms that the idealized kernel is given. -/
abbrev atoms : (⟨3, ![8192, 4, 3]⟩ : Shape).Idx → EReal := m ((c : Thread nD τ).loc main_arg0)

/-- The kinds that the idealized kernel is given. -/
abbrev kinds : (⟨1, ![8192]⟩ : Shape).Idx → BitVec 32 := m ((c : Thread nD τ).loc main_arg4)

/-- The vectors from the first atoms to the second. -/
theorem v6 (a : Fin 8192) : (fun k => W1 m ρ c (Proc.devRef .tc main_v6) (ix2 a k))
    = Spec.seg (Spec.point (atoms m c) a 0) (Spec.point (atoms m c) a 1) :=
  funext fun k => KernelHost.v6 (W0 m ρ c) a k

/-- The vectors from the second atoms to the third. -/
theorem v7 (a : Fin 8192) : (fun k => W1 m ρ c (Proc.devRef .tc main_v7) (ix2 a k))
    = Spec.seg (Spec.point (atoms m c) a 1) (Spec.point (atoms m c) a 2) :=
  funext fun k => KernelHost.v7 (W0 m ρ c) a k

/-- The table of residues. -/
theorem table (a : Fin 8192) (j : Fin 16) :
    W3 m ρ c (Proc.devRef .tc main_v22) (ix2 a j) = Spec.tab (atoms m c) (kinds m c) a j := by
  refine (KernelHost.v22 (W2 m ρ c) a j).trans ?_
  have h0 : (fun k => W2 m ρ c (Proc.devRef .tc main_v1) (ix2 a k)) = Spec.point (atoms m c) a 0 :=
    funext fun k => (congrFun (W2_of m ρ c main_v1 (by decide)) _).trans (KernelHost.v1 (W0 m ρ c) a k)
  have h1 : (fun k => W2 m ρ c (Proc.devRef .tc main_v3) (ix2 a k)) = Spec.point (atoms m c) a 1 :=
    funext fun k => (congrFun (W2_of m ρ c main_v3 (by decide)) _).trans (KernelHost.v3 (W0 m ρ c) a k)
  have h2 : (fun k => W2 m ρ c (Proc.devRef .tc main_v5) (ix2 a k)) = Spec.point (atoms m c) a 2 :=
    funext fun k => (congrFun (W2_of m ρ c main_v5 (by decide)) _).trans (KernelHost.v5 (W0 m ρ c) a k)
  have h3 : (fun k => W2 m ρ c (Proc.devRef .tc main_arg0) (ix3 a 3 k)) = Spec.point (atoms m c) a 3 :=
    funext fun k => congrFun (W2_args m ρ c main_arg0 (by decide)) _
  have h6 : ∀ k, W2 m ρ c (Proc.devRef .tc main_v6) (ix2 a k)
      = Spec.seg (Spec.point (atoms m c) a 0) (Spec.point (atoms m c) a 1) k :=
    fun k => (congrFun (W2_of m ρ c main_v6 (by decide)) _).trans (KernelHost.v6 (W0 m ρ c) a k)
  have h7 : ∀ k, W2 m ρ c (Proc.devRef .tc main_v7) (ix2 a k)
      = Spec.seg (Spec.point (atoms m c) a 1) (Spec.point (atoms m c) a 2) k :=
    fun k => (congrFun (W2_of m ρ c main_v7 (by decide)) _).trans (KernelHost.v7 (W0 m ρ c) a k)
  have h8 : ∀ k, W2 m ρ c (Proc.devRef .tc main_v8) (ix2 a k)
      = Spec.cross (Spec.seg (Spec.point (atoms m c) a 0) (Spec.point (atoms m c) a 1))
          (Spec.seg (Spec.point (atoms m c) a 1) (Spec.point (atoms m c) a 2)) k := by
    intro k
    refine (KernelHost.v8 (W1 m ρ c) a k).trans ?_
    rw [v6, v7]
  have h4 : W2 m ρ c (Proc.devRef .tc main_arg4) (ix1 a) = kinds m c (ix1 a) :=
    congrFun (W2_args m ρ c main_arg4 (by decide)) _
  have h5 : (fun k => Ideal.ofBits FTy.f32 0xBF152E13#32 * (W2 m ρ c (Proc.devRef .tc main_v8) (ix2 a k) : EReal)
      + Ideal.ofBits FTy.f32 0x3F116A4D#32 * (W2 m ρ c (Proc.devRef .tc main_v6) (ix2 a k) : EReal)
      - Ideal.ofBits FTy.f32 0x3F0A69A8#32 * (W2 m ρ c (Proc.devRef .tc main_v7) (ix2 a k) : EReal)
      + (W2 m ρ c (Proc.devRef .tc main_v3) (ix2 a k) : EReal))
      = Spec.beta (Spec.point (atoms m c) a 0) (Spec.point (atoms m c) a 1) (Spec.point (atoms m c) a 2) := by
    funext k
    rw [h6, h7, h8, show W2 m ρ c (Proc.devRef .tc main_v3) (ix2 a k) = _ from congrFun h1 k]
    rfl
  unfold Spec.tab
  rw [h0, h1, h2, h3, h4]
  exact congrArg (fun z => Spec.row16 _ _ _ _ z _ j) h5

/-- The array of squared distances. -/
theorem dist (a b : Fin 8192) : W5 m ρ c (Proc.devRef .tc main_v26) (ix2 a b) = Spec.dist (atoms m c) a b := by
  refine (congrFun (W5_arr m ρ c 2) (ix2 a b)).trans ?_
  rw [KernelDist.arr0]
  have hlt : ∀ (a : Fin 8192) (k : Fin 8) (h : k.val < 3), W4 m ρ c (Proc.devRef .tc main_v25) (ix2 a k)
      = Spec.point (atoms m c) a 1 ⟨k.val, h⟩ := fun a k h =>
    (KernelHost.v25_lt (W3 m ρ c) a k h).trans ((KernelHost.v24 (W2 m ρ c) a _).trans
      (congrFun (W2_args m ρ c main_arg0 (by decide)) _))
  have hge : ∀ (a : Fin 8192) (k : Fin 8) (h : ¬ k.val < 3), W4 m ρ c (Proc.devRef .tc main_v25) (ix2 a k) = (0 : EReal) := by
    intro a k h
    refine (KernelHost.v25_ge (W3 m ρ c) a k h).trans ?_
    rw [show W3 m ρ c (Proc.devRef .tc main_c) (Shape.Idx.first h_S_) = 0#32 from KernelHost.c_eq (W2 m ρ c) _]
    simp
  exact congrFun (congrFun (Spec.d2_pad (fun a (x : Fin 8) => W4 m ρ c (Proc.devRef .tc main_v25) (ix2 a x))
    (fun b k => Spec.point (atoms m c) b 1 k) (fun a => hlt a 0 (by decide)) (fun a => hlt a 1 (by decide))
    (fun a => hlt a 2 (by decide)) (fun a x h => hge a x (by omega))) a) b

/-- The array of the windows' least squared distances. -/
theorem mins (a : Fin 8192) (w : Fin 512) : W6 m ρ c (Proc.devRef .tc main_v27) (ix2 a w) = Spec.wmin (Spec.dist (atoms m c) a) w := by
  refine (congrFun (W6_arr m ρ c 1) (ix2 a w)).trans ?_
  rw [KernelDist.arr1]
  exact congrArg (fun d => Spec.wmin d w) (funext fun b => dist m ρ c a b)

set_option maxHeartbeats 1000000 in
/-- The neighbours that the kernel chooses by windows are the nearest residues. -/
theorem chosen (a : Fin 8192) (s : Fin 48) : W12 m ρ c (Proc.devRef .tc main_v41) (ix2 a s)
    = BitVec.ofNat 32 (Selection.nth (Spec.dist (atoms m c) a) ⟨s.val, by omega⟩).val := by
  generalize hd : Spec.dist (atoms m c) a = d
  have h1 : ∀ s : Fin 48, W7 m ρ c (Proc.devRef .tc main_indices) (ix2 a s)
      = BitVec.ofNat 32 (Selection.nth (Spec.wmin d) ⟨s.val, by omega⟩).val := fun s =>
    KernelHost.indices (W6 m ρ c) a s (Spec.wmin d) (fun k => (mins m ρ c a k).trans (by rw [hd])) ⟨s.val, by omega⟩ rfl
  obtain ⟨ws, hws, hv, hall⟩ := sorted (W7 m ρ c (Proc.devRef .tc main_indices)) a
    (fun s => Selection.nth (Spec.wmin d) ⟨s.val, by omega⟩)
    (fun s s' h => Fin.ext (congrArg (fun z : Fin 512 => z.val) (Selection.nth_injective (Spec.wmin d) h))) h1
  let q2 : Fin 768 → Fin 8192 := fun q => ⟨(ws ⟨q.val / 16, by omega⟩).val * 16 + q.val % 16, by omega⟩
  have hq2 : StrictMono q2 := by
    intro p q hpq
    have hpq : p.val < q.val := hpq
    show (ws ⟨p.val / 16, by omega⟩).val * 16 + p.val % 16 < (ws ⟨q.val / 16, by omega⟩).val * 16 + q.val % 16
    by_cases h : p.val / 16 = q.val / 16
    · rw [show (⟨p.val / 16, by omega⟩ : Fin 48) = ⟨q.val / 16, by omega⟩ from Fin.ext h]
      omega
    · have h' : (⟨p.val / 16, by omega⟩ : Fin 48) < ⟨q.val / 16, by omega⟩ := by
        show p.val / 16 < q.val / 16
        omega
      have h'' : (ws ⟨p.val / 16, by omega⟩).val < (ws ⟨q.val / 16, by omega⟩).val := hws h'
      omega
  have h29 : ∀ s : Fin 48, W8 m ρ c (Proc.devRef .tc main_v29) (ix2 a s) = BitVec.ofNat 32 (ws s).val := fun s =>
    (congrFun (KernelHost.v29 (W7 m ρ c)) _).trans (hv s)
  have h38 : ∀ q : Fin 768, W9 m ρ c (Proc.devRef .tc main_v38) (ix2 a q) = BitVec.ofNat 32 (q2 q).val := by
    intro q
    refine (KernelHost.v38 (W8 m ρ c) a q).trans ?_
    rw [h29]
    apply BitVec.eq_of_toNat_eq
    have hw := (ws ⟨q.val / 16, by omega⟩).isLt
    show ((BitVec.ofNat 32 (ws ⟨q.val / 16, by omega⟩).val * 16#32) + BitVec.ofNat 32 (q.val % 16)).toNat
      = (BitVec.ofNat 32 ((ws ⟨q.val / 16, by omega⟩).val * 16 + q.val % 16)).toNat
    simp only [BitVec.toNat_add, BitVec.toNat_mul, BitVec.toNat_ofNat]
    omega
  have h39 : ∀ q : Fin 768, W10 m ρ c (Proc.devRef .tc main_v39) (ix2 a q) = d (q2 q) := by
    intro q
    refine (KernelHost.v39 (W9 m ρ c) a q (q2 q) (h38 q)).trans ?_
    refine (congrFun ((W9_of m ρ c main_v26 (by decide)).trans ((W8_of m ρ c main_v26 (by decide)).trans
      ((W7_of m ρ c main_v26 (by decide)).trans (W6_of m ρ c main_v26 (by decide))))) _).trans ?_
    rw [← hd]
    exact dist m ρ c a (q2 q)
  have h40 := KernelHost.indices5 (W10 m ρ c) a s (fun q => d (q2 q)) h39 ⟨s.val, by omega⟩ rfl
  refine (KernelHost.v41 (W11 m ρ c) a s _ h40).trans ?_
  refine (congrFun ((W11_of m ρ c main_v38 (by decide)).trans (W10_of m ρ c main_v38 (by decide))) _).trans ?_
  rw [h38]
  refine congrArg (fun z : Fin 8192 => BitVec.ofNat 32 z.val) ?_
  refine Selection.two_stage d (Spec.wmin d) (fun a => ⟨a.val / 16, by omega⟩) q2 48 (by decide) ?_ (wmin_le d) (wmin_mem d) hq2
    ?_ ⟨s.val, by omega⟩ s.isLt ⟨s.val, by omega⟩ rfl
  · intro a b h
    exact Nat.div_le_div_right (Fin.le_def.mp h)
  · intro x hx
    obtain ⟨s', hs'⟩ := hall ⟨Selection.rank (Spec.wmin d) ⟨x.val / 16, by omega⟩, hx⟩
    have hw : ws s' = ⟨x.val / 16, by omega⟩ :=
      hs'.trans (Selection.eq_nth (Spec.wmin d) ⟨x.val / 16, by omega⟩
        ⟨Selection.rank (Spec.wmin d) ⟨x.val / 16, by omega⟩, by omega⟩ rfl).symm
    refine ⟨⟨s'.val * 16 + x.val % 16, by omega⟩, Fin.ext ?_⟩
    have e : (⟨(s'.val * 16 + x.val % 16) / 16, by omega⟩ : Fin 48) = s' := Fin.ext (by simp only; omega)
    show (ws ⟨(s'.val * 16 + x.val % 16) / 16, by omega⟩).val * 16 + (s'.val * 16 + x.val % 16) % 16 = x.val
    rw [e, hw]
    show x.val / 16 * 16 + (s'.val * 16 + x.val % 16) % 16 = x.val
    omega

end Cert.KernelSelect
-- ==== Proof.Trig.lean ====
/- Facts about sine, cosine and the angle of a point over the extended reals. -/
module

public import Idealize.ShloMosaic.Lib.Pointwise
public import Mathlib.Analysis.SpecialFunctions.Trigonometric.Basic
public import Mathlib.Analysis.SpecialFunctions.Trigonometric.Arctan

@[expose] public section

noncomputable section

namespace Cert.Trig

open Idealize.ShloMosaic

/-- The single precision word that the reference multiplies by, as a real. -/
def pi32 : ℝ := 13176795 / 4194304

/-- The constant for π is the rounded π. -/
theorem ofBits_pi : Ideal.ofBits FTy.f32 0x40490FDB#32 = (pi32 : EReal) := by
  simp [Ideal.ofBits, Ideal.ieee, -EReal.coe_mul, pi32]; norm_num

/-- The constant for 2π is twice the rounded π. -/
theorem ofBits_two_pi : Ideal.ofBits FTy.f32 0x40C90FDB#32 = ((2 * pi32 : ℝ) : EReal) := by
  simp [Ideal.ofBits, Ideal.ieee, -EReal.coe_mul, pi32]; norm_num

/-- The constant two is the real number two. -/
theorem ofBits_two : Ideal.ofBits FTy.f32 0x40000000#32 = ((2 : ℝ) : EReal) := by
  simp [Ideal.ofBits, Ideal.ieee, -EReal.coe_mul]; norm_num

/-- The two orders in which the angle of a frequency is multiplied out agree. -/
theorem angle_eq (n w : EReal) :
    n * (w * Ideal.ofBits FTy.f32 0x40C90FDB#32)
      = n * w * Ideal.ofBits FTy.f32 0x40000000#32 * Ideal.ofBits FTy.f32 0x40490FDB#32 := by
  rw [ofBits_two_pi, ofBits_two, ofBits_pi, EReal.coe_mul, mul_assoc, mul_assoc]

/-- The cosine of an angle less a quarter turn is the sine of the angle, at the infinities too. -/
theorem cos_sub_half_pi (x : EReal) : Ideal.cos (x - (((1 / 2) * Real.pi : ℝ) : EReal)) = Ideal.sin x := by
  induction x using EReal.rec with
  | bot => rw [EReal.bot_sub]; rfl
  | top => rw [EReal.top_sub_coe]; rfl
  | coe r =>
    rw [← EReal.coe_sub]
    show ((Real.cos _ : ℝ) : EReal) = ((Real.sin _ : ℝ) : EReal)
    rw [show (1 / 2) * Real.pi = Real.pi / 2 by ring, Real.cos_sub_pi_div_two]

/-- Taking nought away changes nothing. -/
theorem sub_zero' (x : EReal) : x - 0 = x := by simp

/-- Sine and cosine of the angle of a point `(x, y)` off the origin, as quotients by its distance from the origin. -/
theorem sin_cos_atan2 (x y : ℝ) (h : 0 < x ^ 2 + y ^ 2) :
    Ideal.sin (Ideal.atan2 (y : EReal) (x : EReal)) = ((y / Real.sqrt (x ^ 2 + y ^ 2) : ℝ) : EReal)
    ∧ Ideal.cos (Ideal.atan2 (y : EReal) (x : EReal)) = ((x / Real.sqrt (x ^ 2 + y ^ 2) : ℝ) : EReal) := by
  have hs : 0 < Real.sqrt (x ^ 2 + y ^ 2) := Real.sqrt_pos.mpr h
  have key : ∀ a : ℝ, 0 < a → a = |x| → Real.sqrt (1 + (y / x) ^ 2) = Real.sqrt (x ^ 2 + y ^ 2) / a := by
    intro a ha hax
    have hx0 : x ≠ 0 := by intro e; rw [e, abs_zero] at hax; exact ha.ne' hax
    rw [eq_div_iff ha.ne', hax, ← Real.sqrt_sq_eq_abs, ← Real.sqrt_mul (by positivity)]
    congr 1; field_simp
  show ((Real.sin _ : ℝ) : EReal) = _ ∧ ((Real.cos _ : ℝ) : EReal) = _
  rw [EReal.coe_eq_coe_iff, EReal.coe_eq_coe_iff]
  split_ifs with h1 h2 h3 h4 h5
  · rw [Real.sin_arctan, Real.cos_arctan, key x h1 (abs_of_pos h1).symm]
    constructor <;> field_simp
  · rw [Real.sin_add_pi, Real.cos_add_pi, Real.sin_arctan, Real.cos_arctan,
      key (-x) (by linarith) (abs_of_neg h2).symm]
    have : x ≠ 0 := h2.ne
    constructor <;> field_simp
  · rw [Real.sin_sub_pi, Real.cos_sub_pi, Real.sin_arctan, Real.cos_arctan,
      key (-x) (by linarith) (abs_of_neg h2).symm]
    have : x ≠ 0 := h2.ne
    constructor <;> field_simp
  · have hx : x = 0 := le_antisymm (not_lt.mp h1) (not_lt.mp h2)
    subst hx
    rw [Real.sin_pi_div_two, Real.cos_pi_div_two]
    have : Real.sqrt (0 ^ 2 + y ^ 2) = y := by
      rw [show (0 : ℝ) ^ 2 + y ^ 2 = y ^ 2 by ring, Real.sqrt_sq h4.le]
    rw [this]; constructor
    · field_simp
    · simp
  · have hx : x = 0 := le_antisymm (not_lt.mp h1) (not_lt.mp h2)
    subst hx
    rw [Real.sin_neg, Real.cos_neg, Real.sin_pi_div_two, Real.cos_pi_div_two]
    have : Real.sqrt (0 ^ 2 + y ^ 2) = -y := by
      rw [show (0 : ℝ) ^ 2 + y ^ 2 = (-y) ^ 2 by ring, Real.sqrt_sq (by linarith)]
    rw [this]; constructor
    · have : y ≠ 0 := h5.ne
      field_simp
    · simp
  · exfalso
    have hx : x = 0 := le_antisymm (not_lt.mp h1) (not_lt.mp h2)
    have hy : y = 0 := le_antisymm (not_lt.mp h4) (not_lt.mp h5)
    subst hx; subst hy; simp at h

end Cert.Trig
-- ==== Proof.KernelEdge.lean ====
/- The array that the third launch of the idealized kernel leaves: the features of each edge. -/
module

public import proofs.«01_k».proof.Proof.Gen.KernelIdeal.Frame
public import proofs.«01_k».proof.Proof.Spec
public import proofs.«01_k».proof.Proof.Trig
public import Idealize.ShloMosaic.Lib.Pointwise
public import Idealize.ShloMosaic.Lib.Pipeline.ValueKit
public import Idealize.ShloMosaic.Lib.Tactic.WordOmega

@[expose] public section

set_option maxRecDepth 16384

noncomputable section

namespace Cert.KernelEdge

open Idealize.ShloMosaic Idealize.ShloMosaic.TcCoe
open Cert.KernelIdeal Cert.KernelIdeal.Gen

/-- The shapes of the nineteen pieces of an edge's features. -/
def shapes : List Shape := [S32x48x3, S32x48x16, S32x48x3, S32x48x16, S32x48x3, S32x48x16, S32x48x3, S32x48x16,
  S32x48x3, S32x48x16, S32x48x3, S32x48x16, S32x48x3, S32x48x16, S32x48x3, S32x48x16, S32x48x33, S32x48x8, S32x48x8]

/-- The pieces of an edge's features, joined and read at a lane. -/
theorem ladder (p0 p1 p2 p3 p4 p5 p6 p7 : FVec Ideal S32x48x3 .f32) (q0 q1 q2 q3 q4 q5 q6 q7 : FVec Ideal S32x48x16 .f32) (o : FVec Ideal S32x48x33 .f32)
    (c s : FVec Ideal S32x48x8 .f32) (hc) (r : Fin 32) (e : Fin 48) (x : Fin 201) :
    concatenate S32x48x201 2 [⟨S32x48x3, p0⟩, ⟨S32x48x16, q0⟩, ⟨S32x48x3, p1⟩, ⟨S32x48x16, q1⟩, ⟨S32x48x3, p2⟩, ⟨S32x48x16, q2⟩, ⟨S32x48x3, p3⟩, ⟨S32x48x16, q3⟩, ⟨S32x48x3, p4⟩, ⟨S32x48x16, q4⟩, ⟨S32x48x3, p5⟩, ⟨S32x48x16, q5⟩, ⟨S32x48x3, p6⟩, ⟨S32x48x16, q6⟩, ⟨S32x48x3, p7⟩, ⟨S32x48x16, q7⟩, ⟨S32x48x33, o⟩, ⟨S32x48x8, c⟩, ⟨S32x48x8, s⟩] hc (ix3 r e x)
      = Spec.lanes201 (fun b k => (![p0, p1, p2, p3, p4, p5, p6, p7] : Fin 8 → FVec Ideal S32x48x3 .f32) b (ix3 r e k))
          (fun b k => (![q0, q1, q2, q3, q4, q5, q6, q7] : Fin 8 → FVec Ideal S32x48x16 .f32) b (ix3 r e k))
          (fun k => o (ix3 r e k)) (fun k => c (ix3 r e k)) (fun k => s (ix3 r e k)) x := by
  rcases Spec.lanes201_cases x with ⟨b, k, h⟩ | ⟨b, k, h⟩ | ⟨k, h⟩ | ⟨k, h⟩ | ⟨k, h⟩
  · rw [Spec.lanes201_D b k h]
    fin_cases b
    · exact Spec.cat3 _ _ r e x 0 p0 rfl 0 shapes rfl (by decide) k h
    · exact Spec.cat3 _ _ r e x 2 p1 rfl 19 shapes rfl (by decide) k h
    · exact Spec.cat3 _ _ r e x 4 p2 rfl 38 shapes rfl (by decide) k h
    · exact Spec.cat3 _ _ r e x 6 p3 rfl 57 shapes rfl (by decide) k h
    · exact Spec.cat3 _ _ r e x 8 p4 rfl 76 shapes rfl (by decide) k h
    · exact Spec.cat3 _ _ r e x 10 p5 rfl 95 shapes rfl (by decide) k h
    · exact Spec.cat3 _ _ r e x 12 p6 rfl 114 shapes rfl (by decide) k h
    · exact Spec.cat3 _ _ r e x 14 p7 rfl 133 shapes rfl (by decide) k h
  · rw [Spec.lanes201_E b k h]
    fin_cases b
    · exact Spec.cat3 _ _ r e x 1 q0 rfl 3 shapes rfl (by decide) k h
    · exact Spec.cat3 _ _ r e x 3 q1 rfl 22 shapes rfl (by decide) k h
    · exact Spec.cat3 _ _ r e x 5 q2 rfl 41 shapes rfl (by decide) k h
    · exact Spec.cat3 _ _ r e x 7 q3 rfl 60 shapes rfl (by decide) k h
    · exact Spec.cat3 _ _ r e x 9 q4 rfl 79 shapes rfl (by decide) k h
    · exact Spec.cat3 _ _ r e x 11 q5 rfl 98 shapes rfl (by decide) k h
    · exact Spec.cat3 _ _ r e x 13 q6 rfl 117 shapes rfl (by decide) k h
    · exact Spec.cat3 _ _ r e x 15 q7 rfl 136 shapes rfl (by decide) k h
  · rw [Spec.lanes201_O k h]
    exact Spec.cat3 _ _ r e x 16 o rfl 152 shapes rfl (by decide) k h
  · rw [Spec.lanes201_C k h]
    exact Spec.cat3 _ _ r e x 17 c rfl 185 shapes rfl (by decide) k h
  · rw [Spec.lanes201_S k h]
    exact Spec.cat3 _ _ r e x 18 s rfl 193 shapes rfl (by decide) k h

/-- The phase of a lane: a quarter turn on the upper eight of each sixteen lanes. -/
theorem phase (b : Fin 8) (j : Fin 16) : k2_pay32 (F := Ideal) (ix3 0 0 ⟨16 * b.val + j.val, by omega⟩)
    = if j.val < 8 then (0 : EReal) else (((1 / 2) * Real.pi : ℝ) : EReal) := by
  pointwise [k2_pay32]
  rw [IdealRules.named_const.ideal_named_scalar _ _ _ _ (show κ "half_pi" = some (((1 / 2) * Real.pi : ℝ) : EReal) from rfl)]
  generalize hx : (⟨16 * b.val + j.val, by omega⟩ : Fin 128) = x
  have hv : 16 * b.val + j.val = x.val := congrArg Fin.val hx
  rw [hv]
  have key : ∀ x : Fin 128, (IntOp.cmpi CmpIPredicate.sge
        (Scalar.select
          (IntOp.andi
            (IntOp.xori
              (IntOp.cmpi CmpIPredicate.slt
                (IntOp.remsi ArithUnit.vector (BitVec.ofNat 32 ↑x)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (IntOp.cmpi CmpIPredicate.ne
              (IntOp.remsi ArithUnit.vector (BitVec.ofNat 32 ↑x)
                (Scalar.select (Scalar.cmpi CmpIPredicate.eq 16#32 0#32) 1#32 16#32))
              0#32))
          (IntOp.addi
            (IntOp.remsi ArithUnit.vector (BitVec.ofNat 32 ↑x)
              (Scalar.select (Scalar.cmpi CmpIPredicate.eq 16#32 0#32) 1#32 16#32))
            (Scalar.select (Scalar.cmpi CmpIPredicate.eq 16#32 0#32) 1#32 16#32))
          (IntOp.remsi ArithUnit.vector (BitVec.ofNat 32 ↑x)
            (Scalar.select (Scalar.cmpi CmpIPredicate.eq 16#32 0#32) 1#32 16#32)))
        8#32) = if x.val % 16 < 8 then 0#1 else 1#1 := by decide +kernel
  rw [key x, show x.val % 16 = j.val by omega]
  by_cases h : j.val < 8
  · rw [if_pos h, if_pos h]; rfl
  · rw [if_neg h, if_neg h]; rfl

/-- Sixteen lanes laid out eight times, read at a lane. -/
theorem tile (v : FVec Ideal S16 .f32) (hc) (hs) (b : Fin 8) (j : Fin 16) :
    shapeCast S1x1x128 (concatenate S128 0 [⟨S16, v⟩, ⟨S16, v⟩, ⟨S16, v⟩, ⟨S16, v⟩, ⟨S16, v⟩, ⟨S16, v⟩, ⟨S16, v⟩, ⟨S16, v⟩] hc) hs
      (ix3 0 0 ⟨16 * b.val + j.val, by omega⟩) = v (ix1 j) := by
  pointwise
  have hj := j.isLt
  have hb := b.isLt
  split_ifs <;> first | omega | exact congrArg (fun q => v (ix1 q)) (Fin.ext (by simp only; omega))

/-- The frequency of a lane, as the kernel lays it out. -/
theorem freq (w : Vec Ideal S8 .f32) (b : Fin 8) (j : Fin 16) :
    k2_pay33 (F := Ideal) w (ix3 0 0 ⟨16 * b.val + j.val, by omega⟩)
      = (if h : j.val < 8 then w (ix1 ⟨j.val, h⟩) else w (ix1 ⟨j.val - 8, by omega⟩))
        * Ideal.ofBits FTy.f32 0x40C90FDB#32 := by
  unfold k2_pay33
  rw [tile]
  pointwise

/-- The length on a lane, as the kernel lays it out. -/
theorem lens (v1 v3 v16 v29 v42 v55 v68 v81 v94) (r : Fin 32) (s : Fin 48) (b : Fin 8) (j : Fin 16) :
    k2_pay31 (F := Ideal) v1 v3 v16 v29 v42 v55 v68 v81 v94 (ix3 r s ⟨16 * b.val + j.val, by omega⟩)
      = (![v16, v29, v42, v55, v68, v81, v94, k2_pay29 v1 v3] : Fin 8 → FVec Ideal S32x48x1 .f32) b (ix3 r s 0) := by
  unfold k2_pay31
  generalize k2_pay29 v1 v3 = v107
  pointwise
  have hj := j.isLt
  have hb := b.isLt
  split_ifs <;> first
    | (obtain rfl : b = 0 := Fin.ext (show b.val = 0 by omega)
       exact congrArg v16 (congrArg (ix3 r s) (Subsingleton.elim _ _)))
    | (obtain rfl : b = 1 := Fin.ext (show b.val = 1 by omega)
       exact congrArg v29 (congrArg (ix3 r s) (Subsingleton.elim _ _)))
    | (obtain rfl : b = 2 := Fin.ext (show b.val = 2 by omega)
       exact congrArg v42 (congrArg (ix3 r s) (Subsingleton.elim _ _)))
    | (obtain rfl : b = 3 := Fin.ext (show b.val = 3 by omega)
       exact congrArg v55 (congrArg (ix3 r s) (Subsingleton.elim _ _)))
    | (obtain rfl : b = 4 := Fin.ext (show b.val = 4 by omega)
       exact congrArg v68 (congrArg (ix3 r s) (Subsingleton.elim _ _)))
    | (obtain rfl : b = 5 := Fin.ext (show b.val = 5 by omega)
       exact congrArg v81 (congrArg (ix3 r s) (Subsingleton.elim _ _)))
    | (obtain rfl : b = 6 := Fin.ext (show b.val = 6 by omega)
       exact congrArg v94 (congrArg (ix3 r s) (Subsingleton.elim _ _)))
    | (obtain rfl : b = 7 := Fin.ext (show b.val = 7 by omega)
       exact congrArg v107 (congrArg (ix3 r s) (Subsingleton.elim _ _)))

variable (x0 : Vec Ideal S32x16 .f32) (x1 : Vec Ideal S32x48x16 .f32) (r : Fin 32) (s : Fin 48)

/-- The vector between both second atoms, as the edge kernel computes it. -/
theorem vec0 (k : Fin 3) : k2_pay5 (F := Ideal) x0 x1 (ix3 r s k) = Spec.vecs (fun j => x0 (ix2 r j)) (fun j => x1 (ix3 r s j)) 0 k := by
  pointwise [k2_pay5, k2_pay1, k2_pay2]
  rfl

/-- The length of the vector between both second atoms. -/
theorem nrm0 (z : Fin 1) : k2_pay6 (F := Ideal) x0 x1 (ix3 r s z) = Spec.nrm (Spec.vecs (fun j => x0 (ix2 r j)) (fun j => x1 (ix3 r s j)) 0) := by
  pointwise [k2_pay6]
  simp only [vec0]
  rfl

/-- The direction of the vector between both second atoms. -/
theorem dir0 (k : Fin 3) : k2_pay7 (F := Ideal) x0 x1 (ix3 r s k) = Spec.dir (Spec.vecs (fun j => x0 (ix2 r j)) (fun j => x1 (ix3 r s j)) 0) k := by
  pointwise [k2_pay7]
  simp only [vec0, nrm0]
  rfl

/-- The vector between the second atom and the neighbour's first, as the edge kernel computes it. -/
theorem vec1 (k : Fin 3) : k2_pay8 (F := Ideal) x0 x1 (ix3 r s k) = Spec.vecs (fun j => x0 (ix2 r j)) (fun j => x1 (ix3 r s j)) 1 k := by
  pointwise [k2_pay8, k2_pay1, k2_pay2]
  exact congrArg₂ (· - ·) (congrArg (fun q => x0 (ix2 r q)) (Fin.ext (by simp [Spec.off1])))
    (congrArg (fun q => x1 (ix3 r s q)) (Fin.ext (by simp [Spec.off2])))

/-- The length of the vector between the second atom and the neighbour's first. -/
theorem nrm1 (z : Fin 1) : k2_pay9 (F := Ideal) x0 x1 (ix3 r s z) = Spec.nrm (Spec.vecs (fun j => x0 (ix2 r j)) (fun j => x1 (ix3 r s j)) 1) := by
  pointwise [k2_pay9]
  simp only [vec1]
  rfl

/-- The direction of the vector between the second atom and the neighbour's first. -/
theorem dir1 (k : Fin 3) : k2_pay10 (F := Ideal) x0 x1 (ix3 r s k) = Spec.dir (Spec.vecs (fun j => x0 (ix2 r j)) (fun j => x1 (ix3 r s j)) 1) k := by
  pointwise [k2_pay10]
  simp only [vec1, nrm1]
  rfl

/-- The vector between the second atom and the neighbour's third, as the edge kernel computes it. -/
theorem vec2 (k : Fin 3) : k2_pay11 (F := Ideal) x0 x1 (ix3 r s k) = Spec.vecs (fun j => x0 (ix2 r j)) (fun j => x1 (ix3 r s j)) 2 k := by
  pointwise [k2_pay11, k2_pay1, k2_pay2]
  rfl

/-- The length of the vector between the second atom and the neighbour's third. -/
theorem nrm2 (z : Fin 1) : k2_pay12 (F := Ideal) x0 x1 (ix3 r s z) = Spec.nrm (Spec.vecs (fun j => x0 (ix2 r j)) (fun j => x1 (ix3 r s j)) 2) := by
  pointwise [k2_pay12]
  simp only [vec2]
  rfl

/-- The direction of the vector between the second atom and the neighbour's third. -/
theorem dir2 (k : Fin 3) : k2_pay14 (F := Ideal) (k2_pay11 x0 x1) (k2_pay12 x0 x1) (k2_pay13 (F := Ideal)) (ix3 r s k) = Spec.dir (Spec.vecs (fun j => x0 (ix2 r j)) (fun j => x1 (ix3 r s j)) 2) k := by
  pointwise [k2_pay14, k2_pay13]
  simp only [vec2, nrm2]
  rfl

/-- The vector between the second atom and the neighbour's fourth, as the edge kernel computes it. -/
theorem vec3 (k : Fin 3) : k2_pay15 (F := Ideal) x0 x1 (ix3 r s k) = Spec.vecs (fun j => x0 (ix2 r j)) (fun j => x1 (ix3 r s j)) 3 k := by
  pointwise [k2_pay15]
  rfl

/-- The length of the vector between the second atom and the neighbour's fourth. -/
theorem nrm3 (z : Fin 1) : k2_pay16 (F := Ideal) x0 x1 (ix3 r s z) = Spec.nrm (Spec.vecs (fun j => x0 (ix2 r j)) (fun j => x1 (ix3 r s j)) 3) := by
  pointwise [k2_pay16]
  simp only [vec3]
  rfl

/-- The direction of the vector between the second atom and the neighbour's fourth. -/
theorem dir3 (k : Fin 3) : k2_pay17 (F := Ideal) x0 x1 (ix3 r s k) = Spec.dir (Spec.vecs (fun j => x0 (ix2 r j)) (fun j => x1 (ix3 r s j)) 3) k := by
  pointwise [k2_pay17]
  simp only [vec3, nrm3]
  rfl

/-- The vector between the second atom and the neighbour's virtual one, as the edge kernel computes it. -/
theorem vec4 (k : Fin 3) : k2_pay18 (F := Ideal) x0 x1 (ix3 r s k) = Spec.vecs (fun j => x0 (ix2 r j)) (fun j => x1 (ix3 r s j)) 4 k := by
  pointwise [k2_pay18]
  rfl

/-- The length of the vector between the second atom and the neighbour's virtual one. -/
theorem nrm4 (z : Fin 1) : k2_pay19 (F := Ideal) x0 x1 (ix3 r s z) = Spec.nrm (Spec.vecs (fun j => x0 (ix2 r j)) (fun j => x1 (ix3 r s j)) 4) := by
  pointwise [k2_pay19]
  simp only [vec4]
  rfl

/-- The direction of the vector between the second atom and the neighbour's virtual one. -/
theorem dir4 (k : Fin 3) : k2_pay20 (F := Ideal) x0 x1 (ix3 r s k) = Spec.dir (Spec.vecs (fun j => x0 (ix2 r j)) (fun j => x1 (ix3 r s j)) 4) k := by
  pointwise [k2_pay20]
  simp only [vec4, nrm4]
  rfl

/-- The vector between the first atom and the neighbour's second, as the edge kernel computes it. -/
theorem vec5 (k : Fin 3) : k2_pay21 (F := Ideal) x0 x1 (ix3 r s k) = Spec.vecs (fun j => x0 (ix2 r j)) (fun j => x1 (ix3 r s j)) 5 k := by
  pointwise [k2_pay21]
  exact congrArg₂ (· - ·) (congrArg (fun q => x0 (ix2 r q)) (Fin.ext (by simp [Spec.off1])))
    (congrArg (fun q => x1 (ix3 r s q)) (Fin.ext (by simp [Spec.off2])))

/-- The length of the vector between the first atom and the neighbour's second. -/
theorem nrm5 (z : Fin 1) : k2_pay22 (F := Ideal) x0 x1 (ix3 r s z) = Spec.nrm (Spec.vecs (fun j => x0 (ix2 r j)) (fun j => x1 (ix3 r s j)) 5) := by
  pointwise [k2_pay22]
  simp only [vec5]
  rfl

/-- The direction of the vector between the first atom and the neighbour's second. -/
theorem dir5 (k : Fin 3) : k2_pay23 (F := Ideal) x0 x1 (ix3 r s k) = Spec.dir (Spec.vecs (fun j => x0 (ix2 r j)) (fun j => x1 (ix3 r s j)) 5) k := by
  pointwise [k2_pay23]
  simp only [vec5, nrm5]
  rfl

/-- The vector between the third atom and the neighbour's second, as the edge kernel computes it. -/
theorem vec6 (k : Fin 3) : k2_pay24 (F := Ideal) x0 x1 (ix3 r s k) = Spec.vecs (fun j => x0 (ix2 r j)) (fun j => x1 (ix3 r s j)) 6 k := by
  pointwise [k2_pay24]
  rfl

/-- The length of the vector between the third atom and the neighbour's second. -/
theorem nrm6 (z : Fin 1) : k2_pay25 (F := Ideal) x0 x1 (ix3 r s z) = Spec.nrm (Spec.vecs (fun j => x0 (ix2 r j)) (fun j => x1 (ix3 r s j)) 6) := by
  pointwise [k2_pay25]
  simp only [vec6]
  rfl

/-- The direction of the vector between the third atom and the neighbour's second. -/
theorem dir6 (k : Fin 3) : k2_pay27 (F := Ideal) (k2_pay24 x0 x1) (k2_pay25 x0 x1) (k2_pay26 (F := Ideal)) (ix3 r s k) = Spec.dir (Spec.vecs (fun j => x0 (ix2 r j)) (fun j => x1 (ix3 r s j)) 6) k := by
  pointwise [k2_pay27, k2_pay26]
  simp only [vec6, nrm6]
  rfl

/-- The vector between the fourth atom and the neighbour's second, as the edge kernel computes it. -/
theorem vec7 (k : Fin 3) : k2_pay28 (F := Ideal) x0 x1 (ix3 r s k) = Spec.vecs (fun j => x0 (ix2 r j)) (fun j => x1 (ix3 r s j)) 7 k := by
  pointwise [k2_pay28]
  rfl

/-- The length of the vector between the fourth atom and the neighbour's second. -/
theorem nrm7 (z : Fin 1) : k2_pay29 (F := Ideal) x0 x1 (ix3 r s z) = Spec.nrm (Spec.vecs (fun j => x0 (ix2 r j)) (fun j => x1 (ix3 r s j)) 7) := by
  pointwise [k2_pay29]
  simp only [vec7]
  rfl

/-- The direction of the vector between the fourth atom and the neighbour's second. -/
theorem dir7 (k : Fin 3) : k2_pay30 (F := Ideal) x0 x1 (ix3 r s k) = Spec.dir (Spec.vecs (fun j => x0 (ix2 r j)) (fun j => x1 (ix3 r s j)) 7) k := by
  pointwise [k2_pay30]
  simp only [vec7, nrm7]
  rfl

/-- The block of rows is as loaded. -/
theorem pay1_eq : k2_pay1 (F := Ideal) x0 = x0 := by
  funext i; idx_vars i; pointwise [k2_pay1]

/-- The block of neighbours' rows is as loaded. -/
theorem pay2_eq : k2_pay2 (F := Ideal) x1 = x1 := by
  funext i; idx_vars i; pointwise [k2_pay2]

/-- The kernel's one-hot word and the encoding of the difference in sequence. -/
theorem enc_eq (n : EReal) (w : Vec Ideal S8 .f32) (j : Fin 16) :
    Ideal.cos (n * ((if h : j.val < 8 then w (ix1 ⟨j.val, h⟩) else w (ix1 ⟨j.val - 8, by omega⟩))
        * Ideal.ofBits FTy.f32 0x40C90FDB#32)
      - if j.val < 8 then (0 : EReal) else (((1 / 2) * Real.pi : ℝ) : EReal))
      = Spec.enc n (fun k => w (ix1 k)) j := by
  unfold Spec.enc
  by_cases h : j.val < 8
  · simp only [h, ↓reduceDIte, ↓reduceIte]
    rw [Trig.sub_zero', Trig.angle_eq]
  · simp only [h, ↓reduceDIte, ↓reduceIte]
    rw [Trig.cos_sub_half_pi, Trig.angle_eq]

/-- A comparison of two words turned into a number: one where they are equal, else nought. -/
theorem hot_eq (x y : BitVec 32) :
    FloatOps.sitofp (F := Ideal) FTy.f32 (BitVec.setWidth 32 (IntOp.cmpi CmpIPredicate.eq x y))
      = if x = y then (1 : EReal) else 0 := by
  show (((BitVec.setWidth 32 (IntOp.cmpi CmpIPredicate.eq x y)).toInt : ℝ) : EReal) = _
  simp only [IntOp.cmpi]
  by_cases h : x = y
  · rw [if_pos h, show (x == y) = true by simpa using h]; simp
  · rw [if_neg h, show (x == y) = false by simpa using h]; simp

/-- The block that a step stores, lane by lane. -/
theorem pay34 (a : BitVec 32) (v7 w : FVec Ideal S8 .f32) (x2 : Vec Ideal S32x48 .i32) (l : Fin 201) :
    k2_pay34 (F := Ideal) a x0 x1 v7 (k2_pay7 x0 x1) (k2_pay10 x0 x1)
      (k2_pay14 (k2_pay11 x0 x1) (k2_pay12 x0 x1) (k2_pay13 (F := Ideal))) (k2_pay17 x0 x1) (k2_pay20 x0 x1)
      (k2_pay23 x0 x1) (k2_pay27 (k2_pay24 x0 x1) (k2_pay25 x0 x1) (k2_pay26 (F := Ideal))) (k2_pay30 x0 x1)
      (k2_pay31 x0 x1 (k2_pay6 x0 x1) (k2_pay9 x0 x1) (k2_pay12 x0 x1) (k2_pay16 x0 x1) (k2_pay19 x0 x1)
        (k2_pay22 x0 x1) (k2_pay25 x0 x1)) (k2_pay32 (F := Ideal)) (k2_pay33 w) x2 (ix3 r s l)
      = Spec.edge (fun j => x0 (ix2 r j)) (fun j => x1 (ix3 r s j)) (fun k => w (ix1 k)) (fun k => v7 (ix1 k))
          (IntOp.subi (IntOp.addi (Scalar.muli a 32#32) (BitVec.ofNat 32 r.val)) (x2 (ix2 r s))) l := by
  unfold k2_pay34
  rw [ladder]
  unfold Spec.edge
  congr 1
  · funext b k
    fin_cases b
    · exact dir0 x0 x1 r s k
    · exact dir1 x0 x1 r s k
    · exact dir2 x0 x1 r s k
    · exact dir3 x0 x1 r s k
    · exact dir4 x0 x1 r s k
    · exact dir5 x0 x1 r s k
    · exact dir6 x0 x1 r s k
    · exact dir7 x0 x1 r s k
  · funext b k
    have key : ∀ (q : Fin 128), q.val = 16 * b.val + k.val →
        Ideal.cos (k2_pay31 x0 x1 (k2_pay6 x0 x1) (k2_pay9 x0 x1) (k2_pay12 x0 x1) (k2_pay16 x0 x1) (k2_pay19 x0 x1)
          (k2_pay22 x0 x1) (k2_pay25 x0 x1) (ix3 r s q) * k2_pay33 (F := Ideal) w (ix3 0 0 q) - k2_pay32 (F := Ideal) (ix3 0 0 q))
        = Spec.enc (Spec.nrm (Spec.vecs (fun j => x0 (ix2 r j)) (fun j => x1 (ix3 r s j)) b)) (fun k => w (ix1 k)) k := by
      intro q hq
      have : q = ⟨16 * b.val + k.val, by omega⟩ := Fin.ext hq
      rw [this, lens, freq, phase, enc_eq]
      congr 1
      fin_cases b
      · exact nrm0 x0 x1 r s 0
      · exact nrm1 x0 x1 r s 0
      · exact nrm2 x0 x1 r s 0
      · exact nrm3 x0 x1 r s 0
      · exact nrm4 x0 x1 r s 0
      · exact nrm5 x0 x1 r s 0
      · exact nrm6 x0 x1 r s 0
      · exact nrm7 x0 x1 r s 0
    generalize k2_pay31 (F := Ideal) x0 x1 (k2_pay6 x0 x1) (k2_pay9 x0 x1) (k2_pay12 x0 x1) (k2_pay16 x0 x1) (k2_pay19 x0 x1)
          (k2_pay22 x0 x1) (k2_pay25 x0 x1) = A at key ⊢
    generalize k2_pay33 (F := Ideal) w = B at key ⊢
    generalize k2_pay32 (F := Ideal) = C at key ⊢
    fin_cases b <;> dsimp only [Matrix.cons_val_zero, Matrix.cons_val] <;> pointwise <;> exact key _ (by simp)
  · funext k
    pointwise
    rw [hot_eq]
    rfl
  · funext k
    pointwise
    rfl
  · funext k
    pointwise
    rfl

variable (V : (c : Dev nD) → (b : Ref sig .tc) → Buf (Elt Ideal) ((c : Thread nD τ).loc b)) (c : Dev nD)

/-- Which block each window of the edge region takes at each step. -/
theorem idx2 (t : Fin cfg2.N) : (cfg2.win 0).index t = ![(grid2.coords t 0).val, 0]
    ∧ (cfg2.win 1).index t = ![(grid2.coords t 0).val, 0, 0] ∧ (cfg2.win 2).index t = ![(grid2.coords t 0).val, 0]
    ∧ (cfg2.win 3).index t = ![0, 0] ∧ (cfg2.win 4).index t = ![(grid2.coords t 0).val, 0, 0]
    ∧ (grid2.coords t 0).val < 256 :=
  (by decide +kernel : ∀ t : Fin cfg2.N, (cfg2.win 0).index t = ![(grid2.coords t 0).val, 0]
    ∧ (cfg2.win 1).index t = ![(grid2.coords t 0).val, 0, 0] ∧ (cfg2.win 2).index t = ![(grid2.coords t 0).val, 0]
    ∧ (cfg2.win 3).index t = ![0, 0] ∧ (cfg2.win 4).index t = ![(grid2.coords t 0).val, 0, 0]
    ∧ (grid2.coords t 0).val < 256) t

/-- The features of an edge as a function of the launch's operands. -/
def val (T : S8192x16.Idx → EReal) (N : S8192x48x16.Idx → EReal) (E : S8192x48.Idx → BitVec 32) (w : S8x16.Idx → EReal)
    (i : S8192x48x201.Idx) : EReal :=
  Spec.edge (fun j => T (ix2 (i 0) j)) (fun j => N (ix3 (i 0) (i 1) j)) (fun k : Fin 8 => w (ix2 0 ⟨k.val, by omega⟩))
    (fun k : Fin 8 => w (ix2 0 ⟨8 + k.val, by omega⟩)) (IntOp.subi (BitVec.ofNat 32 (i 0).val) (E (ix2 (i 0) (i 1)))) (i 2)

/-- The number of a row within all rows, as a word. -/
theorem row_eq (g r : Nat) (hg : g < 256) (hr : r < 32) :
    IntOp.addi (Scalar.muli (BitVec.ofNat 32 g) 32#32) (BitVec.ofNat 32 r) = BitVec.ofNat 32 (g * 32 + r) := by
  apply BitVec.eq_of_toNat_eq
  simp only [Scalar.muli, IntOp.muli]
  word_omega

set_option maxHeartbeats 4000000 in
/-- The third launch leaves the features of each edge. -/
theorem arr2 : (dat2 V c).arrAt 4 cfg2.N = val (V c (Pipeline.arrRef spec2 0)) (V c (Pipeline.arrRef spec2 1))
    (V c (Pipeline.arrRef spec2 2)) (V c (Pipeline.arrRef spec2 3)) := by
  refine (dat2 V c).arrAt_eq_of_covers 4 _ (by decide +kernel) fun t hf y => ?_
  obtain ⟨e0, e1, e2, e3, e4, hl⟩ := idx2 t
  blk_simp
  rw [after2_4]
  unfold_out out2_4
  frame_out
  idx_vars y
  have hy0 := y0.isLt
  have hy1 := y1.isLt
  have hy2 := y2.isLt
  have h0 : ∀ x : Fin 16, iblk2 V c 0 t (ix2 y0 x)
      = V c (Pipeline.arrRef spec2 0) (ix2 ⟨(grid2.coords t 0).val * 32 + y0.val, by omega⟩ x) := by
    intro x; blk_ext [iblk2, e0]
  have h1 : ∀ x : Fin 16, iblk2 V c 1 t (ix3 y0 y1 x)
      = V c (Pipeline.arrRef spec2 1) (ix3 ⟨(grid2.coords t 0).val * 32 + y0.val, by omega⟩ y1 x) := by
    intro x; blk_ext [iblk2, e1]
  have h2 : iblk2 V c 2 t (ix2 y0 y1)
      = V c (Pipeline.arrRef spec2 2) (ix2 ⟨(grid2.coords t 0).val * 32 + y0.val, by omega⟩ y1) := by
    blk_ext [iblk2, e2]
  have h3 : ∀ x : Fin 16, iblk2 V c 3 t (ix2 0 x) = V c (Pipeline.arrRef spec2 3) (ix2 0 x) := by
    intro x; blk_ext [iblk2, e3]
  have hb : ((View.whole main_v54).slice (win2_4.rect t)).emb (ix3 y0 y1 y2)
      = (ix3 ⟨(grid2.coords t 0).val * 32 + y0.val, by omega⟩ y1 y2 : S8192x48x201.Idx) := by
    blk_ext [e4]
  rw [hb]
  simp only [pay1_eq, pay2_eq]
  rw [pay34, row_eq _ _ hl hy0, h2]
  simp only [h0, h1]
  have hw : (fun k : Fin 8 => k2_pay3 (F := Ideal) (View.ld (iblk2 V c 3 t) r2_2) (ix1 k))
      = fun k : Fin 8 => V c (Pipeline.arrRef spec2 3) (ix2 0 ⟨k.val, by omega⟩) := by
    funext k
    rw [← h3 ⟨k.val, by omega⟩]
    generalize iblk2 V c 3 t = z
    pointwise [k2_pay3]
  have hf : (fun k : Fin 8 => k2_pay4 (F := Ideal) (View.ld (iblk2 V c 3 t) r2_3) (ix1 k))
      = fun k : Fin 8 => V c (Pipeline.arrRef spec2 3) (ix2 0 ⟨8 + k.val, by omega⟩) := by
    funext k
    rw [← h3 ⟨8 + k.val, by omega⟩]
    generalize iblk2 V c 3 t = z
    pointwise [k2_pay4]
  exact congrArg₂ (fun p q => Spec.edge _ _ p q _ y2) hw hf

end Cert.KernelEdge
-- ==== Proof.KernelNode.lean ====
/- The payloads of the idealized kernel that make up the features of a residue, read at a lane. -/
module

public import proofs.«01_k».proof.Proof.Gen.KernelIdeal.Frame
public import proofs.«01_k».proof.Proof.Spec
public import proofs.«01_k».proof.Proof.Trig
public import Idealize.ShloMosaic.Lib.Pointwise
public import Idealize.ShloMosaic.Lib.Pipeline.ValueKit

@[expose] public section

set_option maxRecDepth 16384

noncomputable section

namespace Cert.KernelNode

open Idealize.ShloMosaic Idealize.ShloMosaic.TcCoe
open Cert.KernelIdeal Cert.KernelIdeal.Gen

/-- The shapes of the nine pieces of a residue's features. -/
def shapes : List Shape := [S256x19, S256x19, S256x19, S256x19, S256x2, S256x2, S256x2, S256x2, S256x16]

/-- The pieces of a residue's features, joined and read at a lane. -/
theorem ladder (p0 p1 p2 p3 : FVec Ideal S256x19 .f32) (q0 q1 q2 q3 : FVec Ideal S256x2 .f32) (y : FVec Ideal S256x16 .f32)
    (hc) (r : Fin 256) (x : Fin 100) :
    concatenate S256x100 1 [⟨S256x19, p0⟩, ⟨S256x19, p1⟩, ⟨S256x19, p2⟩, ⟨S256x19, p3⟩, ⟨S256x2, q0⟩, ⟨S256x2, q1⟩,
        ⟨S256x2, q2⟩, ⟨S256x2, q3⟩, ⟨S256x16, y⟩] hc (ix2 r x)
      = Spec.lanes100 (fun b k => (![p0, p1, p2, p3] : Fin 4 → FVec Ideal S256x19 .f32) b (ix2 r k))
          (fun b k => (![q0, q1, q2, q3] : Fin 4 → FVec Ideal S256x2 .f32) b (ix2 r k)) (fun k => y (ix2 r k)) x := by
  rcases Spec.lanes100_cases x with ⟨b, k, h⟩ | ⟨b, k, h⟩ | ⟨k, h⟩
  · rw [Spec.lanes100_B b k h]
    fin_cases b
    · exact Spec.cat2 _ _ r x 0 p0 rfl 0 shapes rfl (by decide) k h
    · exact Spec.cat2 _ _ r x 1 p1 rfl 19 shapes rfl (by decide) k h
    · exact Spec.cat2 _ _ r x 2 p2 rfl 38 shapes rfl (by decide) k h
    · exact Spec.cat2 _ _ r x 3 p3 rfl 57 shapes rfl (by decide) k h
  · rw [Spec.lanes100_A b k h]
    fin_cases b
    · exact Spec.cat2 _ _ r x 4 q0 rfl 76 shapes rfl (by decide) k h
    · exact Spec.cat2 _ _ r x 5 q1 rfl 78 shapes rfl (by decide) k h
    · exact Spec.cat2 _ _ r x 6 q2 rfl 80 shapes rfl (by decide) k h
    · exact Spec.cat2 _ _ r x 7 q3 rfl 82 shapes rfl (by decide) k h
  · rw [Spec.lanes100_Y k h]
    exact Spec.cat2 _ _ r x 8 y rfl 84 shapes rfl (by decide) k h

variable (r : Fin 256)

set_option maxHeartbeats 1000000 in
/-- The sine and the cosine of a dihedral angle, as payload 26 of the kernel takes them. -/
theorem circ26 (b0 b1 b2 : FVec Ideal S256x3 .f32) (n : FVec Ideal S256x1 .f32)
    (hn : n (ix2 r 0) = max (Spec.nrm fun j => b1 (ix2 r j)) (Ideal.ofBits FTy.f32 0x33D6BF95#32)) (k : Fin 2) :
    k3_pay26 (F := Ideal) b0 b1 b2 n (ix2 r k)
      = Spec.circ (fun j => b0 (ix2 r j)) (fun j => b1 (ix2 r j)) (fun j => b2 (ix2 r j)) k := by
  pointwise [k3_pay26]
  simp only [hn]
  generalize hB0 : (fun j => b0 (ix2 r j)) = B0
  generalize hB1 : (fun j => b1 (ix2 r j)) = B1
  generalize hB2 : (fun j => b2 (ix2 r j)) = B2
  have e0 : ∀ j, b0 (ix2 r j) = B0 j := fun j => by rw [← hB0]
  have e1 : ∀ j, b1 (ix2 r j) = B1 j := fun j => by rw [← hB1]
  have e2 : ∀ j, b2 (ix2 r j) = B2 j := fun j => by rw [← hB2]
  have ea : ∀ j, Ideal.div (B1 j) (max (Spec.nrm B1) (Ideal.ofBits FTy.f32 869711765#32)) = Spec.axis B1 j := fun j => rfl
  have ed : ∀ u v : Fin 3 → EReal, ∑ x, u x * v x = Spec.dot u v := fun _ _ => rfl
  have ef : ∀ (u v : Fin 3 → EReal) j, u j - Spec.dot u v * v j = Spec.flat u v j := fun _ _ _ => rfl
  simp only [e0, e1, e2, ea, ed, ef, Spec.cross_eq]
  unfold Spec.circ
  by_cases hk : k.val < 1
  · rw [dif_pos hk, if_pos hk]; rfl
  · rw [dif_neg hk, if_neg hk]; rfl

set_option maxHeartbeats 1000000 in
/-- The sine and the cosine of a dihedral angle, as payload 32 of the kernel takes them. -/
theorem circ32 (b0 b1 b2 : FVec Ideal S256x3 .f32) (n : FVec Ideal S256x1 .f32)
    (hn : n (ix2 r 0) = Spec.nrm fun j => b1 (ix2 r j)) (k : Fin 2) :
    k3_pay32 (F := Ideal) b0 b1 b2 n (k3_pay31 (F := Ideal)) (ix2 r k)
      = Spec.circ (fun j => b0 (ix2 r j)) (fun j => b1 (ix2 r j)) (fun j => b2 (ix2 r j)) k := by
  pointwise [k3_pay32, k3_pay31]
  simp only [hn]
  generalize hB0 : (fun j => b0 (ix2 r j)) = B0
  generalize hB1 : (fun j => b1 (ix2 r j)) = B1
  generalize hB2 : (fun j => b2 (ix2 r j)) = B2
  have e0 : ∀ j, b0 (ix2 r j) = B0 j := fun j => by rw [← hB0]
  have e1 : ∀ j, b1 (ix2 r j) = B1 j := fun j => by rw [← hB1]
  have e2 : ∀ j, b2 (ix2 r j) = B2 j := fun j => by rw [← hB2]
  have ea : ∀ j, Ideal.div (B1 j) (max (Spec.nrm B1) (Ideal.ofBits FTy.f32 869711765#32)) = Spec.axis B1 j := fun j => rfl
  have ed : ∀ u v : Fin 3 → EReal, ∑ x, u x * v x = Spec.dot u v := fun _ _ => rfl
  have ef : ∀ (u v : Fin 3 → EReal) j, u j - Spec.dot u v * v j = Spec.flat u v j := fun _ _ _ => rfl
  simp only [e0, e1, e2, ea, ed, ef, Spec.cross_eq]
  unfold Spec.circ
  by_cases hk : k.val < 1
  · rw [dif_pos hk, if_pos hk]; rfl
  · rw [dif_neg hk, if_neg hk]; rfl

set_option maxHeartbeats 1000000 in
/-- The sine and the cosine of a dihedral angle, as payload 37 of the kernel takes them. -/
theorem circ37 (b0 b1 b2 : FVec Ideal S256x3 .f32) (n : FVec Ideal S256x1 .f32)
    (hn : n (ix2 r 0) = Spec.nrm fun j => b1 (ix2 r j)) (k : Fin 2) :
    k3_pay37 (F := Ideal) b0 b1 b2 n (Scalar.ofBits .f32 0x33D6BF95#32) (ix2 r k)
      = Spec.circ (fun j => b0 (ix2 r j)) (fun j => b1 (ix2 r j)) (fun j => b2 (ix2 r j)) k := by
  pointwise [k3_pay37]
  simp only [hn]
  generalize hB0 : (fun j => b0 (ix2 r j)) = B0
  generalize hB1 : (fun j => b1 (ix2 r j)) = B1
  generalize hB2 : (fun j => b2 (ix2 r j)) = B2
  have e0 : ∀ j, b0 (ix2 r j) = B0 j := fun j => by rw [← hB0]
  have e1 : ∀ j, b1 (ix2 r j) = B1 j := fun j => by rw [← hB1]
  have e2 : ∀ j, b2 (ix2 r j) = B2 j := fun j => by rw [← hB2]
  have ea : ∀ j, Ideal.div (B1 j) (max (Spec.nrm B1) (Ideal.ofBits FTy.f32 869711765#32)) = Spec.axis B1 j := fun j => rfl
  have ed : ∀ u v : Fin 3 → EReal, ∑ x, u x * v x = Spec.dot u v := fun _ _ => rfl
  have ef : ∀ (u v : Fin 3 → EReal) j, u j - Spec.dot u v * v j = Spec.flat u v j := fun _ _ _ => rfl
  simp only [e0, e1, e2, ea, ed, ef, Spec.cross_eq]
  unfold Spec.circ
  by_cases hk : k.val < 1
  · rw [dif_pos hk, if_pos hk]; rfl
  · rw [dif_neg hk, if_neg hk]; rfl

set_option maxHeartbeats 1000000 in
/-- The sine and the cosine of a dihedral angle, as payload 42 of the kernel takes them. -/
theorem circ42 (b0 b1 b2 : FVec Ideal S256x3 .f32) (n : FVec Ideal S256x1 .f32)
    (hn : n (ix2 r 0) = Spec.nrm fun j => b1 (ix2 r j)) (k : Fin 2) :
    k3_pay42 (F := Ideal) b0 b1 b2 n (ix2 r k)
      = Spec.circ (fun j => b0 (ix2 r j)) (fun j => b1 (ix2 r j)) (fun j => b2 (ix2 r j)) k := by
  pointwise [k3_pay42]
  simp only [hn]
  generalize hB0 : (fun j => b0 (ix2 r j)) = B0
  generalize hB1 : (fun j => b1 (ix2 r j)) = B1
  generalize hB2 : (fun j => b2 (ix2 r j)) = B2
  have e0 : ∀ j, b0 (ix2 r j) = B0 j := fun j => by rw [← hB0]
  have e1 : ∀ j, b1 (ix2 r j) = B1 j := fun j => by rw [← hB1]
  have e2 : ∀ j, b2 (ix2 r j) = B2 j := fun j => by rw [← hB2]
  have ea : ∀ j, Ideal.div (B1 j) (max (Spec.nrm B1) (Ideal.ofBits FTy.f32 869711765#32)) = Spec.axis B1 j := fun j => rfl
  have ed : ∀ u v : Fin 3 → EReal, ∑ x, u x * v x = Spec.dot u v := fun _ _ => rfl
  have ef : ∀ (u v : Fin 3 → EReal) j, u j - Spec.dot u v * v j = Spec.flat u v j := fun _ _ _ => rfl
  simp only [e0, e1, e2, ea, ed, ef, Spec.cross_eq]
  unfold Spec.circ
  by_cases hk : k.val < 1
  · rw [dif_pos hk, if_pos hk]; rfl
  · rw [dif_neg hk, if_neg hk]; rfl

/-- The row of the kernel's table of atoms. -/
theorem pay2_eq (x : Vec Ideal S256x16 .f32) : k3_pay2 (F := Ideal) x = x := by
  funext i; idx_vars i; pointwise [k3_pay2]

/-- The block of previous residues' rows is as loaded. -/
theorem pay3_eq (x : Vec Ideal S256x16 .f32) : k3_pay3 (F := Ideal) x = x := by
  funext i; idx_vars i; pointwise [k3_pay3]

/-- The block of next residues' rows is as loaded. -/
theorem pay4_eq (x : Vec Ideal S256x16 .f32) : k3_pay4 (F := Ideal) x = x := by
  funext i; idx_vars i; pointwise [k3_pay4]

variable (x0 x1 x2 : Vec Ideal S256x16 .f32) (w : Vec Ideal S1x8 .f32)

/-- The first atom of a residue. -/
theorem atomN (k : Fin 3) : k3_pay6 (F := Ideal) x0 (ix2 r k) = Spec.atom (fun j => x0 (ix2 r j)) 0 k := by
  pointwise [k3_pay6, k3_pay2]
  exact congrArg (fun q => x0 (ix2 r q)) (Fin.ext (by simp))

/-- The second atom of a residue. -/
theorem atomA (k : Fin 3) : k3_pay7 (F := Ideal) x0 (ix2 r k) = Spec.atom (fun j => x0 (ix2 r j)) 1 k := by
  pointwise [k3_pay7, k3_pay2]
  rfl

/-- The third atom of a residue. -/
theorem atomC (k : Fin 3) : k3_pay8 (F := Ideal) x0 (ix2 r k) = Spec.atom (fun j => x0 (ix2 r j)) 2 k := by
  pointwise [k3_pay8, k3_pay2]
  rfl

/-- The fourth atom of a residue. -/
theorem atomO (k : Fin 3) : k3_pay9 (F := Ideal) x0 (ix2 r k) = Spec.atom (fun j => x0 (ix2 r j)) 3 k := by
  pointwise [k3_pay9, k3_pay2]
  rfl

/-- The virtual atom of a residue. -/
theorem atomB (k : Fin 3) : k3_pay10 (F := Ideal) x0 (ix2 r k) = Spec.atom (fun j => x0 (ix2 r j)) 4 k := by
  pointwise [k3_pay10, k3_pay2]
  rfl

/-- The next residue's first atom. -/
theorem nextN (k : Fin 3) : k3_pay20 (F := Ideal) x2 (ix2 r k) = Spec.atom (fun j => x2 (ix2 r j)) 0 k := by
  pointwise [k3_pay20]
  exact congrArg (fun q => x2 (ix2 r q)) (Fin.ext (by simp))

/-- The next residue's second atom. -/
theorem nextA (k : Fin 3) : k3_pay21 (F := Ideal) x2 (ix2 r k) = Spec.atom (fun j => x2 (ix2 r j)) 1 k := by
  pointwise [k3_pay21]
  rfl

/-- The direction of a vector and the encoding of its length, as a ladder of three pieces. -/
theorem block_eq (u : Fin 3 → EReal) (w : Fin 8 → EReal) (x : Fin 19) (a : EReal)
    (h0 : ∀ h : x.val < 3, a = Spec.dir u ⟨x.val, h⟩)
    (h1 : ∀ (h : ¬ x.val < 3) (h' : x.val - 3 < 8),
      a = Ideal.cos (Spec.nrm u * (w ⟨x.val - 3, h'⟩ * Ideal.ofBits FTy.f32 0x40C90FDB#32)))
    (h2 : ∀ (h : ¬ x.val < 3) (h' : ¬ x.val - 3 < 8),
      a = Ideal.sin (Spec.nrm u * (w ⟨x.val - 3 - 8, by omega⟩ * Ideal.ofBits FTy.f32 0x40C90FDB#32))) :
    a = Spec.block u w x := by
  unfold Spec.block
  by_cases h : x.val < 3
  · rw [dif_pos h, h0 h]
  · rw [dif_neg h]
    unfold Spec.enc
    by_cases h' : x.val - 3 < 8
    · rw [dif_pos h', h1 h h', Trig.angle_eq]
    · rw [dif_neg h', h2 h h', Trig.angle_eq]

/-- The block of the first atom: direction and encoded length. -/
theorem block11 (x : Fin 19) : k3_pay11 (F := Ideal) x0 w (ix2 r x)
    = Spec.block (Spec.seg (Spec.atom (fun j => x0 (ix2 r j)) 1) (Spec.atom (fun j => x0 (ix2 r j)) 0))
        (fun k => w (ix2 0 k)) x := by
  pointwise [k3_pay11, k3_pay5]
  simp only [atomN, atomA]
  refine block_eq _ _ _ _ (fun h => ?_) (fun h h' => ?_) (fun h h' => ?_)
  · rw [dif_pos h]; rfl
  · rw [dif_neg h, dif_pos h']; rfl
  · rw [dif_neg h, dif_neg h']; rfl

/-- The block of the third atom: direction and encoded length. -/
theorem block17 (x : Fin 19) : k3_pay17 (F := Ideal) (k3_pay14 x0) (k3_pay15 x0) (k3_pay16 w) (ix2 r x)
    = Spec.block (Spec.seg (Spec.atom (fun j => x0 (ix2 r j)) 1) (Spec.atom (fun j => x0 (ix2 r j)) 2))
        (fun k => w (ix2 0 k)) x := by
  pointwise [k3_pay17, k3_pay14, k3_pay15, k3_pay13, k3_pay12, k3_pay16, k3_pay5]
  simp only [atomC, atomA]
  refine block_eq _ _ _ _ (fun h => ?_) (fun h h' => ?_) (fun h h' => ?_)
  · rw [dif_pos h]; rfl
  · rw [dif_neg h, dif_pos h']; rfl
  · rw [dif_neg h, dif_neg h']; rfl

/-- The block of the fourth atom: direction and encoded length. -/
theorem block18 (x : Fin 19) : k3_pay18 (F := Ideal) (k3_pay5 w) (k3_pay7 x0) (k3_pay9 x0) (ix2 r x)
    = Spec.block (Spec.seg (Spec.atom (fun j => x0 (ix2 r j)) 1) (Spec.atom (fun j => x0 (ix2 r j)) 3))
        (fun k => w (ix2 0 k)) x := by
  pointwise [k3_pay18, k3_pay5]
  simp only [atomO, atomA]
  refine block_eq _ _ _ _ (fun h => ?_) (fun h h' => ?_) (fun h h' => ?_)
  · rw [dif_pos h]; rfl
  · rw [dif_neg h, dif_pos h']; rfl
  · rw [dif_neg h, dif_neg h']; rfl

/-- The block of the virtual atom: direction and encoded length. -/
theorem block19 (x : Fin 19) : k3_pay19 (F := Ideal) (k3_pay5 w) (k3_pay7 x0) (k3_pay10 x0) (ix2 r x)
    = Spec.block (Spec.seg (Spec.atom (fun j => x0 (ix2 r j)) 1) (Spec.atom (fun j => x0 (ix2 r j)) 4))
        (fun k => w (ix2 0 k)) x := by
  pointwise [k3_pay19, k3_pay5]
  simp only [atomB, atomA]
  refine block_eq _ _ _ _ (fun h => ?_) (fun h h' => ?_) (fun h h' => ?_)
  · rw [dif_pos h]; rfl
  · rw [dif_neg h, dif_pos h']; rfl
  · rw [dif_neg h, dif_neg h']; rfl

/-- The join of the pieces of a residue's features. -/
theorem pay1_eq (p0 p1 p2 p3 : FVec Ideal S256x19 .f32) (q0 q1 q2 q3 : FVec Ideal S256x2 .f32) (M : Vec Ideal S8x16 .f32)
    (l : Fin 100) :
    k3_pay1 (F := Ideal) p0 p1 p2 p3 q0 q1 q2 q3 (k3_pay43 x0) M (ix2 r l)
      = Spec.lanes100 (fun b k => (![p0, p1, p2, p3] : Fin 4 → FVec Ideal S256x19 .f32) b (ix2 r k))
          (fun b k => (![q0, q1, q2, q3] : Fin 4 → FVec Ideal S256x2 .f32) b (ix2 r k))
          (Spec.kindRow (fun a x => M (ix2 ⟨a.val, by omega⟩ x)) (x0 (ix2 r 15))) l := by
  unfold k3_pay1
  rw [ladder]
  congr 1
  funext x
  pointwise [k3_pay43]
  rfl

/-- The vectors of the dihedral angles. -/
theorem seg22 : (fun k => k3_pay22 (F := Ideal) x1 (k3_pay6 x0) (ix2 r k))
    = Spec.seg (Spec.atom (fun j => x0 (ix2 r j)) 0) (Spec.atom (fun j => x1 (ix2 r j)) 2) := by
  funext k
  pointwise [k3_pay22]
  rw [atomN]
  rfl

/-- The second vector of phi. -/
theorem seg23 : (fun k => k3_pay23 (F := Ideal) (k3_pay6 x0) (k3_pay7 x0) (ix2 r k))
    = Spec.seg (Spec.atom (fun j => x0 (ix2 r j)) 0) (Spec.atom (fun j => x0 (ix2 r j)) 1) := by
  funext k
  pointwise [k3_pay23]
  simp only [atomN, atomA]
  rfl

/-- The third vector of phi. -/
theorem seg24 : (fun k => k3_pay24 (F := Ideal) (k3_pay7 x0) (k3_pay8 x0) (ix2 r k))
    = Spec.seg (Spec.atom (fun j => x0 (ix2 r j)) 1) (Spec.atom (fun j => x0 (ix2 r j)) 2) := by
  funext k
  pointwise [k3_pay24]
  simp only [atomA, atomC]
  rfl

/-- The first vector of psi, turned round. -/
theorem seg27 : (fun k => k3_pay27 (F := Ideal) (k3_pay6 x0) (k3_pay7 x0) (ix2 r k))
    = Spec.seg (Spec.atom (fun j => x0 (ix2 r j)) 1) (Spec.atom (fun j => x0 (ix2 r j)) 0) := by
  funext k
  pointwise [k3_pay27]
  simp only [atomN, atomA]
  rfl

/-- The second vector of psi. -/
theorem seg28 : (fun k => k3_pay28 (F := Ideal) (k3_pay7 x0) (k3_pay8 x0) (ix2 r k))
    = Spec.seg (Spec.atom (fun j => x0 (ix2 r j)) 1) (Spec.atom (fun j => x0 (ix2 r j)) 2) := by
  funext k
  pointwise [k3_pay28]
  simp only [atomA, atomC]
  rfl

/-- The third vector of psi. -/
theorem seg29 : (fun k => k3_pay29 (F := Ideal) (k3_pay8 x0) (k3_pay20 x2) (ix2 r k))
    = Spec.seg (Spec.atom (fun j => x0 (ix2 r j)) 2) (Spec.atom (fun j => x2 (ix2 r j)) 0) := by
  funext k
  pointwise [k3_pay29]
  simp only [atomC, nextN]
  rfl

/-- The first vector of omega, turned round. -/
theorem seg33 : (fun k => k3_pay33 (F := Ideal) (k3_pay7 x0) (k3_pay8 x0) (ix2 r k))
    = Spec.seg (Spec.atom (fun j => x0 (ix2 r j)) 2) (Spec.atom (fun j => x0 (ix2 r j)) 1) := by
  funext k
  pointwise [k3_pay33]
  simp only [atomA, atomC]
  rfl

/-- The second vector of omega. -/
theorem seg34 : (fun k => k3_pay34 (F := Ideal) (k3_pay8 x0) (k3_pay20 x2) (ix2 r k))
    = Spec.seg (Spec.atom (fun j => x0 (ix2 r j)) 2) (Spec.atom (fun j => x2 (ix2 r j)) 0) := by
  funext k
  pointwise [k3_pay34]
  simp only [atomC, nextN]
  rfl

/-- The third vector of omega. -/
theorem seg35 : (fun k => k3_pay35 (F := Ideal) (k3_pay20 x2) (k3_pay21 x2) (ix2 r k))
    = Spec.seg (Spec.atom (fun j => x2 (ix2 r j)) 0) (Spec.atom (fun j => x2 (ix2 r j)) 1) := by
  funext k
  pointwise [k3_pay35]
  simp only [nextN, nextA]
  rfl

/-- The first vector of tau, turned round. -/
theorem seg38 : (fun k => k3_pay38 (F := Ideal) (k3_pay6 x0) (k3_pay7 x0) (ix2 r k))
    = Spec.seg (Spec.atom (fun j => x0 (ix2 r j)) 1) (Spec.atom (fun j => x0 (ix2 r j)) 0) := by
  funext k
  pointwise [k3_pay38]
  simp only [atomN, atomA]
  rfl

/-- The second vector of tau. -/
theorem seg39 : (fun k => k3_pay39 (F := Ideal) (k3_pay7 x0) (k3_pay8 x0) (ix2 r k))
    = Spec.seg (Spec.atom (fun j => x0 (ix2 r j)) 1) (Spec.atom (fun j => x0 (ix2 r j)) 2) := by
  funext k
  pointwise [k3_pay39]
  simp only [atomA, atomC]
  rfl

/-- The third vector of tau. -/
theorem seg40 : (fun k => k3_pay40 (F := Ideal) (k3_pay8 x0) (k3_pay9 x0) (ix2 r k))
    = Spec.seg (Spec.atom (fun j => x0 (ix2 r j)) 2) (Spec.atom (fun j => x0 (ix2 r j)) 3) := by
  funext k
  pointwise [k3_pay40]
  simp only [atomC, atomO]
  rfl

/-- The length of the second vector of phi. It is bounded below. -/
theorem len25 (v v' : FVec Ideal S256x3 .f32) : k3_pay25 (F := Ideal) v v' (ix2 r 0) = max (Spec.nrm fun j => k3_pay23 (F := Ideal) v v' (ix2 r j)) (Ideal.ofBits FTy.f32 0x33D6BF95#32) := by
  pointwise [k3_pay25]
  rfl

/-- The length of the second vector of psi. -/
theorem len30 (v v' : FVec Ideal S256x3 .f32) : k3_pay30 (F := Ideal) v v' (ix2 r 0) = Spec.nrm fun j => k3_pay28 (F := Ideal) v v' (ix2 r j) := by
  pointwise [k3_pay30]
  rfl

/-- The length of the second vector of omega. -/
theorem len36 (v v' : FVec Ideal S256x3 .f32) : k3_pay36 (F := Ideal) v v' (ix2 r 0) = Spec.nrm fun j => k3_pay34 (F := Ideal) v v' (ix2 r j) := by
  pointwise [k3_pay36]
  rfl

/-- The length of the second vector of tau. -/
theorem len41 (v v' : FVec Ideal S256x3 .f32) : k3_pay41 (F := Ideal) v v' (ix2 r 0) = Spec.nrm fun j => k3_pay39 (F := Ideal) v v' (ix2 r j) := by
  pointwise [k3_pay41]
  rfl

/-- The features of a residue, as the kernel's body takes them from its blocks. -/
theorem node_eq (M : Vec Ideal S8x16 .f32) (l : Fin 100) :
    k3_pay1 (F := Ideal) (k3_pay11 x0 w) (k3_pay17 (k3_pay14 x0) (k3_pay15 x0) (k3_pay16 w))
      (k3_pay18 (k3_pay5 w) (k3_pay7 x0) (k3_pay9 x0)) (k3_pay19 (k3_pay5 w) (k3_pay7 x0) (k3_pay10 x0))
      (k3_pay26 (k3_pay22 x1 (k3_pay6 x0)) (k3_pay23 (k3_pay6 x0) (k3_pay7 x0)) (k3_pay24 (k3_pay7 x0) (k3_pay8 x0))
        (k3_pay25 (k3_pay6 x0) (k3_pay7 x0)))
      (k3_pay32 (k3_pay27 (k3_pay6 x0) (k3_pay7 x0)) (k3_pay28 (k3_pay7 x0) (k3_pay8 x0))
        (k3_pay29 (k3_pay8 x0) (k3_pay20 x2)) (k3_pay30 (k3_pay7 x0) (k3_pay8 x0)) (k3_pay31 (F := Ideal)))
      (k3_pay37 (k3_pay33 (k3_pay7 x0) (k3_pay8 x0)) (k3_pay34 (k3_pay8 x0) (k3_pay20 x2))
        (k3_pay35 (k3_pay20 x2) (k3_pay21 x2)) (k3_pay36 (k3_pay8 x0) (k3_pay20 x2)) (FloatOps.ofBits FTy.f32 869711765#32))
      (k3_pay42 (k3_pay38 (k3_pay6 x0) (k3_pay7 x0)) (k3_pay39 (k3_pay7 x0) (k3_pay8 x0))
        (k3_pay40 (k3_pay8 x0) (k3_pay9 x0)) (k3_pay41 (k3_pay7 x0) (k3_pay8 x0)))
      (k3_pay43 x0) M (ix2 r l)
      = Spec.node (fun j => x1 (ix2 r j)) (fun j => x0 (ix2 r j)) (fun j => x2 (ix2 r j)) (fun k => w (ix2 0 k))
          (fun a x => M (ix2 ⟨a.val, by omega⟩ x)) l := by
  rw [pay1_eq]
  unfold Spec.node
  congr 1
  · funext b k
    fin_cases b
    · exact block11 r x0 w k
    · exact block17 r x0 w k
    · exact block18 r x0 w k
    · exact block19 r x0 w k
  · funext b k
    fin_cases b
    · refine (circ26 r _ _ _ _ (len25 r _ _) k).trans ?_
      rw [seg22, seg23, seg24]
      rfl
    · refine (circ32 r _ _ _ _ (len30 r _ _) k).trans ?_
      rw [seg27, seg28, seg29]
      rfl
    · refine (circ37 r _ _ _ _ (len36 r _ _) k).trans ?_
      rw [seg33, seg34, seg35]
      rfl
    · refine (circ42 r _ _ _ _ (len41 r _ _) k).trans ?_
      rw [seg38, seg39, seg40]
      rfl

end Cert.KernelNode
-- ==== Proof.KernelNodeVal.lean ====
/- The array that the fourth launch of the idealized kernel leaves: the features of each residue. -/
module

public import proofs.«01_k».proof.Proof.KernelNode

@[expose] public section

set_option maxRecDepth 16384

noncomputable section

namespace Cert.KernelNode

open Idealize.ShloMosaic Idealize.ShloMosaic.TcCoe
open Cert.KernelIdeal Cert.KernelIdeal.Gen

variable (V : (c : Dev nD) → (b : Ref sig .tc) → Buf (Elt Ideal) ((c : Thread nD τ).loc b)) (c : Dev nD)

/-- Which block each window of the node region takes at each step. -/
theorem idx3 (t : Fin cfg3.N) : (cfg3.win 0).index t = ![(grid3.coords t 0).val, 0]
    ∧ (cfg3.win 1).index t = ![(grid3.coords t 0).val, 0] ∧ (cfg3.win 2).index t = ![(grid3.coords t 0).val, 0]
    ∧ (cfg3.win 3).index t = ![0, 0] ∧ (cfg3.win 4).index t = ![0, 0] ∧ (cfg3.win 5).index t = ![(grid3.coords t 0).val, 0]
    ∧ (grid3.coords t 0).val < 32 :=
  (by decide +kernel : ∀ t : Fin cfg3.N, (cfg3.win 0).index t = ![(grid3.coords t 0).val, 0]
    ∧ (cfg3.win 1).index t = ![(grid3.coords t 0).val, 0] ∧ (cfg3.win 2).index t = ![(grid3.coords t 0).val, 0]
    ∧ (cfg3.win 3).index t = ![0, 0] ∧ (cfg3.win 4).index t = ![0, 0] ∧ (cfg3.win 5).index t = ![(grid3.coords t 0).val, 0]
    ∧ (grid3.coords t 0).val < 32) t

/-- The features of a residue as a function of the launch's operands. -/
def val (T P X : S8192x16.Idx → EReal) (w : S8x8.Idx → EReal) (M : S8x16.Idx → EReal) (i : S8192x100.Idx) : EReal :=
  Spec.node (fun j => P (ix2 (i 0) j)) (fun j => T (ix2 (i 0) j)) (fun j => X (ix2 (i 0) j)) (fun k => w (ix2 0 k))
    (fun a x => M (ix2 ⟨a.val, by omega⟩ x)) (i 1)

set_option maxHeartbeats 4000000 in
/-- The fourth launch leaves the features of each residue. -/
theorem arr3 : (dat3 V c).arrAt 5 cfg3.N = val (V c (Pipeline.arrRef spec3 0)) (V c (Pipeline.arrRef spec3 1))
    (V c (Pipeline.arrRef spec3 2)) (V c (Pipeline.arrRef spec3 3)) (V c (Pipeline.arrRef spec3 4)) := by
  refine (dat3 V c).arrAt_eq_of_covers 5 _ (by decide +kernel) fun t hf y => ?_
  obtain ⟨e0, e1, e2, e3, e4, e5, hl⟩ := idx3 t
  blk_simp
  rw [after3_5]
  unfold_out out3_5
  frame_out
  idx_vars y
  have hy0 := y0.isLt
  have hy1 := y1.isLt
  have h0 : ∀ x : Fin 16, iblk3 V c 0 t (ix2 y0 x)
      = V c (Pipeline.arrRef spec3 0) (ix2 ⟨(grid3.coords t 0).val * 256 + y0.val, by omega⟩ x) := by
    intro x; blk_ext [iblk3, e0]
  have h1 : ∀ x : Fin 16, iblk3 V c 1 t (ix2 y0 x)
      = V c (Pipeline.arrRef spec3 1) (ix2 ⟨(grid3.coords t 0).val * 256 + y0.val, by omega⟩ x) := by
    intro x; blk_ext [iblk3, e1]
  have h2 : ∀ x : Fin 16, iblk3 V c 2 t (ix2 y0 x)
      = V c (Pipeline.arrRef spec3 2) (ix2 ⟨(grid3.coords t 0).val * 256 + y0.val, by omega⟩ x) := by
    intro x; blk_ext [iblk3, e2]
  have h3 : ∀ x : Fin 8, iblk3 V c 3 t (ix2 0 x) = V c (Pipeline.arrRef spec3 3) (ix2 0 x) := by
    intro x; blk_ext [iblk3, e3]
  have h4 : ∀ (a : Fin 8) (x : Fin 16), iblk3 V c 4 t (ix2 a x) = V c (Pipeline.arrRef spec3 4) (ix2 a x) := by
    intro a x; blk_ext [iblk3, e4]
  have hb : ((View.whole main_v60).slice (win3_5.rect t)).emb (ix2 y0 y1)
      = (ix2 ⟨(grid3.coords t 0).val * 256 + y0.val, by omega⟩ y1 : S8192x100.Idx) := by
    blk_ext [e5]
  rw [hb]
  simp only [pay2_eq, pay3_eq, pay4_eq]
  rw [node_eq]
  simp only [h0, h1, h2, h4]
  have hw : (fun k : Fin 8 => View.ld (iblk3 V c 3 t) r3_1 (ix2 0 k))
      = fun k : Fin 8 => V c (Pipeline.arrRef spec3 3) (ix2 0 k) := by
    funext k
    rw [← h3 k]
    generalize iblk3 V c 3 t = z
    pointwise
  exact congrArg (fun q => Spec.node _ _ _ q _ y1) hw

end Cert.KernelNode
-- ==== Proof.KernelValue.lean ====
/- The results of the idealized kernel. -/
module

public import proofs.«01_k».proof.Proof.KernelSelect
public import proofs.«01_k».proof.Proof.KernelEdge
public import proofs.«01_k».proof.Proof.KernelNodeVal

@[expose] public section

set_option maxRecDepth 16384

/-! The three results of the idealized kernel as formulas of the arguments. -/

noncomputable section

namespace Cert.KernelValue

open Idealize.ShloMosaic Idealize.ShloMosaic.TcCoe
open Cert.KernelIdeal Cert.KernelIdeal.Gen
open Cert.KernelSelect

variable (m : (ℓ : Loc nD τ sig) → Buf (Elt Ideal) ℓ) (ρ : Dev nD → PrngReg) (c : Dev nD)

/-- The frequencies that the idealized kernel is given. -/
abbrev freqs (k : Fin 8) : EReal := m ((c : Thread nD τ).loc main_arg1) (ix1 k)

/-- The embedding of kinds that the idealized kernel is given. -/
abbrev embedding (a : Fin 3) (x : Fin 16) : EReal := m ((c : Thread nD τ).loc main_arg2) (ix2 a x)

/-- The table of residues, as the last two regions find it. -/
theorem table12 (a : Fin 8192) (j : Fin 16) :
    W12 m ρ c (Proc.devRef .tc main_v22) (ix2 a j) = Spec.tab (atoms m c) (kinds m c) a j := by
  refine (congrFun ((W12_of m ρ c main_v22 (by decide)).trans ((W11_of m ρ c main_v22 (by decide)).trans
    ((W10_of m ρ c main_v22 (by decide)).trans ((W9_of m ρ c main_v22 (by decide)).trans
    ((W8_of m ρ c main_v22 (by decide)).trans ((W7_of m ρ c main_v22 (by decide)).trans
    ((W6_of m ρ c main_v22 (by decide)).trans ((W5_of m ρ c main_v22 (by decide)).trans
    (W4_of m ρ c main_v22 (by decide))))))))) ) _).trans ?_
  exact table m ρ c a j

/-- The constant frequencies. -/
theorem cst12 (k : Fin 8) :
    W12 m ρ c (Proc.devRef .tc main_cst) (ix1 k) = Ideal.ofBits FTy.f32 (lit0 (S8.rowMajor (ix1 k))) := by
  refine (congrFun ((W12_of m ρ c main_cst (by decide)).trans ((W11_of m ρ c main_cst (by decide)).trans
    ((W10_of m ρ c main_cst (by decide)).trans ((W9_of m ρ c main_cst (by decide)).trans
    ((W8_of m ρ c main_cst (by decide)).trans ((W7_of m ρ c main_cst (by decide)).trans
    ((W6_of m ρ c main_cst (by decide)).trans ((W5_of m ρ c main_cst (by decide)).trans
    ((W4_of m ρ c main_cst (by decide)).trans ((W3_of m ρ c main_cst (by decide)).trans
    (W2_of m ρ c main_cst (by decide)))))))))))) _).trans ?_
  show StableHlo.after hostOps0 (W0 m ρ c) (Proc.devRef .tc main_cst) (ix1 k) = _
  after_reads_at

/-- The indices of the neighbours. -/
theorem indices (a : Fin 8192) (s : Fin 48) : W19 m ρ c (Proc.devRef .tc main_v41) (ix2 a s)
    = BitVec.ofNat 32 (Selection.nth (Spec.dist (atoms m c) a) ⟨s.val, by omega⟩).val := by
  refine (congrFun ((W19_of m ρ c main_v41 (by decide)).trans ((W18_of m ρ c main_v41 (by decide)).trans
    ((W17_of m ρ c main_v41 (by decide)).trans ((W16_of m ρ c main_v41 (by decide)).trans
    ((W15_of m ρ c main_v41 (by decide)).trans ((W14_of m ρ c main_v41 (by decide)).trans
    (W13_of m ρ c main_v41 (by decide)))))))) _).trans ?_
  exact chosen m ρ c a s

/-- The edge features. -/
theorem edges (a : Fin 8192) (s : Fin 48) (l : Fin 201) : W19 m ρ c (Proc.devRef .tc main_v54) (ix3 a s l)
    = Spec.edge (Spec.tab (atoms m c) (kinds m c) a)
        (Spec.tab (atoms m c) (kinds m c) (Selection.nth (Spec.dist (atoms m c) a) ⟨s.val, by omega⟩))
        (freqs m c) (fun k => Ideal.ofBits FTy.f32 (lit0 (S8.rowMajor (ix1 k))))
        (IntOp.subi (BitVec.ofNat 32 a.val)
          (BitVec.ofNat 32 (Selection.nth (Spec.dist (atoms m c) a) ⟨s.val, by omega⟩).val)) l := by
  refine (congrFun ((W19_of m ρ c main_v54 (by decide)).trans ((W18_of m ρ c main_v54 (by decide)).trans
    ((W17_of m ρ c main_v54 (by decide)).trans ((W16_of m ρ c main_v54 (by decide)).trans
    ((W15_of m ρ c main_v54 (by decide)).trans (W14_arr m ρ c 4)))))) _).trans ?_
  rw [KernelEdge.arr2]
  have hT : (fun j => V13 m ρ c (Pipeline.arrRef spec2 0) (ix2 a j)) = Spec.tab (atoms m c) (kinds m c) a :=
    funext fun j => (congrFun (W13_of m ρ c main_v22 (by decide)) _).trans (table12 m ρ c a j)
  have hN : (fun j => V13 m ρ c (Pipeline.arrRef spec2 1) (ix3 a s j))
      = Spec.tab (atoms m c) (kinds m c) (Selection.nth (Spec.dist (atoms m c) a) ⟨s.val, by omega⟩) :=
    funext fun j => (KernelHost.v50 (W12 m ρ c) a s j _ (chosen m ρ c a s)).trans (table12 m ρ c _ j)
  have hE : V13 m ρ c (Pipeline.arrRef spec2 2) (ix2 a s)
      = BitVec.ofNat 32 (Selection.nth (Spec.dist (atoms m c) a) ⟨s.val, by omega⟩).val :=
    (congrFun (W13_of m ρ c main_v41 (by decide)) _).trans (chosen m ρ c a s)
  have hw : (fun k : Fin 8 => V13 m ρ c (Pipeline.arrRef spec2 3) (ix2 0 ⟨k.val, by omega⟩)) = freqs m c :=
    funext fun k => (KernelHost.v53_lt (W12 m ρ c) k).trans (congrFun (W12_args m ρ c main_arg1 (by decide)) _)
  have hf : (fun k : Fin 8 => V13 m ρ c (Pipeline.arrRef spec2 3) (ix2 0 ⟨8 + k.val, by omega⟩))
      = fun k => Ideal.ofBits FTy.f32 (lit0 (S8.rowMajor (ix1 k))) :=
    funext fun k => (KernelHost.v53_ge (W12 m ρ c) k).trans (cst12 m ρ c k)
  show Spec.edge (fun j => V13 m ρ c (Pipeline.arrRef spec2 0) (ix2 a j))
    (fun j => V13 m ρ c (Pipeline.arrRef spec2 1) (ix3 a s j))
    (fun k : Fin 8 => V13 m ρ c (Pipeline.arrRef spec2 3) (ix2 0 ⟨k.val, by omega⟩))
    (fun k : Fin 8 => V13 m ρ c (Pipeline.arrRef spec2 3) (ix2 0 ⟨8 + k.val, by omega⟩))
    (IntOp.subi (BitVec.ofNat 32 a.val) (V13 m ρ c (Pipeline.arrRef spec2 2) (ix2 a s))) l = _
  rw [hT, hN, hw, hf, hE]

/-- The table of residues, as the last region's host operations find it. -/
theorem table14 (a : Fin 8192) (j : Fin 16) :
    W14 m ρ c (Proc.devRef .tc main_v22) (ix2 a j) = Spec.tab (atoms m c) (kinds m c) a j :=
  (congrFun ((W14_of m ρ c main_v22 (by decide)).trans (W13_of m ρ c main_v22 (by decide))) _).trans (table12 m ρ c a j)

/-- The node features. -/
theorem nodes (a p x : Fin 8192) (hp : p.val = (a.val + 8191) % 8192) (hx : x.val = (a.val + 1) % 8192) (l : Fin 100) :
    W19 m ρ c (Proc.devRef .tc main_v60) (ix2 a l)
    = Spec.node (Spec.tab (atoms m c) (kinds m c) p) (Spec.tab (atoms m c) (kinds m c) a)
        (Spec.tab (atoms m c) (kinds m c) x) (freqs m c) (embedding m c) l := by
  refine (congrFun (W19_arr m ρ c 5) _).trans ?_
  rw [KernelNode.arr3]
  have hT : (fun j => V18 m ρ c (Pipeline.arrRef spec3 0) (ix2 a j)) = Spec.tab (atoms m c) (kinds m c) a :=
    funext fun j => (congrFun ((W18_of m ρ c main_v22 (by decide)).trans ((W17_of m ρ c main_v22 (by decide)).trans
      ((W16_of m ρ c main_v22 (by decide)).trans (W15_of m ρ c main_v22 (by decide))))) _).trans (table14 m ρ c a j)
  have hP : (fun j => V18 m ρ c (Pipeline.arrRef spec3 1) (ix2 a j)) = Spec.tab (atoms m c) (kinds m c) p :=
    funext fun j => (congrFun ((W18_of m ρ c main_v55 (by decide)).trans ((W17_of m ρ c main_v55 (by decide)).trans
      (W16_of m ρ c main_v55 (by decide)))) _).trans
      ((KernelHost.v55 (W14 m ρ c) a p j hp).trans (table14 m ρ c p j))
  have hX : (fun j => V18 m ρ c (Pipeline.arrRef spec3 2) (ix2 a j)) = Spec.tab (atoms m c) (kinds m c) x :=
    funext fun j => (congrFun ((W18_of m ρ c main_v56 (by decide)).trans (W17_of m ρ c main_v56 (by decide))) _).trans
      ((KernelHost.v56 (W15 m ρ c) a x j hx).trans
        ((congrFun (W15_of m ρ c main_v22 (by decide)) _).trans (table14 m ρ c x j)))
  have hw : (fun k : Fin 8 => V18 m ρ c (Pipeline.arrRef spec3 3) (ix2 0 k)) = freqs m c :=
    funext fun k => (congrFun (W18_of m ρ c main_v58 (by decide)) _).trans
      ((KernelHost.v58 (W16 m ρ c) k).trans (congrFun (W16_args m ρ c main_arg1 (by decide)) _))
  have hM : (fun (a : Fin 3) x => V18 m ρ c (Pipeline.arrRef spec3 4) (ix2 ⟨a.val, by omega⟩ x)) = embedding m c :=
    funext fun a => funext fun x => (KernelHost.v59 (W17 m ρ c) a x).trans
      (congrFun (W17_args m ρ c main_arg2 (by decide)) _)
  show Spec.node (fun j => V18 m ρ c (Pipeline.arrRef spec3 1) (ix2 a j))
    (fun j => V18 m ρ c (Pipeline.arrRef spec3 0) (ix2 a j)) (fun j => V18 m ρ c (Pipeline.arrRef spec3 2) (ix2 a j))
    (fun k : Fin 8 => V18 m ρ c (Pipeline.arrRef spec3 3) (ix2 0 k))
    (fun (a : Fin 3) x => V18 m ρ c (Pipeline.arrRef spec3 4) (ix2 ⟨a.val, by omega⟩ x)) l = _
  rw [hT, hP, hX, hw, hM]

end Cert.KernelValue
-- ==== Proof.RefHost.lean ====
/- The reference's atoms, virtual atom, distances and neighbours. -/
module

public import proofs.«01_k».proof.Proof.Gen.ReferenceIdeal.Run
public import proofs.«01_k».proof.Proof.Spec
public import proofs.«01_k».proof.Proof.HostIndex
public import proofs.«01_k».proof.Proof.Selection

@[expose] public section

set_option maxRecDepth 16384

noncomputable section

namespace Cert.RefHost

open Idealize.ShloMosaic Idealize.ShloMosaic.TcCoe
open Cert.ReferenceIdeal Cert.ReferenceIdeal.Gen Cert.ReferenceIdeal.Value

variable (V : Valuation τ sig (Elt Ideal))

/-- The atoms that the reference is given. -/
abbrev atoms : (⟨3, ![8192, 4, 3]⟩ : Shape).Idx → EReal := V (Proc.devRef .tc main_arg0)

/-- The first atoms. -/
theorem v1 (a : Fin 8192) (k : Fin 3) : res_main_v1 V (ix2 a k) = Spec.point (atoms V) a 0 k := by
  pointwise [res_main_v1]
  rfl

/-- The second atoms. -/
theorem v3 (a : Fin 8192) (k : Fin 3) : res_main_v3 V (ix2 a k) = Spec.point (atoms V) a 1 k := by
  pointwise [res_main_v3]
  rfl

/-- The third atoms. -/
theorem v5 (a : Fin 8192) (k : Fin 3) : res_main_v5 V (ix2 a k) = Spec.point (atoms V) a 2 k := by
  pointwise [res_main_v5]
  rfl

/-- The fourth atoms. -/
theorem v7 (a : Fin 8192) (k : Fin 3) : res_main_v7 V (ix2 a k) = Spec.point (atoms V) a 3 k := by
  pointwise [res_main_v7]
  rfl

/-- The vectors from the first atoms to the second. -/
theorem v8 (a : Fin 8192) (k : Fin 3) : res_main_v8 V (ix2 a k) = Spec.seg (Spec.point (atoms V) a 0) (Spec.point (atoms V) a 1) k := by
  pointwise [res_main_v8]
  rw [v1, v3]
  rfl

/-- The vectors from the second atoms to the third. -/
theorem v9 (a : Fin 8192) (k : Fin 3) : res_main_v9 V (ix2 a k) = Spec.seg (Spec.point (atoms V) a 1) (Spec.point (atoms V) a 2) k := by
  pointwise [res_main_v9]
  rw [v3, v5]
  rfl

/-- The virtual atoms. -/
theorem v43 (a : Fin 8192) (k : Fin 3) : res_main_v43 V (ix2 a k)
    = Spec.beta (Spec.point (atoms V) a 0) (Spec.point (atoms V) a 1) (Spec.point (atoms V) a 2) k := by
  pointwise [res_main_v43, res_main_v11, res_main_v13, res_main_v15, res_main_v17, res_main_v19, res_main_v21]
  simp only [v8, v9, v3]
  unfold Spec.beta
  fin_cases k <;> rfl

/-- The sums of the squares of an atom's coordinates. -/
theorem v45 (a : Fin 8192) : res_main_v45 V (ix1 a) = ∑ k, Spec.point (atoms V) a 1 k * Spec.point (atoms V) a 1 k := by
  pointwise [res_main_v45]
  simp only [v3]

/-- The negated squared distances. -/
theorem v62 (a b : Fin 8192) : res_main_v62 V (ix2 a b) = -Spec.dist (atoms V) a b := by
  pointwise [res_main_v62]
  simp only [v45, v3]
  rw [Spec.select_eq]
  have h : (IntOp.addi (BitVec.ofNat 32 a.val) 0#32 = BitVec.ofNat 32 b.val) ↔ a = b := by
    constructor
    · intro h
      have h' := congrArg BitVec.toNat h
      simp only [IntOp.addi, BitVec.toNat_add, BitVec.toNat_ofNat] at h'
      exact Fin.ext (by omega)
    · rintro rfl
      simp [IntOp.addi]
  unfold Spec.dist Spec.d2
  by_cases e : a = b
  · rw [if_pos (h.mpr e), if_pos e]
    rfl
  · rw [if_neg (fun z => e (h.mp z)), if_neg e]

/-- The indices of the neighbours. -/
theorem indices (a : Fin 8192) (s : Fin 48) : res_main_indices V (ix2 a s)
    = BitVec.ofNat 32 (Selection.nth (Spec.dist (atoms V) a) ⟨s.val, by omega⟩).val :=
  HostIndex.topK_index (res_main_v62 V) _ a (Spec.dist (atoms V) a) (v62 V a) s ⟨s.val, by omega⟩ rfl

end Cert.RefHost
-- ==== Proof.RefEdge.lean ====
/- The reference's edge features. -/
module

public import proofs.«01_k».proof.Proof.RefHost
public import proofs.«01_k».proof.Proof.KernelHost

@[expose] public section

set_option maxRecDepth 16384

noncomputable section

namespace Cert.RefEdge

open Idealize.ShloMosaic Idealize.ShloMosaic.TcCoe
open Cert.ReferenceIdeal Cert.ReferenceIdeal.Gen Cert.ReferenceIdeal.Value
open Cert.RefHost

variable (V : Valuation τ sig (Elt Ideal))

/-- The kinds that the reference is given. -/
abbrev kinds : (⟨1, ![8192]⟩ : Shape).Idx → BitVec 32 := V (Proc.devRef .tc main_arg4)

/-- The frequencies that the reference is given. -/
abbrev freqs (k : Fin 8) : EReal := V (Proc.devRef .tc main_arg1) (ix1 k)

/-- The row of a residue. -/
abbrev row (a : Fin 8192) : Fin 16 → EReal := Spec.tab (atoms V) (kinds V) a

/-- A neighbour of a residue. -/
abbrev near (a : Fin 8192) (s : Fin 48) : Fin 8192 := Selection.nth (Spec.dist (atoms V) a) ⟨s.val, by omega⟩

/-- The neighbours' indices with negative ones counted from the end. -/
abbrev wrapped : IVec S8192x48x1 32 :=
  broadcastInDim S8192x48x1 ![0, 1] bcast_S8192x48_S8192x48x1_0_1
    (select (cmpi .slt (res_main_indices V) (broadcastInDim S8192x48 ![] bcast_S_S8192x48 (constantI S_ 32 0#32)))
      (addi (res_main_indices V) (broadcastInDim S8192x48 ![] bcast_S_S8192x48 (constantI S_ 32 8192#32))) (res_main_indices V))

/-- The neighbours' indices need no counting from the end. -/
theorem wrapped_eq (a : Fin 8192) (s : Fin 48) : wrapped V (ix3 a s 0) = BitVec.ofNat 32 (near V a s).val := by
  pointwise [wrapped]
  rw [indices, KernelHost.wrap_eq _ (near V a s).isLt]

/-- The neighbours' entries of an array of points. -/
theorem point_near (x : S8192x3.Idx → EReal) (a : Fin 8192) (s : Fin 48) (k : Fin 3) :
    Host.gather gather_S8192x3_S8192x48x1_S8192x48x3_2_0_n_n_0_2_13 x (wrapped V) (ix3 a s k) = x (ix2 (near V a s) k) :=
  HostIndex.gather_atom x (wrapped V) a s k (near V a s) (wrapped_eq V a s)

/-- The neighbours' entries of an array of words. -/
theorem word_near (x : S8192.Idx → BitVec 32) (a : Fin 8192) (s : Fin 48) :
    Host.gather gather_S8192_S8192x48x1_S8192x48_n_0_n_n_0_2_1 x (wrapped V) (ix2 a s) = x (ix1 (near V a s)) :=
  HostIndex.gather_word x (wrapped V) a s (near V a s) (wrapped_eq V a s)

/-- The neighbours' second atoms. -/
theorem v69 (a : Fin 8192) (s : Fin 48) (k : Fin 3) : res_main_v69 V (ix3 a s k) = Spec.point (atoms V) (near V a s) 1 k :=
  (point_near V (res_main_v3 V) a s k).trans (v3 V _ k)

/-- The vector between both second atoms. -/
theorem v100 (a : Fin 8192) (s : Fin 48) (k : Fin 3) :
    res_main_v100 V (ix3 a s k) = Spec.vecs (row V a) (row V (near V a s)) 0 k := by
  pointwise [res_main_v100]
  rw [v3, v69]
  fin_cases k <;> rfl

/-- The length of the vector between both second atoms. -/
theorem v122 (a : Fin 8192) (s : Fin 48) :
    res_main_v122 V (ix3 a s 0) = Spec.nrm (Spec.vecs (row V a) (row V (near V a s)) 0) := by
  pointwise [res_main_v122]
  simp only [v100]
  rfl

/-- The angles whose sines and cosines encode the length of the vector between both second atoms. -/
theorem v136 (a : Fin 8192) (s : Fin 48) (x : Fin 8) : res_main_v136 V (ix3 a s x)
    = Spec.nrm (Spec.vecs (row V a) (row V (near V a s)) 0) * freqs V x
      * Ideal.ofBits FTy.f32 0x40000000#32 * Ideal.ofBits FTy.f32 0x40490FDB#32 := by
  pointwise [res_main_v136]
  rw [v122]

/-- The vector between the second atom and the neighbour's first. -/
theorem v103 (a : Fin 8192) (s : Fin 48) (k : Fin 3) :
    res_main_v103 V (ix3 a s k) = Spec.vecs (row V a) (row V (near V a s)) 1 k := by
  pointwise [res_main_v103]
  rw [point_near, v3, v1]
  fin_cases k <;> rfl

/-- The length of the vector between the second atom and the neighbour's first. -/
theorem v141 (a : Fin 8192) (s : Fin 48) :
    res_main_v141 V (ix3 a s 0) = Spec.nrm (Spec.vecs (row V a) (row V (near V a s)) 1) := by
  pointwise [res_main_v141]
  simp only [v103]
  rfl

/-- The angles whose sines and cosines encode the length of the vector between the second atom and the neighbour's first. -/
theorem v155 (a : Fin 8192) (s : Fin 48) (x : Fin 8) : res_main_v155 V (ix3 a s x)
    = Spec.nrm (Spec.vecs (row V a) (row V (near V a s)) 1) * freqs V x
      * Ideal.ofBits FTy.f32 0x40000000#32 * Ideal.ofBits FTy.f32 0x40490FDB#32 := by
  pointwise [res_main_v155]
  rw [v141]

/-- The vector between the second atom and the neighbour's third. -/
theorem v106 (a : Fin 8192) (s : Fin 48) (k : Fin 3) :
    res_main_v106 V (ix3 a s k) = Spec.vecs (row V a) (row V (near V a s)) 2 k := by
  pointwise [res_main_v106]
  rw [point_near, v3, v5]
  fin_cases k <;> rfl

/-- The length of the vector between the second atom and the neighbour's third. -/
theorem v160 (a : Fin 8192) (s : Fin 48) :
    res_main_v160 V (ix3 a s 0) = Spec.nrm (Spec.vecs (row V a) (row V (near V a s)) 2) := by
  pointwise [res_main_v160]
  simp only [v106]
  rfl

/-- The angles whose sines and cosines encode the length of the vector between the second atom and the neighbour's third. -/
theorem v174 (a : Fin 8192) (s : Fin 48) (x : Fin 8) : res_main_v174 V (ix3 a s x)
    = Spec.nrm (Spec.vecs (row V a) (row V (near V a s)) 2) * freqs V x
      * Ideal.ofBits FTy.f32 0x40000000#32 * Ideal.ofBits FTy.f32 0x40490FDB#32 := by
  pointwise [res_main_v174]
  rw [v160]

/-- The vector between the second atom and the neighbour's fourth. -/
theorem v109 (a : Fin 8192) (s : Fin 48) (k : Fin 3) :
    res_main_v109 V (ix3 a s k) = Spec.vecs (row V a) (row V (near V a s)) 3 k := by
  pointwise [res_main_v109]
  rw [point_near, v3, v7]
  fin_cases k <;> rfl

/-- The length of the vector between the second atom and the neighbour's fourth. -/
theorem v179 (a : Fin 8192) (s : Fin 48) :
    res_main_v179 V (ix3 a s 0) = Spec.nrm (Spec.vecs (row V a) (row V (near V a s)) 3) := by
  pointwise [res_main_v179]
  simp only [v109]
  rfl

/-- The angles whose sines and cosines encode the length of the vector between the second atom and the neighbour's fourth. -/
theorem v193 (a : Fin 8192) (s : Fin 48) (x : Fin 8) : res_main_v193 V (ix3 a s x)
    = Spec.nrm (Spec.vecs (row V a) (row V (near V a s)) 3) * freqs V x
      * Ideal.ofBits FTy.f32 0x40000000#32 * Ideal.ofBits FTy.f32 0x40490FDB#32 := by
  pointwise [res_main_v193]
  rw [v179]

/-- The vector between the second atom and the neighbour's virtual one. -/
theorem v112 (a : Fin 8192) (s : Fin 48) (k : Fin 3) :
    res_main_v112 V (ix3 a s k) = Spec.vecs (row V a) (row V (near V a s)) 4 k := by
  pointwise [res_main_v112]
  rw [point_near, v3, v43]
  fin_cases k <;> rfl

/-- The length of the vector between the second atom and the neighbour's virtual one. -/
theorem v198 (a : Fin 8192) (s : Fin 48) :
    res_main_v198 V (ix3 a s 0) = Spec.nrm (Spec.vecs (row V a) (row V (near V a s)) 4) := by
  pointwise [res_main_v198]
  simp only [v112]
  rfl

/-- The angles whose sines and cosines encode the length of the vector between the second atom and the neighbour's virtual one. -/
theorem v212 (a : Fin 8192) (s : Fin 48) (x : Fin 8) : res_main_v212 V (ix3 a s x)
    = Spec.nrm (Spec.vecs (row V a) (row V (near V a s)) 4) * freqs V x
      * Ideal.ofBits FTy.f32 0x40000000#32 * Ideal.ofBits FTy.f32 0x40490FDB#32 := by
  pointwise [res_main_v212]
  rw [v198]

/-- The vector between the first atom and the neighbour's second. -/
theorem v115 (a : Fin 8192) (s : Fin 48) (k : Fin 3) :
    res_main_v115 V (ix3 a s k) = Spec.vecs (row V a) (row V (near V a s)) 5 k := by
  pointwise [res_main_v115]
  rw [v1, v69]
  fin_cases k <;> rfl

/-- The length of the vector between the first atom and the neighbour's second. -/
theorem v217 (a : Fin 8192) (s : Fin 48) :
    res_main_v217 V (ix3 a s 0) = Spec.nrm (Spec.vecs (row V a) (row V (near V a s)) 5) := by
  pointwise [res_main_v217]
  simp only [v115]
  rfl

/-- The angles whose sines and cosines encode the length of the vector between the first atom and the neighbour's second. -/
theorem v231 (a : Fin 8192) (s : Fin 48) (x : Fin 8) : res_main_v231 V (ix3 a s x)
    = Spec.nrm (Spec.vecs (row V a) (row V (near V a s)) 5) * freqs V x
      * Ideal.ofBits FTy.f32 0x40000000#32 * Ideal.ofBits FTy.f32 0x40490FDB#32 := by
  pointwise [res_main_v231]
  rw [v217]

/-- The vector between the third atom and the neighbour's second. -/
theorem v118 (a : Fin 8192) (s : Fin 48) (k : Fin 3) :
    res_main_v118 V (ix3 a s k) = Spec.vecs (row V a) (row V (near V a s)) 6 k := by
  pointwise [res_main_v118]
  rw [v5, v69]
  fin_cases k <;> rfl

/-- The length of the vector between the third atom and the neighbour's second. -/
theorem v236 (a : Fin 8192) (s : Fin 48) :
    res_main_v236 V (ix3 a s 0) = Spec.nrm (Spec.vecs (row V a) (row V (near V a s)) 6) := by
  pointwise [res_main_v236]
  simp only [v118]
  rfl

/-- The angles whose sines and cosines encode the length of the vector between the third atom and the neighbour's second. -/
theorem v250 (a : Fin 8192) (s : Fin 48) (x : Fin 8) : res_main_v250 V (ix3 a s x)
    = Spec.nrm (Spec.vecs (row V a) (row V (near V a s)) 6) * freqs V x
      * Ideal.ofBits FTy.f32 0x40000000#32 * Ideal.ofBits FTy.f32 0x40490FDB#32 := by
  pointwise [res_main_v250]
  rw [v236]

/-- The vector between the fourth atom and the neighbour's second. -/
theorem v121 (a : Fin 8192) (s : Fin 48) (k : Fin 3) :
    res_main_v121 V (ix3 a s k) = Spec.vecs (row V a) (row V (near V a s)) 7 k := by
  pointwise [res_main_v121]
  rw [v7, v69]
  fin_cases k <;> rfl

/-- The length of the vector between the fourth atom and the neighbour's second. -/
theorem v255 (a : Fin 8192) (s : Fin 48) :
    res_main_v255 V (ix3 a s 0) = Spec.nrm (Spec.vecs (row V a) (row V (near V a s)) 7) := by
  pointwise [res_main_v255]
  simp only [v121]
  rfl

/-- The angles whose sines and cosines encode the length of the vector between the fourth atom and the neighbour's second. -/
theorem v269 (a : Fin 8192) (s : Fin 48) (x : Fin 8) : res_main_v269 V (ix3 a s x)
    = Spec.nrm (Spec.vecs (row V a) (row V (near V a s)) 7) * freqs V x
      * Ideal.ofBits FTy.f32 0x40000000#32 * Ideal.ofBits FTy.f32 0x40490FDB#32 := by
  pointwise [res_main_v269]
  rw [v255]

/-- A direction and a length's encoding, side by side. -/
theorem blk (U : S8192x48x3.Idx → EReal) (n : S8192x48x1.Idx → EReal) (t : S8192x48x8.Idx → EReal) (a : Fin 8192) (s : Fin 48)
    (u : Fin 3 → EReal) (w : Fin 8 → EReal) (hU : ∀ k, U (ix3 a s k) = u k) (hn : n (ix3 a s 0) = Spec.nrm u)
    (ht : ∀ x, t (ix3 a s x) = Spec.nrm u * w x * Ideal.ofBits FTy.f32 0x40000000#32 * Ideal.ofBits FTy.f32 0x40490FDB#32)
    (x : Fin 19) :
    concatenate S8192x48x19 2 [⟨S8192x48x3, (Host.divf (F := Ideal) (φ := .f32) U (broadcastInDim S8192x48x3 ![0, 1, 2] bcast_S8192x48x1_S8192x48x3_0_1_2
        (maximumf n (broadcastInDim S8192x48x1 ![] bcast_S_S8192x48x1 (constant S_ .f32 0x358637BD#32)))))⟩,
      ⟨S8192x48x16, (concatenate S8192x48x16 2 [⟨S8192x48x8, Host.cos (F := Ideal) (φ := .f32) t⟩, ⟨S8192x48x8, Host.sin (F := Ideal) (φ := .f32) t⟩]
        concatenates_S8192x48x8_S8192x48x8_S8192x48x16_d2)⟩] concatenates_S8192x48x3_S8192x48x16_S8192x48x19_d2 (ix3 a s x)
    = Spec.block u w x := by
  unfold Spec.block
  pointwise []
  by_cases hx : x.val < 3
  · rw [dif_pos hx, dif_pos hx, hU, hn]
    rfl
  · rw [dif_neg hx, dif_neg hx]
    unfold Spec.enc
    by_cases hy : x.val - 3 < 8
    · rw [dif_pos hy, dif_pos hy, ht]
    · rw [dif_neg hy, dif_neg hy, ht]

/-- The shapes of the eight blocks of an edge's features. -/
def shapes : List Shape := [S8192x48x19, S8192x48x19, S8192x48x19, S8192x48x19, S8192x48x19, S8192x48x19, S8192x48x19, S8192x48x19]

/-- The eight blocks of an edge's features. -/
theorem v274 (a : Fin 8192) (s : Fin 48) (b : Fin 8) (x : Fin 19) (y : Fin 152) (hy : y.val = 19 * b.val + x.val) :
    res_main_v274 V (ix3 a s y) = Spec.block (Spec.vecs (row V a) (row V (near V a s)) b) (freqs V) x := by
  unfold res_main_v274
  fin_cases b
  · refine Eq.trans (Spec.cat3 _ _ a s y 0 _ rfl 0 shapes rfl (by decide) x hy) ?_
    exact blk _ _ _ a s _ _ (v100 V a s) (v122 V a s) (v136 V a s) x
  · refine Eq.trans (Spec.cat3 _ _ a s y 1 _ rfl 19 shapes rfl (by decide) x hy) ?_
    exact blk _ _ _ a s _ _ (v103 V a s) (v141 V a s) (v155 V a s) x
  · refine Eq.trans (Spec.cat3 _ _ a s y 2 _ rfl 38 shapes rfl (by decide) x hy) ?_
    exact blk _ _ _ a s _ _ (v106 V a s) (v160 V a s) (v174 V a s) x
  · refine Eq.trans (Spec.cat3 _ _ a s y 3 _ rfl 57 shapes rfl (by decide) x hy) ?_
    exact blk _ _ _ a s _ _ (v109 V a s) (v179 V a s) (v193 V a s) x
  · refine Eq.trans (Spec.cat3 _ _ a s y 4 _ rfl 76 shapes rfl (by decide) x hy) ?_
    exact blk _ _ _ a s _ _ (v112 V a s) (v198 V a s) (v212 V a s) x
  · refine Eq.trans (Spec.cat3 _ _ a s y 5 _ rfl 95 shapes rfl (by decide) x hy) ?_
    exact blk _ _ _ a s _ _ (v115 V a s) (v217 V a s) (v231 V a s) x
  · refine Eq.trans (Spec.cat3 _ _ a s y 6 _ rfl 114 shapes rfl (by decide) x hy) ?_
    exact blk _ _ _ a s _ _ (v118 V a s) (v236 V a s) (v250 V a s) x
  · refine Eq.trans (Spec.cat3 _ _ a s y 7 _ rfl 133 shapes rfl (by decide) x hy) ?_
    exact blk _ _ _ a s _ _ (v121 V a s) (v255 V a s) (v269 V a s) x

/-- The difference in sequence. -/
theorem v284 (hR : ∀ a, V (Proc.devRef .tc main_arg3) (ix1 a) = BitVec.ofNat 32 a.val) (a : Fin 8192) (s : Fin 48) :
    res_main_v284 V (ix2 a s) = IntOp.subi (BitVec.ofNat 32 a.val) (BitVec.ofNat 32 (near V a s).val) := by
  refine (show res_main_v284 V (ix2 a s) = IntOp.subi (V (Proc.devRef .tc main_arg3) (ix1 a))
      (Host.gather gather_S8192_S8192x48x1_S8192x48_n_0_n_n_0_2_1 (V (Proc.devRef .tc main_arg3)) (wrapped V) (ix2 a s)) from by
    pointwise [res_main_v284]).trans ?_
  rw [word_near, hR, hR]

/-- The angles of the difference in sequence. -/
theorem v305 (hR : ∀ a, V (Proc.devRef .tc main_arg3) (ix1 a) = BitVec.ofNat 32 a.val) (a : Fin 8192) (s : Fin 48) (x : Fin 8) :
    res_main_v305 V (ix3 a s x) = (((IntOp.subi (BitVec.ofNat 32 a.val) (BitVec.ofNat 32 (near V a s).val)).toInt : ℝ) : EReal)
      * Ideal.ofBits FTy.f32 (lit0 (S8.rowMajor (ix1 x))) := by
  pointwise [res_main_v305]
  rw [v284 V hR]
  rfl

/-- The classes of the differences in sequence. -/
abbrev classes : IVec S8192x48 32 :=
  select (cmpi .eq (broadcastInDim S8192x48 ![0, 1] bcast_S8192x1_S8192x48_0_1
      (broadcastInDim S8192x1 ![0] bcast_S8192_S8192x1_0 (V (Proc.devRef .tc main_arg4))))
      (Host.gather gather_S8192_S8192x48x1_S8192x48_n_0_n_n_0_2_1 (V (Proc.devRef .tc main_arg4)) (wrapped V)))
    (addi (minsi (broadcastInDim S8192x48 ![] bcast_S_S8192x48 (id (constantI S_ 32 16#32)))
      (maxsi (broadcastInDim S8192x48 ![] bcast_S_S8192x48 (id (constantI S_ 32 4294967280#32))) (res_main_v284 V)))
      (broadcastInDim S8192x48 ![] bcast_S_S8192x48 (constantI S_ 32 16#32)))
    (broadcastInDim S8192x48 ![] bcast_S_S8192x48 (id (constantI S_ 32 32#32)))

/-- The class of a pair: the clipped offset within a chain, else the last class. -/
theorem classes_eq (hR : ∀ a, V (Proc.devRef .tc main_arg3) (ix1 a) = BitVec.ofNat 32 a.val) (a : Fin 8192) (s : Fin 48) :
    classes V (ix2 a s) = Spec.relClass (row V a) (row V (near V a s))
      (IntOp.subi (BitVec.ofNat 32 a.val) (BitVec.ofNat 32 (near V a s).val)) := by
  refine (show classes V (ix2 a s) = Scalar.select (IntOp.cmpi .eq (kinds V (ix1 a))
      (Host.gather gather_S8192_S8192x48x1_S8192x48_n_0_n_n_0_2_1 (kinds V) (wrapped V) (ix2 a s)))
    (IntOp.addi (IntOp.minsi 16#32 (IntOp.maxsi 4294967280#32 (res_main_v284 V (ix2 a s)))) 16#32) 32#32 from by
    pointwise [classes]
    rfl).trans ?_
  rw [word_near, v284 V hR, Spec.select_eq]
  unfold Spec.relClass
  have h : (row V a 15 = row V (near V a s) 15) ↔ kinds V (ix1 a) = kinds V (ix1 (near V a s)) := by
    show ((((kinds V (ix1 a)).toInt : ℝ) : EReal) = (((kinds V (ix1 (near V a s))).toInt : ℝ) : EReal)) ↔ _
    rw [EReal.coe_eq_coe_iff, Int.cast_inj, BitVec.toInt_inj]
  by_cases e : kinds V (ix1 a) = kinds V (ix1 (near V a s))
  · rw [if_pos e, if_pos (h.mpr e)]
  · rw [if_neg e, if_neg (fun z => e (h.mp z))]

/-- The one-hot words of the classes. -/
abbrev hot : FVec Ideal S8192x48x33 .f32 :=
  uitofp .f32 (cmpi .eq (broadcastInDim S8192x48x33 ![0, 1, 2] bcast_S8192x48x1_S8192x48x33_0_1_2
    (broadcastInDim S8192x48x1 ![0, 1] bcast_S8192x48_S8192x48x1_0_1 (classes V)))
    (broadcastInDim S8192x48x33 ![0, 1, 2] bcast_S1x1x33_S8192x48x33_0_1_2 (iotaInDim S1x1x33 32 2)))

/-- The class of a pair, one lane for each class. -/
theorem hot_eq (hR : ∀ a, V (Proc.devRef .tc main_arg3) (ix1 a) = BitVec.ofNat 32 a.val) (a : Fin 8192) (s : Fin 48) (j : Fin 33) :
    hot V (ix3 a s j) = if BitVec.ofNat 32 j.val = Spec.relClass (row V a) (row V (near V a s))
      (IntOp.subi (BitVec.ofNat 32 a.val) (BitVec.ofNat 32 (near V a s).val)) then 1 else 0 := by
  refine (show hot V (ix3 a s j) = (((IntOp.cmpi .eq (classes V (ix2 a s)) (BitVec.ofNat 32 j.val)).toNat : ℝ) : EReal) from by
    pointwise [hot]
    rfl).trans ?_
  rw [classes_eq V hR]
  generalize Spec.relClass _ _ _ = z
  by_cases e : z = BitVec.ofNat 32 j.val
  · rw [if_pos e.symm, e]
    simp [IntOp.cmpi]
  · have : (z == BitVec.ofNat 32 j.val) = false := by simpa using e
    rw [if_neg (fun h => e h.symm)]
    simp [IntOp.cmpi, this]

/-- The shapes of the pieces of an edge's features. -/
def parts : List Shape := [S8192x48x152, S8192x48x33, S8192x48x16]

/-- The features of an edge. -/
theorem edges (hR : ∀ a, V (Proc.devRef .tc main_arg3) (ix1 a) = BitVec.ofNat 32 a.val) (a : Fin 8192) (s : Fin 48) (l : Fin 201) :
    concatenate S8192x48x201 2 [⟨S8192x48x152, (res_main_v274 V : S8192x48x152.Idx → EReal)⟩, ⟨S8192x48x33, (hot V : S8192x48x33.Idx → EReal)⟩,
      ⟨S8192x48x16, (concatenate S8192x48x16 2 [⟨S8192x48x8, (Host.cos (F := Ideal) (φ := .f32) (res_main_v305 V) : S8192x48x8.Idx → EReal)⟩,
        ⟨S8192x48x8, (Host.sin (F := Ideal) (φ := .f32) (res_main_v305 V) : S8192x48x8.Idx → EReal)⟩]
        concatenates_S8192x48x8_S8192x48x8_S8192x48x16_d2 : S8192x48x16.Idx → EReal)⟩]
      concatenates_S8192x48x152_S8192x48x33_S8192x48x16_S8192x48x201_d2 (ix3 a s l)
    = Spec.edge (row V a) (row V (near V a s)) (freqs V) (fun k => Ideal.ofBits FTy.f32 (lit0 (S8.rowMajor (ix1 k))))
        (IntOp.subi (BitVec.ofNat 32 a.val) (BitVec.ofNat 32 (near V a s).val)) l := by
  unfold Spec.edge
  rcases Spec.lanes201_cases l with ⟨b, k, hl⟩ | ⟨b, k, hl⟩ | ⟨k, hl⟩ | ⟨k, hl⟩ | ⟨k, hl⟩
  · rw [Spec.lanes201_D b k hl]
    refine Eq.trans (Spec.cat3 _ _ a s l 0 _ rfl 0 parts rfl (by decide) (⟨19 * b.val + k.val, by omega⟩ : Fin 152) (by simp only; omega)) ?_
    rw [v274 V a s b ⟨k.val, by omega⟩ _ rfl]
    unfold Spec.block
    rw [dif_pos (show k.val < 3 from k.isLt)]
  · rw [Spec.lanes201_E b k hl]
    refine Eq.trans (Spec.cat3 _ _ a s l 0 _ rfl 0 parts rfl (by decide) (⟨19 * b.val + (3 + k.val), by omega⟩ : Fin 152) (by simp only; omega)) ?_
    rw [v274 V a s b ⟨3 + k.val, by omega⟩ _ rfl]
    unfold Spec.block
    rw [dif_neg (show ¬ 3 + k.val < 3 by omega)]
    exact congrArg _ (Fin.ext (by simp only; omega))
  · rw [Spec.lanes201_O k hl]
    exact Eq.trans (Spec.cat3 _ _ a s l 1 _ rfl 152 parts rfl (by decide) k hl) (hot_eq V hR a s k)
  · rw [Spec.lanes201_C k hl]
    refine Eq.trans (Spec.cat3 _ _ a s l 2 _ rfl 185 parts rfl (by decide) (⟨k.val, by omega⟩ : Fin 16) hl) ?_
    refine Eq.trans (Spec.cat3 _ _ a s _ 0 _ rfl 0 [S8192x48x8, S8192x48x8] rfl (by decide) k (by simp only; omega)) ?_
    exact congrArg Ideal.cos (v305 V hR a s k)
  · rw [Spec.lanes201_S k hl]
    refine Eq.trans (Spec.cat3 _ _ a s l 2 _ rfl 185 parts rfl (by decide) (⟨8 + k.val, by omega⟩ : Fin 16) (by simp only; omega)) ?_
    refine Eq.trans (Spec.cat3 _ _ a s _ 1 _ rfl 8 [S8192x48x8, S8192x48x8] rfl (by decide) k (by simp only)) ?_
    exact congrArg Ideal.sin (v305 V hR a s k)

end Cert.RefEdge
-- ==== Proof.Dihedral.lean ====
/- The sine and the cosine of a dihedral angle without the angle, where every number involved is finite. -/
module

public import proofs.«01_k».proof.Proof.Spec
public import proofs.«01_k».proof.Proof.Trig

@[expose] public section

set_option maxRecDepth 16384

noncomputable section

namespace Cert.Dihedral

open Idealize.ShloMosaic

/-- A value that is neither infinity. -/
def Real' (x : EReal) : Prop := ∃ r : ℝ, x = (r : EReal)

/-- A difference of real numbers is one. -/
theorem Real'.sub {x y : EReal} : Real' x → Real' y → Real' (x - y)
  | ⟨a, ha⟩, ⟨b, hb⟩ => ⟨a - b, by rw [ha, hb, EReal.coe_sub]⟩

/-- A sum of real numbers is one. -/
theorem Real'.add {x y : EReal} : Real' x → Real' y → Real' (x + y)
  | ⟨a, ha⟩, ⟨b, hb⟩ => ⟨a + b, by rw [ha, hb, EReal.coe_add]⟩

/-- A product of real numbers is one. -/
theorem Real'.mul {x y : EReal} : Real' x → Real' y → Real' (x * y)
  | ⟨a, ha⟩, ⟨b, hb⟩ => ⟨a * b, by rw [ha, hb, EReal.coe_mul]⟩

/-- A vector of finite components. -/
def FinV (u : Fin 3 → EReal) : Prop := ∀ k, Real' (u k)

/-- The dot product of finite vectors is a real number. -/
theorem FinV.dot {u v : Fin 3 → EReal} (hu : FinV u) (hv : FinV v) : Real' (Spec.dot u v) := by
  unfold Spec.dot
  rw [Fin.sum_univ_three]
  exact (((hu 0).mul (hv 0)).add ((hu 1).mul (hv 1))).add ((hu 2).mul (hv 2))

/-- The vector between finite points is finite. -/
theorem FinV.seg {u v : Fin 3 → EReal} (hu : FinV u) (hv : FinV v) : FinV (Spec.seg u v) := fun k => (hv k).sub (hu k)

/-- The cross product of finite vectors is finite. -/
theorem FinV.cross {u v : Fin 3 → EReal} (hu : FinV u) (hv : FinV v) : FinV (Spec.cross u v) := by
  intro k
  fin_cases k
  · exact ((hu 1).mul (hv 2)).sub ((hu 2).mul (hv 1))
  · exact ((hu 2).mul (hv 0)).sub ((hu 0).mul (hv 2))
  · exact ((hu 0).mul (hv 1)).sub ((hu 1).mul (hv 0))

/-- The root of a sum of two or more squares of reals. -/
theorem sqrt_coe (r : ℝ) (h : 0 ≤ r) : Ideal.sqrt (r : EReal) = ((Real.sqrt r : ℝ) : EReal) := by
  show (if r < 0 then (⊥ : EReal) else ((Real.sqrt r : ℝ) : EReal)) = _
  rw [if_neg (not_lt.mpr h)]

/-- The length of a finite vector is a real number. -/
theorem FinV.nrm {u : Fin 3 → EReal} (hu : FinV u) : Real' (Spec.nrm u) := by
  obtain ⟨a, ha⟩ := hu 0
  obtain ⟨b, hb⟩ := hu 1
  obtain ⟨c, hc⟩ := hu 2
  refine ⟨Real.sqrt (a * a + b * b + c * c), ?_⟩
  unfold Spec.nrm
  rw [Fin.sum_univ_three, ha, hb, hc, ← EReal.coe_mul, ← EReal.coe_mul, ← EReal.coe_mul, ← EReal.coe_add, ← EReal.coe_add,
    sqrt_coe _ (by linarith [mul_self_nonneg a, mul_self_nonneg b, mul_self_nonneg c])]

/-- A quotient of reals by a positive real. -/
theorem div_coe (a b : ℝ) (h : 0 < b) : Ideal.div (a : EReal) (b : EReal) = ((a / b : ℝ) : EReal) := by
  unfold Ideal.div
  rw [if_neg (by intro e; exact h.ne' (EReal.coe_eq_zero.mp e)), ← EReal.coe_inv, ← EReal.coe_mul, div_eq_mul_inv]

/-- The bound below of a length. -/
theorem ofBits_tiny : ∃ r : ℝ, 0 < r ∧ Ideal.ofBits FTy.f32 0x33D6BF95#32 = (r : EReal) := by
  refine ⟨14073749 / 140737488355328, by norm_num, ?_⟩
  simp [Ideal.ofBits, Ideal.ieee, -EReal.coe_mul]
  norm_num

/-- The bound below of a radius. -/
theorem ofBits_least : ∃ r : ℝ, 0 < r ∧ Ideal.ofBits FTy.f32 0x0DA24260#32 = (r : EReal) := by
  refine ⟨10633824 / 10633823966279326983230456482242756608, by norm_num, ?_⟩
  simp [Ideal.ofBits, Ideal.ieee, -EReal.coe_mul]
  norm_num

/-- A finite vector over its length is finite. -/
theorem FinV.axis {u : Fin 3 → EReal} (hu : FinV u) : FinV (Spec.axis u) := by
  intro k
  obtain ⟨a, ha⟩ := hu k
  obtain ⟨n, hn⟩ := hu.nrm
  obtain ⟨t, ht, et⟩ := ofBits_tiny
  unfold Spec.axis
  rw [ha, hn, et, ← EReal.coe_strictMono.monotone.map_max, div_coe _ _ (lt_max_of_lt_right ht)]
  exact ⟨_, rfl⟩

/-- A finite vector without its part along another is finite. -/
theorem FinV.flat {u n : Fin 3 → EReal} (hu : FinV u) (hn : FinV n) : FinV (Spec.flat u n) := fun k =>
  (hu k).sub ((hu.dot hn).mul (hn k))

/-- The first coordinate of the angle of finite vectors is a real number. -/
theorem FinV.dihX {b0 b1 b2 : Fin 3 → EReal} (h0 : FinV b0) (h1 : FinV b1) (h2 : FinV b2) : Real' (Spec.dihX b0 b1 b2) :=
  (h0.flat h1.axis).dot (h2.flat h1.axis)

/-- The second coordinate of the angle of finite vectors is a real number. -/
theorem FinV.dihY {b0 b1 b2 : Fin 3 → EReal} (h0 : FinV b0) (h1 : FinV b1) (h2 : FinV b2) : Real' (Spec.dihY b0 b1 b2) :=
  (h1.axis.cross (h0.flat h1.axis)).dot (h2.flat h1.axis)

/-- The sine and the cosine of the angle of a point not at the origin are its coordinates over its radius. -/
theorem pair (b0 b1 b2 : Fin 3 → EReal) (h0 : FinV b0) (h1 : FinV b1) (h2 : FinV b2)
    (hr : Ideal.ofBits FTy.f32 0x0DA24260#32
      ≤ Ideal.sqrt (Spec.dihX b0 b1 b2 * Spec.dihX b0 b1 b2 + Spec.dihY b0 b1 b2 * Spec.dihY b0 b1 b2)) :
    Ideal.sin (Ideal.atan2 (Spec.dihY b0 b1 b2) (Spec.dihX b0 b1 b2)) = Spec.circ b0 b1 b2 0
    ∧ Ideal.cos (Ideal.atan2 (Spec.dihY b0 b1 b2) (Spec.dihX b0 b1 b2)) = Spec.circ b0 b1 b2 1 := by
  obtain ⟨x, hx⟩ := FinV.dihX h0 h1 h2
  obtain ⟨y, hy⟩ := FinV.dihY h0 h1 h2
  obtain ⟨t, ht, et⟩ := ofBits_least
  have hs : Ideal.sqrt (Spec.dihX b0 b1 b2 * Spec.dihX b0 b1 b2 + Spec.dihY b0 b1 b2 * Spec.dihY b0 b1 b2)
      = ((Real.sqrt (x ^ 2 + y ^ 2) : ℝ) : EReal) := by
    rw [hx, hy, ← EReal.coe_mul, ← EReal.coe_mul, ← EReal.coe_add, sqrt_coe _ (by linarith [mul_self_nonneg x, mul_self_nonneg y])]
    congr 2
    ring
  have hpos : 0 < Real.sqrt (x ^ 2 + y ^ 2) := by
    rw [hs, et, EReal.coe_le_coe_iff] at hr
    exact lt_of_lt_of_le ht hr
  have hrad : Spec.rad (Spec.dihX b0 b1 b2) (Spec.dihY b0 b1 b2) = ((Real.sqrt (x ^ 2 + y ^ 2) : ℝ) : EReal) := by
    unfold Spec.rad
    rw [max_eq_left hr, hs]
  have key := Trig.sin_cos_atan2 x y (Real.sqrt_pos.mp hpos)
  have e0 : Spec.circ b0 b1 b2 0 = Ideal.div (Spec.dihY b0 b1 b2) (Spec.rad (Spec.dihX b0 b1 b2) (Spec.dihY b0 b1 b2)) := rfl
  have e1 : Spec.circ b0 b1 b2 1 = Ideal.div (Spec.dihX b0 b1 b2) (Spec.rad (Spec.dihX b0 b1 b2) (Spec.dihY b0 b1 b2)) := rfl
  rw [e0, e1, hrad, hx, hy, div_coe _ _ hpos, div_coe _ _ hpos]
  exact key

/-- A vector multiplied by minus one. -/
def turn (u : Fin 3 → EReal) (k : Fin 3) : EReal := Ideal.ofBits FTy.f32 0xBF800000#32 * u k

/-- The vector between two finite points, multiplied by minus one, is the vector the other way. -/
theorem turn_seg (p q : Fin 3 → EReal) (hp : FinV p) (hq : FinV q) : turn (Spec.seg p q) = Spec.seg q p := by
  funext k
  obtain ⟨a, ha⟩ := hp k
  obtain ⟨b, hb⟩ := hq k
  have h1 : Ideal.ofBits FTy.f32 0xBF800000#32 = ((-1 : ℝ) : EReal) := by
    simp [Ideal.ofBits, Ideal.ieee, -EReal.coe_mul, -EReal.coe_neg]
    norm_num
  unfold turn Spec.seg
  rw [h1, ha, hb, ← EReal.coe_sub, ← EReal.coe_sub, ← EReal.coe_mul]
  congr 1
  ring

variable (A : (⟨3, ![8192, 4, 3]⟩ : Shape).Idx → EReal)

/-- The first vector of each of a residue's dihedral angles, from the previous residue, the residue and the next. -/
def raw0 (p a x : Fin 8192) : Fin 4 → Fin 3 → EReal :=
  ![turn (Spec.seg (Spec.point A p 2) (Spec.point A a 0)), turn (Spec.seg (Spec.point A a 0) (Spec.point A a 1)),
    turn (Spec.seg (Spec.point A a 1) (Spec.point A a 2)), turn (Spec.seg (Spec.point A a 0) (Spec.point A a 1))]

/-- The second vector of each dihedral angle. -/
def raw1 (p a x : Fin 8192) : Fin 4 → Fin 3 → EReal :=
  ![Spec.seg (Spec.point A a 0) (Spec.point A a 1), Spec.seg (Spec.point A a 1) (Spec.point A a 2),
    Spec.seg (Spec.point A a 2) (Spec.point A x 0), Spec.seg (Spec.point A a 1) (Spec.point A a 2)]

/-- The third vector of each dihedral angle. -/
def raw2 (p a x : Fin 8192) : Fin 4 → Fin 3 → EReal :=
  ![Spec.seg (Spec.point A a 1) (Spec.point A a 2), Spec.seg (Spec.point A a 2) (Spec.point A x 0),
    Spec.seg (Spec.point A x 0) (Spec.point A x 1), Spec.seg (Spec.point A a 2) (Spec.point A a 3)]

/-- An atom of the row of a residue. -/
theorem atom_tab (K : (⟨1, ![8192]⟩ : Shape).Idx → BitVec 32) (a : Fin 8192) (n : Fin 4) :
    Spec.atom (Spec.tab A K a) ⟨n.val, by omega⟩ = Spec.point A a n := by
  funext k
  fin_cases n <;> fin_cases k <;> rfl

/-- The virtual atom of the row of a residue. -/
theorem beta_tab (K : (⟨1, ![8192]⟩ : Shape).Idx → BitVec 32) (a : Fin 8192) :
    Spec.atom (Spec.tab A K a) 4 = Spec.beta (Spec.point A a 0) (Spec.point A a 1) (Spec.point A a 2) := by
  funext k
  fin_cases k <;> rfl

/-- The second vectors of the angles, from the rows of the residues. -/
theorem raw1_eq (K : (⟨1, ![8192]⟩ : Shape).Idx → BitVec 32) (p a x : Fin 8192) :
    Spec.ang1 (Spec.tab A K p) (Spec.tab A K a) (Spec.tab A K x) = raw1 A p a x := by
  unfold Spec.ang1 raw1
  rw [show (0 : Fin 5) = ⟨(0 : Fin 4).val, by decide⟩ from rfl, show (1 : Fin 5) = ⟨(1 : Fin 4).val, by decide⟩ from rfl,
    show (2 : Fin 5) = ⟨(2 : Fin 4).val, by decide⟩ from rfl]
  simp only [atom_tab]

/-- The third vectors of the angles, from the rows of the residues. -/
theorem raw2_eq (K : (⟨1, ![8192]⟩ : Shape).Idx → BitVec 32) (p a x : Fin 8192) :
    Spec.ang2 (Spec.tab A K p) (Spec.tab A K a) (Spec.tab A K x) = raw2 A p a x := by
  unfold Spec.ang2 raw2
  rw [show (0 : Fin 5) = ⟨(0 : Fin 4).val, by decide⟩ from rfl, show (1 : Fin 5) = ⟨(1 : Fin 4).val, by decide⟩ from rfl,
    show (2 : Fin 5) = ⟨(2 : Fin 4).val, by decide⟩ from rfl, show (3 : Fin 5) = ⟨(3 : Fin 4).val, by decide⟩ from rfl]
  simp only [atom_tab]

variable (hA : ∀ a n, FinV (Spec.point A a n))
include hA

/-- The first vectors of the angles, from the rows of the residues: there they are already turned round. -/
theorem raw0_eq (K : (⟨1, ![8192]⟩ : Shape).Idx → BitVec 32) (p a x : Fin 8192) :
    Spec.ang0 (Spec.tab A K p) (Spec.tab A K a) (Spec.tab A K x) = raw0 A p a x := by
  unfold Spec.ang0 raw0
  rw [show (0 : Fin 5) = ⟨(0 : Fin 4).val, by decide⟩ from rfl, show (1 : Fin 5) = ⟨(1 : Fin 4).val, by decide⟩ from rfl,
    show (2 : Fin 5) = ⟨(2 : Fin 4).val, by decide⟩ from rfl]
  simp only [atom_tab, turn_seg _ _ (hA _ _) (hA _ _)]

/-- The first vectors of the angles are finite. -/
theorem raw0_fin (p a x : Fin 8192) (j : Fin 4) : FinV (raw0 A p a x j) := by
  unfold raw0
  simp only [turn_seg _ _ (hA _ _) (hA _ _)]
  fin_cases j <;> exact (hA _ _).seg (hA _ _)

/-- The second vectors of the angles are finite. -/
theorem raw1_fin (p a x : Fin 8192) (j : Fin 4) : FinV (raw1 A p a x j) := by
  fin_cases j <;> exact (hA _ _).seg (hA _ _)

/-- The third vectors of the angles are finite. -/
theorem raw2_fin (p a x : Fin 8192) (j : Fin 4) : FinV (raw2 A p a x j) := by
  fin_cases j <;> exact (hA _ _).seg (hA _ _)

end Cert.Dihedral
-- ==== Proof.Rolled.lean ====
/- Arrays of points whose rows are moved round by one. -/
module

public import proofs.«01_k».proof.Proof.Spec

@[expose] public section

set_option maxRecDepth 16384

noncomputable section

namespace Cert.Rolled

open Idealize.ShloMosaic Idealize.ShloMosaic.TcCoe

/-- Two tables of points one above the other, read in the upper one. -/
theorem upper {α : Type} {m n : Nat} (p : (⟨2, ![m, 3]⟩ : Shape).Idx → α) (q : (⟨2, ![n, 3]⟩ : Shape).Idx → α)
    (hc : Shape.Concatenates [(⟨2, ![m, 3]⟩ : Shape), ⟨2, ![n, 3]⟩] ⟨2, ![8192, 3]⟩ 0) (r : Fin 8192) (i : Fin m) (k : Fin 3)
    (h : r.val = i.val) :
    concatenate ⟨2, ![8192, 3]⟩ 0 [⟨_, p⟩, ⟨_, q⟩] hc (ix2 r k) = p (ix2 i k) := by
  refine concatenate_apply_piece (t := ⟨2, ![8192, 3]⟩) 0 [⟨_, p⟩, ⟨_, q⟩] hc (ix2 r k) 0 (by simp) ⟨2, ![m, 3]⟩ p rfl rfl 0 rfl
    (ix2 i k) ?_ (by rw [Nat.zero_add]; exact h.symm)
  intro b hb
  fin_cases b
  · exact absurd rfl hb
  · rfl

/-- Two tables of points one above the other, read in the lower one. -/
theorem lower {α : Type} {m n : Nat} (p : (⟨2, ![m, 3]⟩ : Shape).Idx → α) (q : (⟨2, ![n, 3]⟩ : Shape).Idx → α)
    (hc : Shape.Concatenates [(⟨2, ![m, 3]⟩ : Shape), ⟨2, ![n, 3]⟩] ⟨2, ![8192, 3]⟩ 0) (r : Fin 8192) (i : Fin n) (k : Fin 3)
    (h : r.val = m + i.val) :
    concatenate ⟨2, ![8192, 3]⟩ 0 [⟨_, p⟩, ⟨_, q⟩] hc (ix2 r k) = q (ix2 i k) := by
  refine concatenate_apply_piece (t := ⟨2, ![8192, 3]⟩) 0 [⟨_, p⟩, ⟨_, q⟩] hc (ix2 r k) 1 (by simp) ⟨2, ![n, 3]⟩ q rfl rfl m rfl
    (ix2 i k) ?_ h.symm
  intro b hb
  fin_cases b
  · exact absurd rfl hb
  · rfl

/-- A row of a slice of a table of points. -/
theorem slice {α : Type} {m : Nat} (o : Nat) (x : (⟨2, ![8192, 3]⟩ : Shape).Idx → α)
    (hs : Shape.Slices (⟨2, ![8192, 3]⟩ : Shape) ![o, 0] ⟨2, ![m, 3]⟩) (i : Fin m) (b : Fin 8192) (k : Fin 3) (h : b.val = o + i.val) :
    extractStridedSlice ⟨2, ![m, 3]⟩ ![o, 0] x hs (ix2 i k) = x (ix2 b k) := by
  pointwise []
  exact congrArg (fun q => x (ix2 q k)) (Fin.ext h.symm)

/-- Rows moved up by one, the first to the end. -/
theorem next {α : Type} (x : (⟨2, ![8192, 3]⟩ : Shape).Idx → α) (hs : Shape.Slices (⟨2, ![8192, 3]⟩ : Shape) ![1, 0] ⟨2, ![8191, 3]⟩)
    (hs' : Shape.Slices (⟨2, ![8192, 3]⟩ : Shape) ![0, 0] ⟨2, ![1, 3]⟩)
    (hc : Shape.Concatenates [(⟨2, ![8191, 3]⟩ : Shape), ⟨2, ![1, 3]⟩] ⟨2, ![8192, 3]⟩ 0)
    (a b : Fin 8192) (k : Fin 3) (hb : b.val = (a.val + 1) % 8192) :
    concatenate ⟨2, ![8192, 3]⟩ 0 [⟨⟨2, ![8191, 3]⟩, extractStridedSlice ⟨2, ![8191, 3]⟩ ![1, 0] x hs⟩,
      ⟨⟨2, ![1, 3]⟩, extractStridedSlice ⟨2, ![1, 3]⟩ ![0, 0] x hs'⟩] hc (ix2 a k) = x (ix2 b k) := by
  by_cases h : a.val < 8191
  · exact (upper _ _ hc a ⟨a.val, h⟩ k rfl).trans (slice 1 x hs _ b k (by simp only; omega))
  · exact (lower _ _ hc a (0 : Fin 1) k (by simp; omega)).trans (slice 0 x hs' _ b k (by simp; omega))

/-- Rows moved down by one, the last to the front. -/
theorem prev {α : Type} (x : (⟨2, ![8192, 3]⟩ : Shape).Idx → α) (hs : Shape.Slices (⟨2, ![8192, 3]⟩ : Shape) ![8191, 0] ⟨2, ![1, 3]⟩)
    (hs' : Shape.Slices (⟨2, ![8192, 3]⟩ : Shape) ![0, 0] ⟨2, ![8191, 3]⟩)
    (hc : Shape.Concatenates [(⟨2, ![1, 3]⟩ : Shape), ⟨2, ![8191, 3]⟩] ⟨2, ![8192, 3]⟩ 0)
    (a b : Fin 8192) (k : Fin 3) (hb : b.val = (a.val + 8191) % 8192) :
    concatenate ⟨2, ![8192, 3]⟩ 0 [⟨⟨2, ![1, 3]⟩, extractStridedSlice ⟨2, ![1, 3]⟩ ![8191, 0] x hs⟩,
      ⟨⟨2, ![8191, 3]⟩, extractStridedSlice ⟨2, ![8191, 3]⟩ ![0, 0] x hs'⟩] hc (ix2 a k) = x (ix2 b k) := by
  by_cases h : a.val < 1
  · exact (upper _ _ hc a (0 : Fin 1) k (by simp; omega)).trans (slice 8191 x hs _ b k (by simp; omega))
  · exact (lower _ _ hc a ⟨a.val - 1, by omega⟩ k (by simp only; omega)).trans (slice 0 x hs' _ b k (by simp only; omega))

end Cert.Rolled
-- ==== Proof.RefNode.lean ====
/- The reference's node features. -/
module

public import proofs.«01_k».proof.Proof.RefEdge
public import proofs.«01_k».proof.Proof.Dihedral
public import proofs.«01_k».proof.Proof.Rolled

@[expose] public section

set_option maxRecDepth 16384

noncomputable section

namespace Cert.RefNode

open Idealize.ShloMosaic Idealize.ShloMosaic.TcCoe
open Cert.ReferenceIdeal Cert.ReferenceIdeal.Gen Cert.ReferenceIdeal.Value
open Cert.RefHost Cert.RefEdge Cert.Dihedral

variable (V : Valuation τ sig (Elt Ideal))

/-- The embedding of kinds that the reference is given. -/
abbrev embedding (a : Fin 3) (x : Fin 16) : EReal := V (Proc.devRef .tc main_arg2) (ix2 a x)

/-- A direction and a length's encoding, side by side. -/
theorem blk (U : S8192x3.Idx → EReal) (n : S8192x1.Idx → EReal) (t : S8192x8.Idx → EReal) (a : Fin 8192)
    (u : Fin 3 → EReal) (w : Fin 8 → EReal) (hU : ∀ k, U (ix2 a k) = u k) (hn : n (ix2 a 0) = Spec.nrm u)
    (ht : ∀ x, t (ix2 a x) = Spec.nrm u * w x * Ideal.ofBits FTy.f32 0x40000000#32 * Ideal.ofBits FTy.f32 0x40490FDB#32)
    (x : Fin 19) :
    concatenate S8192x19 1 [⟨S8192x3, (Host.divf (F := Ideal) (φ := .f32) U (broadcastInDim S8192x3 ![0, 1] bcast_S8192x1_S8192x3_0_1
        (maximumf n (broadcastInDim S8192x1 ![] bcast_S_S8192x1 (constant S_ .f32 0x358637BD#32)))))⟩,
      ⟨S8192x16, (concatenate S8192x16 1 [⟨S8192x8, Host.cos (F := Ideal) (φ := .f32) t⟩, ⟨S8192x8, Host.sin (F := Ideal) (φ := .f32) t⟩]
        concatenates_S8192x8_S8192x8_S8192x16_d1)⟩] concatenates_S8192x3_S8192x16_S8192x19_d1 (ix2 a x)
    = Spec.block u w x := by
  unfold Spec.block
  pointwise []
  by_cases hx : x.val < 3
  · rw [dif_pos hx, dif_pos hx, hU, hn]
    rfl
  · rw [dif_neg hx, dif_neg hx]
    unfold Spec.enc
    by_cases hy : x.val - 3 < 8
    · rw [dif_pos hy, dif_pos hy, ht]
    · rw [dif_neg hy, dif_neg hy, ht]

/-- The vector from the second atom to the first one. -/
theorem v310 (a : Fin 8192) (k : Fin 3) : res_main_v310 V (ix2 a k) = (Spec.seg (Spec.point (atoms V) a 1) (Spec.point (atoms V) a 0)) k := by
  pointwise [res_main_v310]
  rw [v1, v3]
  rfl

/-- Its length, to the first atom. -/
theorem v311 (a : Fin 8192) : res_main_v311 V (ix2 a 0) = Spec.nrm (Spec.seg (Spec.point (atoms V) a 1) (Spec.point (atoms V) a 0)) := by
  pointwise [res_main_v311]
  simp only [v310]
  rfl

/-- The angles whose sines and cosines encode the length, to the first atom. -/
theorem v325 (a : Fin 8192) (x : Fin 8) : res_main_v325 V (ix2 a x)
    = Spec.nrm (Spec.seg (Spec.point (atoms V) a 1) (Spec.point (atoms V) a 0)) * freqs V x
      * Ideal.ofBits FTy.f32 0x40000000#32 * Ideal.ofBits FTy.f32 0x40490FDB#32 := by
  pointwise [res_main_v325]
  rw [v311]

/-- The vector from the second atom to the third one. -/
theorem v330 (a : Fin 8192) (k : Fin 3) : res_main_v330 V (ix2 a k) = (Spec.seg (Spec.point (atoms V) a 1) (Spec.point (atoms V) a 2)) k := by
  pointwise [res_main_v330]
  rw [v5, v3]
  rfl

/-- Its length, to the third atom. -/
theorem v331 (a : Fin 8192) : res_main_v331 V (ix2 a 0) = Spec.nrm (Spec.seg (Spec.point (atoms V) a 1) (Spec.point (atoms V) a 2)) := by
  pointwise [res_main_v331]
  simp only [v330]
  rfl

/-- The angles whose sines and cosines encode the length, to the third atom. -/
theorem v345 (a : Fin 8192) (x : Fin 8) : res_main_v345 V (ix2 a x)
    = Spec.nrm (Spec.seg (Spec.point (atoms V) a 1) (Spec.point (atoms V) a 2)) * freqs V x
      * Ideal.ofBits FTy.f32 0x40000000#32 * Ideal.ofBits FTy.f32 0x40490FDB#32 := by
  pointwise [res_main_v345]
  rw [v331]

/-- The vector from the second atom to the fourth one. -/
theorem v350 (a : Fin 8192) (k : Fin 3) : res_main_v350 V (ix2 a k) = (Spec.seg (Spec.point (atoms V) a 1) (Spec.point (atoms V) a 3)) k := by
  pointwise [res_main_v350]
  rw [v7, v3]
  rfl

/-- Its length, to the fourth atom. -/
theorem v351 (a : Fin 8192) : res_main_v351 V (ix2 a 0) = Spec.nrm (Spec.seg (Spec.point (atoms V) a 1) (Spec.point (atoms V) a 3)) := by
  pointwise [res_main_v351]
  simp only [v350]
  rfl

/-- The angles whose sines and cosines encode the length, to the fourth atom. -/
theorem v365 (a : Fin 8192) (x : Fin 8) : res_main_v365 V (ix2 a x)
    = Spec.nrm (Spec.seg (Spec.point (atoms V) a 1) (Spec.point (atoms V) a 3)) * freqs V x
      * Ideal.ofBits FTy.f32 0x40000000#32 * Ideal.ofBits FTy.f32 0x40490FDB#32 := by
  pointwise [res_main_v365]
  rw [v351]

/-- The vector from the second atom to the virtual one. -/
theorem v370 (a : Fin 8192) (k : Fin 3) : res_main_v370 V (ix2 a k) = (Spec.seg (Spec.point (atoms V) a 1) (Spec.beta (Spec.point (atoms V) a 0) (Spec.point (atoms V) a 1) (Spec.point (atoms V) a 2))) k := by
  pointwise [res_main_v370]
  rw [v43, v3]
  rfl

/-- Its length, to the virtual atom. -/
theorem v371 (a : Fin 8192) : res_main_v371 V (ix2 a 0) = Spec.nrm (Spec.seg (Spec.point (atoms V) a 1) (Spec.beta (Spec.point (atoms V) a 0) (Spec.point (atoms V) a 1) (Spec.point (atoms V) a 2))) := by
  pointwise [res_main_v371]
  simp only [v370]
  rfl

/-- The angles whose sines and cosines encode the length, to the virtual atom. -/
theorem v385 (a : Fin 8192) (x : Fin 8) : res_main_v385 V (ix2 a x)
    = Spec.nrm (Spec.seg (Spec.point (atoms V) a 1) (Spec.beta (Spec.point (atoms V) a 0) (Spec.point (atoms V) a 1) (Spec.point (atoms V) a 2))) * freqs V x
      * Ideal.ofBits FTy.f32 0x40000000#32 * Ideal.ofBits FTy.f32 0x40490FDB#32 := by
  pointwise [res_main_v385]
  rw [v371]

/-- The next residue's first atom. -/
theorem v392 (a x : Fin 8192) (hx : x.val = (a.val + 1) % 8192) (k : Fin 3) :
    res_main_v392 V (ix2 a k) = Spec.point (atoms V) x 0 k :=
  (Rolled.next (res_main_v1 V) _ _ _ a x k hx).trans (v1 V x k)

section angles
variable (p a x : Fin 8192) (hp : p.val = (a.val + 8191) % 8192) (hx : x.val = (a.val + 1) % 8192)
include hp hx

/-- The first vector of phi. -/
theorem v396 (k : Fin 3) : res_main_v396 V (ix2 a k) = (raw0 (atoms V) p a x 0) k := by
  refine Eq.trans (congrArg (fun z : EReal => Ideal.ofBits FTy.f32 0xBF800000#32 * @HSub.hSub EReal EReal EReal _ (res_main_v1 V (ix2 a k)) z)
    (Rolled.prev (res_main_v5 V) _ _ _ a p k hp)) ?_
  rw [v1, v5]
  rfl

/-- The second vector of phi. -/
theorem v397 (k : Fin 3) : res_main_v397 V (ix2 a k) = (raw1 (atoms V) p a x 0) k := by
  pointwise [res_main_v397]
  rw [v3, v1]
  rfl

/-- The third vector of phi. -/
theorem v398 (k : Fin 3) : res_main_v398 V (ix2 a k) = (raw2 (atoms V) p a x 0) k := by
  pointwise [res_main_v398]
  rw [v5, v3]
  rfl

/-- The axis of phi. -/
theorem v403 (k : Fin 3) : res_main_v403 V (ix2 a k) = Spec.axis (raw1 (atoms V) p a x 0) k := by
  pointwise [res_main_v403]
  simp only [v397 V p a x hp hx]
  rfl

/-- The first vector of phi without its part along the axis. -/
theorem v409 (k : Fin 3) : res_main_v409 V (ix2 a k) = Spec.flat (raw0 (atoms V) p a x 0) (Spec.axis (raw1 (atoms V) p a x 0)) k := by
  pointwise [res_main_v409]
  simp only [v396 V p a x hp hx, v403 V p a x hp hx]
  rfl

/-- The third vector of phi without its part along the axis. -/
theorem v415 (k : Fin 3) : res_main_v415 V (ix2 a k) = Spec.flat (raw2 (atoms V) p a x 0) (Spec.axis (raw1 (atoms V) p a x 0)) k := by
  pointwise [res_main_v415]
  simp only [v398 V p a x hp hx, v403 V p a x hp hx]
  rfl

/-- The angle phi. -/
theorem v445 : res_main_v445 V (ix1 a) = Ideal.atan2 (Spec.dihY (raw0 (atoms V) p a x 0) (raw1 (atoms V) p a x 0) (raw2 (atoms V) p a x 0)) (Spec.dihX (raw0 (atoms V) p a x 0) (raw1 (atoms V) p a x 0) (raw2 (atoms V) p a x 0)) := by
  pointwise [res_main_v445, res_main_v419, res_main_v421, res_main_v423, res_main_v425, res_main_v427, res_main_v429]
  simp only [v403 V p a x hp hx, v409 V p a x hp hx, v415 V p a x hp hx]
  refine congrArg₂ Ideal.atan2 ?_ rfl
  unfold Spec.dihY Spec.dot Spec.cross
  refine Finset.sum_congr rfl fun k _ => ?_
  fin_cases k <;> rfl

/-- The first vector of psi. -/
theorem v453 (k : Fin 3) : res_main_v453 V (ix2 a k) = (raw0 (atoms V) p a x 1) k := by
  pointwise [res_main_v453]
  rw [v3, v1]
  rfl

/-- The second vector of psi. -/
theorem v454 (k : Fin 3) : res_main_v454 V (ix2 a k) = (raw1 (atoms V) p a x 1) k := by
  pointwise [res_main_v454]
  rw [v5, v3]
  rfl

/-- The third vector of psi. -/
theorem v455 (k : Fin 3) : res_main_v455 V (ix2 a k) = (raw2 (atoms V) p a x 1) k := by
  pointwise [res_main_v455]
  rw [v392 V a x hx, v5]
  rfl

/-- The axis of psi. -/
theorem v460 (k : Fin 3) : res_main_v460 V (ix2 a k) = Spec.axis (raw1 (atoms V) p a x 1) k := by
  pointwise [res_main_v460]
  simp only [v454 V p a x hp hx]
  rfl

/-- The first vector of psi without its part along the axis. -/
theorem v466 (k : Fin 3) : res_main_v466 V (ix2 a k) = Spec.flat (raw0 (atoms V) p a x 1) (Spec.axis (raw1 (atoms V) p a x 1)) k := by
  pointwise [res_main_v466]
  simp only [v453 V p a x hp hx, v460 V p a x hp hx]
  rfl

/-- The third vector of psi without its part along the axis. -/
theorem v472 (k : Fin 3) : res_main_v472 V (ix2 a k) = Spec.flat (raw2 (atoms V) p a x 1) (Spec.axis (raw1 (atoms V) p a x 1)) k := by
  pointwise [res_main_v472]
  simp only [v455 V p a x hp hx, v460 V p a x hp hx]
  rfl

/-- The angle psi. -/
theorem v502 : res_main_v502 V (ix1 a) = Ideal.atan2 (Spec.dihY (raw0 (atoms V) p a x 1) (raw1 (atoms V) p a x 1) (raw2 (atoms V) p a x 1)) (Spec.dihX (raw0 (atoms V) p a x 1) (raw1 (atoms V) p a x 1) (raw2 (atoms V) p a x 1)) := by
  pointwise [res_main_v502, res_main_v476, res_main_v478, res_main_v480, res_main_v482, res_main_v484, res_main_v486]
  simp only [v460 V p a x hp hx, v466 V p a x hp hx, v472 V p a x hp hx]
  refine congrArg₂ Ideal.atan2 ?_ rfl
  unfold Spec.dihY Spec.dot Spec.cross
  refine Finset.sum_congr rfl fun k _ => ?_
  fin_cases k <;> rfl

/-- The first vector of omega. -/
theorem v510 (k : Fin 3) : res_main_v510 V (ix2 a k) = (raw0 (atoms V) p a x 2) k := by
  pointwise [res_main_v510]
  rw [v5, v3]
  rfl

/-- The second vector of omega. -/
theorem v511 (k : Fin 3) : res_main_v511 V (ix2 a k) = (raw1 (atoms V) p a x 2) k := by
  pointwise [res_main_v511]
  rw [v392 V a x hx, v5]
  rfl

/-- The third vector of omega. -/
theorem v512 (k : Fin 3) : res_main_v512 V (ix2 a k) = (raw2 (atoms V) p a x 2) k := by
  refine Eq.trans (congrArg (fun z : EReal => z - (res_main_v392 V (ix2 a k) : EReal))
    (Rolled.next (res_main_v3 V) _ _ _ a x k hx)) ?_
  rw [v392 V a x hx, v3]
  rfl

/-- The axis of omega. -/
theorem v517 (k : Fin 3) : res_main_v517 V (ix2 a k) = Spec.axis (raw1 (atoms V) p a x 2) k := by
  pointwise [res_main_v517]
  simp only [v511 V p a x hp hx]
  rfl

/-- The first vector of omega without its part along the axis. -/
theorem v523 (k : Fin 3) : res_main_v523 V (ix2 a k) = Spec.flat (raw0 (atoms V) p a x 2) (Spec.axis (raw1 (atoms V) p a x 2)) k := by
  pointwise [res_main_v523]
  simp only [v510 V p a x hp hx, v517 V p a x hp hx]
  rfl

/-- The third vector of omega without its part along the axis. -/
theorem v529 (k : Fin 3) : res_main_v529 V (ix2 a k) = Spec.flat (raw2 (atoms V) p a x 2) (Spec.axis (raw1 (atoms V) p a x 2)) k := by
  pointwise [res_main_v529]
  simp only [v512 V p a x hp hx, v517 V p a x hp hx]
  rfl

/-- The angle omega. -/
theorem v559 : res_main_v559 V (ix1 a) = Ideal.atan2 (Spec.dihY (raw0 (atoms V) p a x 2) (raw1 (atoms V) p a x 2) (raw2 (atoms V) p a x 2)) (Spec.dihX (raw0 (atoms V) p a x 2) (raw1 (atoms V) p a x 2) (raw2 (atoms V) p a x 2)) := by
  pointwise [res_main_v559, res_main_v533, res_main_v535, res_main_v537, res_main_v539, res_main_v541, res_main_v543]
  simp only [v517 V p a x hp hx, v523 V p a x hp hx, v529 V p a x hp hx]
  refine congrArg₂ Ideal.atan2 ?_ rfl
  unfold Spec.dihY Spec.dot Spec.cross
  refine Finset.sum_congr rfl fun k _ => ?_
  fin_cases k <;> rfl

/-- The first vector of tau. -/
theorem v567 (k : Fin 3) : res_main_v567 V (ix2 a k) = (raw0 (atoms V) p a x 3) k := by
  pointwise [res_main_v567]
  rw [v3, v1]
  rfl

/-- The second vector of tau. -/
theorem v568 (k : Fin 3) : res_main_v568 V (ix2 a k) = (raw1 (atoms V) p a x 3) k := by
  pointwise [res_main_v568]
  rw [v5, v3]
  rfl

/-- The third vector of tau. -/
theorem v569 (k : Fin 3) : res_main_v569 V (ix2 a k) = (raw2 (atoms V) p a x 3) k := by
  pointwise [res_main_v569]
  rw [v7, v5]
  rfl

/-- The axis of tau. -/
theorem v574 (k : Fin 3) : res_main_v574 V (ix2 a k) = Spec.axis (raw1 (atoms V) p a x 3) k := by
  pointwise [res_main_v574]
  simp only [v568 V p a x hp hx]
  rfl

/-- The first vector of tau without its part along the axis. -/
theorem v580 (k : Fin 3) : res_main_v580 V (ix2 a k) = Spec.flat (raw0 (atoms V) p a x 3) (Spec.axis (raw1 (atoms V) p a x 3)) k := by
  pointwise [res_main_v580]
  simp only [v567 V p a x hp hx, v574 V p a x hp hx]
  rfl

/-- The third vector of tau without its part along the axis. -/
theorem v586 (k : Fin 3) : res_main_v586 V (ix2 a k) = Spec.flat (raw2 (atoms V) p a x 3) (Spec.axis (raw1 (atoms V) p a x 3)) k := by
  pointwise [res_main_v586]
  simp only [v569 V p a x hp hx, v574 V p a x hp hx]
  rfl

/-- The angle tau. -/
theorem v616 : res_main_v616 V (ix1 a) = Ideal.atan2 (Spec.dihY (raw0 (atoms V) p a x 3) (raw1 (atoms V) p a x 3) (raw2 (atoms V) p a x 3)) (Spec.dihX (raw0 (atoms V) p a x 3) (raw1 (atoms V) p a x 3) (raw2 (atoms V) p a x 3)) := by
  pointwise [res_main_v616, res_main_v590, res_main_v592, res_main_v594, res_main_v596, res_main_v598, res_main_v600]
  simp only [v574 V p a x hp hx, v580 V p a x hp hx, v586 V p a x hp hx]
  refine congrArg₂ Ideal.atan2 ?_ rfl
  unfold Spec.dihY Spec.dot Spec.cross
  refine Finset.sum_congr rfl fun k _ => ?_
  fin_cases k <;> rfl

end angles

/-- The row of the embedding that a word between nought and two names. -/
def kind (q : BitVec 32) : Fin 3 := if q.toInt ≤ 0 then 0 else if q.toInt = 1 then 1 else 2

/-- A word clipped to between nought and two is the word of its kind. -/
theorem clip (q : BitVec 32) : IntOp.minsi 2#32 (IntOp.maxsi 0#32 q) = BitVec.ofNat 32 (kind q).val := by
  unfold IntOp.minsi IntOp.maxsi kind
  have h0 : (0#32).toInt = 0 := by decide
  have h2 : (2#32).toInt = 2 := by decide
  simp only [BitVec.slt, h0, decide_eq_true_eq]
  by_cases h : q.toInt ≤ 0
  · rw [if_pos h]
    by_cases hn : q.toInt < 0
    · rw [if_pos hn]
      decide
    · rw [if_neg hn, show q = 0#32 from BitVec.eq_of_toInt_eq ((by omega : q.toInt = 0).trans h0.symm)]
      decide
  · rw [if_neg h, if_neg (by omega : ¬ q.toInt < 0)]
    by_cases h' : q.toInt = 1
    · rw [if_pos h', show q = 1#32 from BitVec.eq_of_toInt_eq (h'.trans (by decide))]
      decide
    · rw [if_neg h']
      by_cases hl : 2 < q.toInt
      · rw [if_pos (by rw [h2]; exact hl)]
        rfl
      · rw [if_neg (by rw [h2]; exact hl), show q = 2#32 from BitVec.eq_of_toInt_eq ((by omega : q.toInt = 2).trans h2.symm)]
        rfl

/-- The kernel's choice among the rows of the embedding is the row that the clipped word names. -/
theorem kindRow_eq (M : Fin 3 → Fin 16 → EReal) (q : BitVec 32) (x : Fin 16) :
    Spec.kindRow M (((q.toInt : ℝ) : EReal)) x = M (kind q) x := by
  unfold Spec.kindRow kind
  rw [Trig.ofBits_two]
  by_cases h : q.toInt ≤ 0
  · have e : ((q.toInt : ℝ) : EReal) ≤ 0 := by exact_mod_cast h
    rw [if_pos h, max_eq_right e, min_eq_left (by exact_mod_cast (by norm_num : (0 : ℝ) ≤ 2)), if_pos rfl]
  · have hp : (0 : ℝ) ≤ (q.toInt : ℝ) := by exact_mod_cast (by omega : (0 : Int) ≤ q.toInt)
    have e : (0 : EReal) ≤ ((q.toInt : ℝ) : EReal) := by exact_mod_cast hp
    rw [if_neg h, max_eq_left e]
    by_cases h' : q.toInt = 1
    · rw [if_pos h', h', min_eq_left (by exact_mod_cast (by norm_num : (1 : ℝ) ≤ 2)), if_neg (by simp), if_pos (by simp)]
    · have e2 : (((2 : ℝ) : ℝ) : EReal) ≤ ((q.toInt : ℝ) : EReal) := by
        exact EReal.coe_le_coe_iff.mpr (by exact_mod_cast (by omega : (2 : Int) ≤ q.toInt))
      rw [if_neg h', min_eq_right e2, if_neg, if_neg]
      · exact fun c => absurd (EReal.coe_injective (c.trans EReal.coe_one.symm)) (by norm_num)
      · exact fun c => absurd (EReal.coe_injective (c.trans EReal.coe_zero.symm)) (by norm_num)

/-- The clipped kinds. -/
theorem v623 (a : Fin 8192) : res_main_v623 V (ix1 a) = BitVec.ofNat 32 (kind (kinds V (ix1 a))).val := by
  pointwise [res_main_v623]
  exact clip _

/-- The embedded kind of a residue. -/
theorem embedded (a : Fin 8192) (x : Fin 16) :
    Host.gather gather_S3x16_S8192x1_S8192x16_1_0_n_n_0_1_116 (V (Proc.devRef .tc main_arg2))
      (broadcastInDim S8192x1 ![0] bcast_S8192_S8192x1_0 (select (cmpi .slt (res_main_v623 V)
        (broadcastInDim S8192 ![] bcast_S_S8192 (constantI S_ 32 0#32)))
        (addi (res_main_v623 V) (broadcastInDim S8192 ![] bcast_S_S8192 (constantI S_ 32 3#32))) (res_main_v623 V))) (ix2 a x)
    = Spec.kindRow (embedding V) (row V a 15) x := by
  refine (HostIndex.gather_type _ _ a x (kind (kinds V (ix1 a))) ?_).trans (kindRow_eq (embedding V) (kinds V (ix1 a)) x).symm
  pointwise []
  rw [v623]
  generalize kind _ = n
  fin_cases n <;> rfl

/-- The shapes of the pieces of a residue's features. -/
def parts : List Shape := [S8192x76, S8192x8, S8192x16]

/-- The shapes of a residue's blocks. -/
def blocks : List Shape := [S8192x19, S8192x19, S8192x19, S8192x19]

/-- The shapes of a residue's pairs. -/
def pairs : List Shape := [S8192x2, S8192x2, S8192x2, S8192x2]

/-- The four vectors within a residue. -/
theorem intra_eq (a : Fin 8192) : Spec.intra (row V a)
    = ![Spec.seg (Spec.point (atoms V) a 1) (Spec.point (atoms V) a 0), Spec.seg (Spec.point (atoms V) a 1) (Spec.point (atoms V) a 2),
        Spec.seg (Spec.point (atoms V) a 1) (Spec.point (atoms V) a 3),
        Spec.seg (Spec.point (atoms V) a 1) (Spec.beta (Spec.point (atoms V) a 0) (Spec.point (atoms V) a 1) (Spec.point (atoms V) a 2))] := by
  unfold Spec.intra
  rw [beta_tab, show (0 : Fin 5) = ⟨(0 : Fin 4).val, by decide⟩ from rfl, show (1 : Fin 5) = ⟨(1 : Fin 4).val, by decide⟩ from rfl,
    show (2 : Fin 5) = ⟨(2 : Fin 4).val, by decide⟩ from rfl, show (3 : Fin 5) = ⟨(3 : Fin 4).val, by decide⟩ from rfl]
  simp only [atom_tab]

/-- The features of a residue. -/
theorem nodes (hA : ∀ a n, FinV (Spec.point (atoms V) a n)) (p a x : Fin 8192) (hp : p.val = (a.val + 8191) % 8192)
    (hx : x.val = (a.val + 1) % 8192)
    (hr : ∀ j, Ideal.ofBits FTy.f32 0x0DA24260#32
      ≤ Ideal.sqrt (Spec.dihX (raw0 (atoms V) p a x j) (raw1 (atoms V) p a x j) (raw2 (atoms V) p a x j)
          * Spec.dihX (raw0 (atoms V) p a x j) (raw1 (atoms V) p a x j) (raw2 (atoms V) p a x j)
        + Spec.dihY (raw0 (atoms V) p a x j) (raw1 (atoms V) p a x j) (raw2 (atoms V) p a x j)
          * Spec.dihY (raw0 (atoms V) p a x j) (raw1 (atoms V) p a x j) (raw2 (atoms V) p a x j)))
    (l : Fin 100) :
    res_main_v631 V (ix2 a l) = Spec.node (row V p) (row V a) (row V x) (freqs V) (embedding V) l := by
  unfold Spec.node res_main_v631
  rw [raw0_eq (atoms V) hA, raw1_eq, raw2_eq, intra_eq]
  rcases Spec.lanes100_cases l with ⟨b, k, hl⟩ | ⟨b, k, hl⟩ | ⟨k, hl⟩
  · rw [Spec.lanes100_B b k hl]
    refine Eq.trans (Spec.cat2 _ _ a l 0 _ rfl 0 parts rfl (by decide) (⟨19 * b.val + k.val, by omega⟩ : Fin 76) (by simp only; omega)) ?_
    fin_cases b
    · refine Eq.trans (Spec.cat2 _ _ a _ 0 _ rfl 0 blocks rfl (by decide) k (by simp)) ?_
      exact blk _ _ _ a _ _ (v310 V a) (v311 V a) (v325 V a) k
    · refine Eq.trans (Spec.cat2 _ _ a _ 1 _ rfl 19 blocks rfl (by decide) k (by simp)) ?_
      exact blk _ _ _ a _ _ (v330 V a) (v331 V a) (v345 V a) k
    · refine Eq.trans (Spec.cat2 _ _ a _ 2 _ rfl 38 blocks rfl (by decide) k (by simp)) ?_
      exact blk _ _ _ a _ _ (v350 V a) (v351 V a) (v365 V a) k
    · refine Eq.trans (Spec.cat2 _ _ a _ 3 _ rfl 57 blocks rfl (by decide) k (by simp)) ?_
      exact blk _ _ _ a _ _ (v370 V a) (v371 V a) (v385 V a) k
  · rw [Spec.lanes100_A b k hl]
    have key := pair _ _ _ (raw0_fin (atoms V) hA p a x b) (raw1_fin (atoms V) hA p a x b) (raw2_fin (atoms V) hA p a x b) (hr b)
    refine Eq.trans (Spec.cat2 _ _ a l 1 _ rfl 76 parts rfl (by decide) (⟨2 * b.val + k.val, by omega⟩ : Fin 8) (by simp only; omega)) ?_
    fin_cases b
    · refine Eq.trans (Spec.cat2 _ _ a _ 0 _ rfl 0 pairs rfl (by decide) k (by simp)) ?_
      have e := v445 V p a x hp hx
      pointwise []
      rw [e]
      fin_cases k
      · exact key.1
      · exact key.2
    · refine Eq.trans (Spec.cat2 _ _ a _ 1 _ rfl 2 pairs rfl (by decide) k (by simp)) ?_
      have e := v502 V p a x hp hx
      pointwise []
      rw [e]
      fin_cases k
      · exact key.1
      · exact key.2
    · refine Eq.trans (Spec.cat2 _ _ a _ 2 _ rfl 4 pairs rfl (by decide) k (by simp)) ?_
      have e := v559 V p a x hp hx
      pointwise []
      rw [e]
      fin_cases k
      · exact key.1
      · exact key.2
    · refine Eq.trans (Spec.cat2 _ _ a _ 3 _ rfl 6 pairs rfl (by decide) k (by simp)) ?_
      have e := v616 V p a x hp hx
      pointwise []
      rw [e]
      fin_cases k
      · exact key.1
      · exact key.2
  · rw [Spec.lanes100_Y k hl]
    exact Eq.trans (Spec.cat2 _ _ a l 2 _ rfl 84 parts rfl (by decide) k hl) (embedded V a k)

end Cert.RefNode
-- ==== Proof.WellPosed.lean ====
/- What the precondition says: the coordinates are finite, the residues are numbered in order and the four
   dihedral angles of each residue are defined. -/
module

public import proofs.«01_k».proof.Proof.WellPosedFacts
public import proofs.«01_k».proof.Proof.Dihedral
public import proofs.«01_k».proof.Proof.Rolled

@[expose] public section

set_option maxRecDepth 16384

noncomputable section

namespace Cert.WellPosed

open Idealize.ShloMosaic Idealize.ShloMosaic.TcCoe
open Cert.Pre_well_posed Cert.Pre_well_posed.Facts Cert.Dihedral

/-- A table of points, one for each residue. -/
local notation "Tab" => FVec Ideal S8192x3 FTy.f32

/-- The vectors `b1` over their lengths. -/
def unit (b1 : Tab) : Tab :=
  Host.divf b1 (broadcastInDim S8192x3 ![0, 1] bcast_S8192x1_S8192x3_0_1
    (maximumf (fn_norm b1) (broadcastInDim S8192x1 ![] bcast_S_S8192x1 (constant S_ .f32 0x33D6BF95#32))))

/-- Dot products, residue by residue. -/
def dots (x y : Tab) : FVec Ideal S8192 .f32 :=
  Host.reduceAdd (mulf x y) (constant S_ .f32 0x00000000#32) reducesTo_S8192x3_S8192_d1 h_S_

/-- What is left of the vectors `b` after their parts along `w`. -/
def rest (b w : Tab) : Tab :=
  subf b (mulf (broadcastInDim S8192x3 ![0, 1] bcast_S8192x1_S8192x3_0_1
    (broadcastInDim S8192x1 ![0] bcast_S8192_S8192x1_0 (dots b w))) w)

/-- First components. -/
def c0 (x : Tab) : FVec Ideal S8192 .f32 :=
  shapeCast S8192 (extractStridedSlice S8192x1 ![0, 0] x slices_S8192x3_S8192x1_0_0) shapeCasts_S8192x1_S8192

/-- Second components. -/
def c1 (x : Tab) : FVec Ideal S8192 .f32 :=
  shapeCast S8192 (extractStridedSlice S8192x1 ![0, 1] x slices_S8192x3_S8192x1_0_1) shapeCasts_S8192x1_S8192

/-- Third components. -/
def c2 (x : Tab) : FVec Ideal S8192 .f32 :=
  shapeCast S8192 (extractStridedSlice S8192x1 ![0, 2] x slices_S8192x3_S8192x1_0_2) shapeCasts_S8192x1_S8192

/-- Cross products, residue by residue. -/
def crosses (x y : Tab) : Tab :=
  concatenate S8192x3 1
    [⟨S8192x1, broadcastInDim S8192x1 ![0] bcast_S8192_S8192x1_0 (subf (mulf (c1 x) (c2 y)) (mulf (c2 x) (c1 y)))⟩,
      ⟨S8192x1, broadcastInDim S8192x1 ![0] bcast_S8192_S8192x1_0 (subf (mulf (c2 x) (c0 y)) (mulf (c0 x) (c2 y)))⟩,
      ⟨S8192x1, broadcastInDim S8192x1 ![0] bcast_S8192_S8192x1_0 (subf (mulf (c0 x) (c1 y)) (mulf (c1 x) (c0 y)))⟩]
    concatenates_S8192x1_S8192x1_S8192x1_S8192x3_d1

/-- The first coordinates of the dihedral angles of three vectors. -/
def planeX (b0 b1 b2 : Tab) : FVec Ideal S8192 .f32 := dots (rest b0 (unit b1)) (rest b2 (unit b1))

/-- The second coordinates of the dihedral angles of three vectors. -/
def planeY (b0 b1 b2 : Tab) : FVec Ideal S8192 .f32 :=
  dots (crosses (unit b1) (rest b0 (unit b1))) (rest b2 (unit b1))

/-- Whether the dihedral angle of three vectors is defined. -/
def defined (b0 b1 b2 : Tab) : IVec S8192x1 1 :=
  broadcastInDim S8192x1 ![0] bcast_S8192_S8192x1_0
    (cmpf .oge (Host.sqrt (addf (mulf (planeX b0 b1 b2) (planeX b0 b1 b2)) (mulf (planeY b0 b1 b2) (planeY b0 b1 b2))))
      (broadcastInDim S8192 ![] bcast_S_S8192 (constant S_ .f32 0x0DA24260#32)))

/-- The constant infinity is the top of the extended reals. -/
theorem ofBits_inf : Ideal.ofBits FTy.f32 0x7F800000#32 = ⊤ := by simp [Ideal.ofBits, Ideal.ieee]

variable (A : FVec Ideal S8192x4x3 .f32)

/-- The first atoms. -/
def at0 : Tab := shapeCast S8192x3 (extractStridedSlice S8192x1x3 ![0, 0, 0] A slices_S8192x4x3_S8192x1x3_0_0_0) shapeCasts_S8192x1x3_S8192x3
/-- The second atoms. -/
def at1 : Tab := shapeCast S8192x3 (extractStridedSlice S8192x1x3 ![0, 1, 0] A slices_S8192x4x3_S8192x1x3_0_1_0) shapeCasts_S8192x1x3_S8192x3
/-- The third atoms. -/
def at2 : Tab := shapeCast S8192x3 (extractStridedSlice S8192x1x3 ![0, 2, 0] A slices_S8192x4x3_S8192x1x3_0_2_0) shapeCasts_S8192x1x3_S8192x3
/-- The fourth atoms. -/
def at3 : Tab := shapeCast S8192x3 (extractStridedSlice S8192x1x3 ![0, 3, 0] A slices_S8192x4x3_S8192x1x3_0_3_0) shapeCasts_S8192x1x3_S8192x3

/-- Vectors turned round. -/
def turned (x : Tab) : Tab := mulf (broadcastInDim S8192x3 ![] bcast_S_S8192x3 (constant S_ .f32 0xBF800000#32)) x

/-- The first vectors of the angles. -/
def first : Fin 4 → Tab := ![turned (subf (at0 A) (fn_roll_static (at2 A))), turned (subf (at1 A) (at0 A)),
  turned (subf (at2 A) (at1 A)), turned (subf (at1 A) (at0 A))]
/-- The second vectors of the angles. -/
def second : Fin 4 → Tab := ![subf (at1 A) (at0 A), subf (at2 A) (at1 A), subf (fn_roll_static_0 (at0 A)) (at2 A), subf (at2 A) (at1 A)]
/-- The third vectors of the angles. -/
def third : Fin 4 → Tab := ![subf (at2 A) (at1 A), subf (fn_roll_static_0 (at0 A)) (at2 A),
  subf (fn_roll_static_0 (at1 A)) (fn_roll_static_0 (at0 A)), subf (at3 A) (at2 A)]

/-- Whether the coordinates are finite. -/
def bounded : IVec S8192x12 1 :=
  shapeCast S8192x12 (cmpf .olt (Host.absf A) (broadcastInDim S8192x4x3 ![] bcast_S_S8192x4x3 (constant S_ .f32 0x7F800000#32)))
    shapeCasts_S8192x4x3_S8192x12

/-- Whether the residues are numbered in order. -/
def ordered (R : IVec S8192 32) : IVec S8192x1 1 :=
  broadcastInDim S8192x1 ![0] bcast_S8192_S8192x1_0 (cmpi .eq R (iotaInDim S8192 32 0))

variable (w : FVec Ideal S8 .f32) (M : FVec Ideal S3x16 .f32) (R K : IVec S8192 32)

/-- The precondition's lanes. -/
theorem fn_eq : fn (F := Ideal) A w M R K = concatenate S8192x17 1
    [⟨S8192x12, bounded A⟩, ⟨S8192x1, ordered R⟩, ⟨S8192x1, defined (first A 0) (second A 0) (third A 0)⟩,
      ⟨S8192x1, defined (first A 1) (second A 1) (third A 1)⟩, ⟨S8192x1, defined (first A 2) (second A 2) (third A 2)⟩,
      ⟨S8192x1, defined (first A 3) (second A 3) (third A 3)⟩]
    concatenates_S8192x12_S8192x1_S8192x1_S8192x1_S8192x1_S8192x1_S8192x17_d1 := rfl

/-- A residue's vector over its length. -/
theorem unit_at (b1 : Tab) (a : Fin 8192) (u : Fin 3 → EReal) (h : ∀ k, b1 (ix2 a k) = u k) (k : Fin 3) :
    unit b1 (ix2 a k) = Spec.axis u k := by
  pointwise [unit, fn_norm]
  simp only [h]
  rfl

/-- A residue's dot product. -/
theorem dots_at (x y : Tab) (a : Fin 8192) (u v : Fin 3 → EReal) (hx : ∀ k, x (ix2 a k) = u k) (hy : ∀ k, y (ix2 a k) = v k) :
    dots x y (ix1 a) = Spec.dot u v := by
  pointwise [dots]
  simp only [hx, hy]
  rfl

/-- A residue's vector without its part along another. -/
theorem rest_at (b w : Tab) (a : Fin 8192) (u v : Fin 3 → EReal) (hb : ∀ k, b (ix2 a k) = u k) (hw : ∀ k, w (ix2 a k) = v k)
    (k : Fin 3) : rest b w (ix2 a k) = Spec.flat u v k := by
  pointwise [rest]
  rw [dots_at b w a u v hb hw, hb, hw]
  rfl

/-- A residue's cross product. -/
theorem crosses_at (x y : Tab) (a : Fin 8192) (u v : Fin 3 → EReal) (hx : ∀ k, x (ix2 a k) = u k) (hy : ∀ k, y (ix2 a k) = v k)
    (k : Fin 3) : crosses x y (ix2 a k) = Spec.cross u v k := by
  pointwise [crosses, c0, c1, c2]
  simp only [hx, hy]
  fin_cases k <;> rfl

/-- The first coordinate of a residue's angle. -/
theorem planeX_at (b0 b1 b2 : Tab) (a : Fin 8192) (u v t : Fin 3 → EReal) (h0 : ∀ k, b0 (ix2 a k) = u k)
    (h1 : ∀ k, b1 (ix2 a k) = v k) (h2 : ∀ k, b2 (ix2 a k) = t k) : planeX b0 b1 b2 (ix1 a) = Spec.dihX u v t :=
  dots_at _ _ a _ _ (rest_at _ _ a _ _ h0 (unit_at b1 a v h1)) (rest_at _ _ a _ _ h2 (unit_at b1 a v h1))

/-- The second coordinate of a residue's angle. -/
theorem planeY_at (b0 b1 b2 : Tab) (a : Fin 8192) (u v t : Fin 3 → EReal) (h0 : ∀ k, b0 (ix2 a k) = u k)
    (h1 : ∀ k, b1 (ix2 a k) = v k) (h2 : ∀ k, b2 (ix2 a k) = t k) : planeY b0 b1 b2 (ix1 a) = Spec.dihY u v t :=
  dots_at _ _ a _ _ (crosses_at _ _ a _ _ (unit_at b1 a v h1) (rest_at _ _ a _ _ h0 (unit_at b1 a v h1)))
    (rest_at _ _ a _ _ h2 (unit_at b1 a v h1))

/-- A defined angle: its point of the plane is away from the origin. -/
theorem defined_at (b0 b1 b2 : Tab) (a : Fin 8192) (u v t : Fin 3 → EReal) (h0 : ∀ k, b0 (ix2 a k) = u k)
    (h1 : ∀ k, b1 (ix2 a k) = v k) (h2 : ∀ k, b2 (ix2 a k) = t k) (h : defined b0 b1 b2 (ix2 a 0) = 1#1) :
    Ideal.ofBits FTy.f32 0x0DA24260#32
      ≤ Ideal.sqrt (Spec.dihX u v t * Spec.dihX u v t + Spec.dihY u v t * Spec.dihY u v t) := by
  revert h
  pointwise [defined]
  rw [planeX_at b0 b1 b2 a u v t h0 h1 h2, planeY_at b0 b1 b2 a u v t h0 h1 h2]
  intro h
  by_contra hn
  rw [decide_eq_false hn] at h
  exact absurd h (by decide)

/-- A residue's first atom. -/
theorem at0_at (a : Fin 8192) (k : Fin 3) : at0 A (ix2 a k) = Spec.point A a 0 k := by
  pointwise [at0]
  rfl

/-- A residue's second atom. -/
theorem at1_at (a : Fin 8192) (k : Fin 3) : at1 A (ix2 a k) = Spec.point A a 1 k := by
  pointwise [at1]
  rfl

/-- A residue's third atom. -/
theorem at2_at (a : Fin 8192) (k : Fin 3) : at2 A (ix2 a k) = Spec.point A a 2 k := by
  pointwise [at2]
  rfl

/-- A residue's fourth atom. -/
theorem at3_at (a : Fin 8192) (k : Fin 3) : at3 A (ix2 a k) = Spec.point A a 3 k := by
  pointwise [at3]
  rfl

/-- The previous residue's point. -/
theorem before (x : Tab) (p a : Fin 8192) (hp : p.val = (a.val + 8191) % 8192) (k : Fin 3) :
    fn_roll_static x (ix2 a k) = x (ix2 p k) :=
  Rolled.prev x slices_S8192x3_S1x3_8191_0 slices_S8192x3_S8191x3_0_0 concatenates_S1x3_S8191x3_S8192x3_d0 a p k hp

/-- The next residue's point. -/
theorem after (x : Tab) (a b : Fin 8192) (hb : b.val = (a.val + 1) % 8192) (k : Fin 3) :
    fn_roll_static_0 x (ix2 a k) = x (ix2 b k) :=
  Rolled.next x slices_S8192x3_S8191x3_1_0 slices_S8192x3_S1x3_0_0 concatenates_S8191x3_S1x3_S8192x3_d0 a b k hb

/-- A residue's vector turned round. -/
theorem turned_at (x : Tab) (a : Fin 8192) (u : Fin 3 → EReal) (h : ∀ k, x (ix2 a k) = u k) (k : Fin 3) :
    turned x (ix2 a k) = turn u k := by
  pointwise [turned]
  rw [h]
  rfl

/-- A residue's vector between two points. -/
theorem sub_at (x y : Tab) (a : Fin 8192) (u v : Fin 3 → EReal) (hx : ∀ k, x (ix2 a k) = u k) (hy : ∀ k, y (ix2 a k) = v k)
    (k : Fin 3) : subf x y (ix2 a k) = Spec.seg v u k := by
  pointwise []
  rw [hx, hy]
  rfl

section vectors
variable (p a b : Fin 8192) (hp : p.val = (a.val + 8191) % 8192) (hb : b.val = (a.val + 1) % 8192)
include hp hb

/-- The previous residue's third atom. -/
theorem prev2 (k : Fin 3) : fn_roll_static (at2 A) (ix2 a k) = Spec.point A p 2 k := (before _ p a hp k).trans (at2_at A p k)
/-- The next residue's first atom. -/
theorem next0 (k : Fin 3) : fn_roll_static_0 (at0 A) (ix2 a k) = Spec.point A b 0 k := (after _ a b hb k).trans (at0_at A b k)
/-- The next residue's second atom. -/
theorem next1 (k : Fin 3) : fn_roll_static_0 (at1 A) (ix2 a k) = Spec.point A b 1 k := (after _ a b hb k).trans (at1_at A b k)

/-- The first vectors of a residue's angles. -/
theorem first_at (j : Fin 4) (k : Fin 3) : first A j (ix2 a k) = raw0 A p a b j k := by
  fin_cases j
  · exact turned_at _ a _ (sub_at _ _ a _ _ (at0_at A a) (prev2 A p a b hp hb)) k
  · exact turned_at _ a _ (sub_at _ _ a _ _ (at1_at A a) (at0_at A a)) k
  · exact turned_at _ a _ (sub_at _ _ a _ _ (at2_at A a) (at1_at A a)) k
  · exact turned_at _ a _ (sub_at _ _ a _ _ (at1_at A a) (at0_at A a)) k

/-- The second vectors of a residue's angles. -/
theorem second_at (j : Fin 4) (k : Fin 3) : second A j (ix2 a k) = raw1 A p a b j k := by
  fin_cases j
  · exact sub_at _ _ a _ _ (at1_at A a) (at0_at A a) k
  · exact sub_at _ _ a _ _ (at2_at A a) (at1_at A a) k
  · exact sub_at _ _ a _ _ (next0 A p a b hp hb) (at2_at A a) k
  · exact sub_at _ _ a _ _ (at2_at A a) (at1_at A a) k

/-- The third vectors of a residue's angles. -/
theorem third_at (j : Fin 4) (k : Fin 3) : third A j (ix2 a k) = raw2 A p a b j k := by
  fin_cases j
  · exact sub_at _ _ a _ _ (at2_at A a) (at1_at A a) k
  · exact sub_at _ _ a _ _ (next0 A p a b hp hb) (at2_at A a) k
  · exact sub_at _ _ a _ _ (next1 A p a b hp hb) (next0 A p a b hp hb) k
  · exact sub_at _ _ a _ _ (at3_at A a) (at2_at A a) k

end vectors

/-- The shapes of the precondition's lanes. -/
def lanes : List Shape := [S8192x12, S8192x1, S8192x1, S8192x1, S8192x1, S8192x1]

variable {A w M R K} (h : fn (F := Ideal) A w M R K = fun _ => 1#1)
include h

/-- Each lane holds. -/
theorem lane (a : Fin 8192) (x : Fin 17) : concatenate S8192x17 1
    [⟨S8192x12, bounded A⟩, ⟨S8192x1, ordered R⟩, ⟨S8192x1, defined (first A 0) (second A 0) (third A 0)⟩,
      ⟨S8192x1, defined (first A 1) (second A 1) (third A 1)⟩, ⟨S8192x1, defined (first A 2) (second A 2) (third A 2)⟩,
      ⟨S8192x1, defined (first A 3) (second A 3) (third A 3)⟩]
    concatenates_S8192x12_S8192x1_S8192x1_S8192x1_S8192x1_S8192x1_S8192x17_d1 (ix2 a x) = 1#1 :=
  congrFun ((fn_eq A w M R K).symm.trans h) (ix2 a x)

/-- The lanes of the coordinates hold. -/
theorem bounded_lane (a : Fin 8192) (x : Fin 12) : bounded A (ix2 a x) = 1#1 := by
  refine Eq.trans (Eq.symm ?_) (lane h a ⟨x.val, by omega⟩)
  exact Spec.cat2 _ _ a _ 0 _ rfl 0 lanes rfl (by decide) x (by simp)

/-- The lane of the numbering holds. -/
theorem ordered_lane (a : Fin 8192) : ordered R (ix2 a 0) = 1#1 := by
  refine Eq.trans (Eq.symm ?_) (lane h a ⟨12, by omega⟩)
  exact Spec.cat2 _ _ a _ 1 _ rfl 12 lanes rfl (by decide) 0 (by simp)

/-- The lane of phi holds. -/
theorem defined_lane0 (a : Fin 8192) : defined (first A 0) (second A 0) (third A 0) (ix2 a 0) = 1#1 := by
  refine Eq.trans (Eq.symm ?_) (lane h a ⟨13, by omega⟩)
  exact Spec.cat2 _ _ a _ 2 _ rfl 13 lanes rfl (by decide) 0 (by simp)

/-- The lane of psi holds. -/
theorem defined_lane1 (a : Fin 8192) : defined (first A 1) (second A 1) (third A 1) (ix2 a 0) = 1#1 := by
  refine Eq.trans (Eq.symm ?_) (lane h a ⟨14, by omega⟩)
  exact Spec.cat2 _ _ a _ 3 _ rfl 14 lanes rfl (by decide) 0 (by simp)

/-- The lane of omega holds. -/
theorem defined_lane2 (a : Fin 8192) : defined (first A 2) (second A 2) (third A 2) (ix2 a 0) = 1#1 := by
  refine Eq.trans (Eq.symm ?_) (lane h a ⟨15, by omega⟩)
  exact Spec.cat2 _ _ a _ 4 _ rfl 15 lanes rfl (by decide) 0 (by simp)

/-- The lane of tau holds. -/
theorem defined_lane3 (a : Fin 8192) : defined (first A 3) (second A 3) (third A 3) (ix2 a 0) = 1#1 := by
  refine Eq.trans (Eq.symm ?_) (lane h a ⟨16, by omega⟩)
  exact Spec.cat2 _ _ a _ 5 _ rfl 16 lanes rfl (by decide) 0 (by simp)

/-- Every coordinate is a number. -/
theorem finite (a : Fin 8192) (n : Fin 4) : FinV (Spec.point A a n) := by
  intro k
  have e := bounded_lane h a (⟨3 * n.val + k.val, by omega⟩ : Fin 12)
  revert e
  pointwise [bounded]
  intro e
  have hl : max (A (ix3 a n k)) (-(A (ix3 a n k))) < (⊤ : EReal) := by
    by_contra hn
    rw [← ofBits_inf] at hn
    rw [show FloatOps.absf (A (ix3 a n k)) = max (A (ix3 a n k)) (-(A (ix3 a n k))) from rfl, decide_eq_false hn] at e
    exact absurd e (by decide)
  obtain ⟨h1, h2⟩ := max_lt_iff.mp hl
  exact ⟨EReal.toReal (A (ix3 a n k)), (EReal.coe_toReal h1.ne fun c => absurd h2 (by rw [c]; simp)).symm⟩

/-- The residues are numbered in order. -/
theorem numbered (a : Fin 8192) : R (ix1 a) = BitVec.ofNat 32 a.val := by
  have e := ordered_lane h a
  revert e
  pointwise [ordered]
  intro e
  by_contra hn
  rw [show IntOp.cmpi .eq (R (ix1 a)) (BitVec.ofNat 32 a.val) = BitVec.ofBool (R (ix1 a) == BitVec.ofNat 32 a.val) from rfl,
    beq_false_of_ne hn] at e
  exact absurd e (by decide)

/-- The dihedral angles are defined. -/
theorem away (p a b : Fin 8192) (hp : p.val = (a.val + 8191) % 8192) (hb : b.val = (a.val + 1) % 8192) (j : Fin 4) :
    Ideal.ofBits FTy.f32 0x0DA24260#32
      ≤ Ideal.sqrt (Spec.dihX (raw0 A p a b j) (raw1 A p a b j) (raw2 A p a b j)
          * Spec.dihX (raw0 A p a b j) (raw1 A p a b j) (raw2 A p a b j)
        + Spec.dihY (raw0 A p a b j) (raw1 A p a b j) (raw2 A p a b j)
          * Spec.dihY (raw0 A p a b j) (raw1 A p a b j) (raw2 A p a b j)) := by
  refine defined_at _ _ _ a _ _ _ (first_at A p a b hp hb j) (second_at A p a b hp hb j) (third_at A p a b hp hb j) ?_
  fin_cases j
  · exact defined_lane0 h a
  · exact defined_lane1 h a
  · exact defined_lane2 h a
  · exact defined_lane3 h a

end Cert.WellPosed
-- ==== Proof.Values.lean ====
/- The two programs' results are the same. -/
module

public import proofs.«01_k».proof.Defs
public import proofs.«01_k».proof.Proof.KernelRun
public import proofs.«01_k».proof.Proof.KernelValue
public import proofs.«01_k».proof.Proof.RefNode
public import proofs.«01_k».proof.Proof.WellPosed

@[expose] public section

set_option maxRecDepth 16384

noncomputable section

namespace Cert.Values

open Idealize.ShloMosaic Idealize.ShloMosaic.TcCoe Idealize.SL.Sem
open Cert.KernelIdeal.Gen

/-- The reference's valuation of a device's arrays. -/
local notation "Val" => Valuation Cert.ReferenceIdeal.τ Cert.ReferenceIdeal.sig (Elt Ideal)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD) (V : Val)

/-- The reference is given the arguments that the kernel is given on a device. -/
structure Agree : Prop where
  atoms : RefHost.atoms V = KernelSelect.atoms m c
  freqs : RefEdge.freqs V = KernelValue.freqs m c
  embedding : RefNode.embedding V = KernelValue.embedding m c
  order : ∀ a : Fin 8192, V (Proc.devRef .tc Cert.ReferenceIdeal.main_arg3) (ix1 a)
    = m ((c.tc : Thread Cert.KernelIdeal.nD Cert.KernelIdeal.τ).loc Cert.KernelIdeal.main_arg3) (ix1 a)
  kinds : RefEdge.kinds V = KernelSelect.kinds m c

/-- The precondition on a device. -/
abbrev Posed : Prop :=
  Cert.Pre_well_posed.fn (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) = fun _ => 1#1

variable {m c V}

/-- The neighbours' indices. -/
theorem indices (hV : Agree m c V) (a : Fin 8192) (s : Fin 48) :
    Cert.ReferenceIdeal.Value.res_main_indices V (ix2 a s)
      = W19 m ρ c (Proc.devRef .tc Cert.KernelIdeal.main_v41) (ix2 a s) :=
  ((RefHost.indices V a s).trans (by rw [hV.atoms])).trans (KernelValue.indices m ρ c a s).symm

/-- The two programs hold the same constant frequencies. -/
theorem literals :
    (fun k => Ideal.ofBits FTy.f32 (Cert.ReferenceIdeal.lit0 (Cert.ReferenceIdeal.S8.rowMajor (ix1 k))) : Fin 8 → EReal)
      = fun k => Ideal.ofBits FTy.f32 (Cert.KernelIdeal.lit0 (Cert.KernelIdeal.S8.rowMajor (ix1 k))) := by
  funext k
  generalize Cert.ReferenceIdeal.S8.rowMajor (ix1 k) = q
  fin_cases q <;> rfl

/-- The features of the pairs. -/
theorem edges (hp : Posed m c) (hV : Agree m c V) (a : Fin 8192) (s : Fin 48) (l : Fin 201) :
    concatenate Cert.ReferenceIdeal.S8192x48x201 2 [⟨Cert.ReferenceIdeal.S8192x48x152, Cert.ReferenceIdeal.Value.res_main_v274 V⟩,
      ⟨Cert.ReferenceIdeal.S8192x48x33, RefEdge.hot V⟩,
      ⟨Cert.ReferenceIdeal.S8192x48x16, concatenate Cert.ReferenceIdeal.S8192x48x16 2
        [⟨Cert.ReferenceIdeal.S8192x48x8, Host.cos (F := Ideal) (φ := .f32) (Cert.ReferenceIdeal.Value.res_main_v305 V)⟩,
          ⟨Cert.ReferenceIdeal.S8192x48x8, Host.sin (F := Ideal) (φ := .f32) (Cert.ReferenceIdeal.Value.res_main_v305 V)⟩]
        Cert.ReferenceIdeal.Gen.concatenates_S8192x48x8_S8192x48x8_S8192x48x16_d2⟩]
      Cert.ReferenceIdeal.Gen.concatenates_S8192x48x152_S8192x48x33_S8192x48x16_S8192x48x201_d2 (ix3 a s l)
      = W19 m ρ c (Proc.devRef .tc Cert.KernelIdeal.main_v54) (ix3 a s l) := by
  refine Eq.trans (RefEdge.edges V (fun b => (hV.order b).trans (WellPosed.numbered hp b)) a s l) ?_
  refine Eq.trans ?_ (KernelValue.edges m ρ c a s l).symm
  rw [hV.freqs]
  unfold RefEdge.near RefEdge.row
  rw [hV.atoms, hV.kinds, literals]

/-- The features of the residues. -/
theorem nodes (hp : Posed m c) (hV : Agree m c V) (a : Fin 8192) (l : Fin 100) :
    Cert.ReferenceIdeal.Value.res_main_v631 V (ix2 a l)
      = W19 m ρ c (Proc.devRef .tc Cert.KernelIdeal.main_v60) (ix2 a l) := by
  have hA : ∀ b n, Dihedral.FinV (Spec.point (RefHost.atoms V) b n) := by
    rw [hV.atoms]
    exact fun b n => WellPosed.finite hp b n
  have hr := WellPosed.away hp ⟨(a.val + 8191) % 8192, by omega⟩ a ⟨(a.val + 1) % 8192, by omega⟩ rfl rfl
  refine Eq.trans (RefNode.nodes V hA ⟨(a.val + 8191) % 8192, by omega⟩ a ⟨(a.val + 1) % 8192, by omega⟩ rfl rfl ?_ l) ?_
  · rw [hV.atoms]
    exact hr
  · refine Eq.trans ?_ (KernelValue.nodes m ρ c a ⟨(a.val + 8191) % 8192, by omega⟩ ⟨(a.val + 1) % 8192, by omega⟩ rfl rfl l).symm
    rw [hV.freqs, hV.embedding]
    unfold RefEdge.row
    rw [hV.atoms, hV.kinds]

/-- Under the precondition the idealized kernel's three results are the idealized reference's. -/
theorem algebraic : Cert.algebraic_KernelIdeal_ReferenceIdeal_pre_well_posed := by
  intro m ρ m' ρ' hpre hagree
  refine ⟨_, _, _, Cert.KernelIdeal.Gen.run_results m ρ, ?_⟩
  refine (θ_run Cert.ReferenceIdeal.defs _ _).mono (fun r h c => ?_) (Cert.ReferenceIdeal.Value.run (F := Ideal) m' ρ')
  obtain ⟨h0, h1, h2, hargs⟩ := h c
  have hV : Agree m c (StableHlo.launchContents m' c) := by
    obtain ⟨g0, g1, g2, g3, g4⟩ := hagree c
    exact ⟨g0, funext fun k => congrFun g1 (ix1 k), funext fun k => funext fun x => congrFun g2 (ix2 k x),
      fun a => congrFun g3 (ix1 a), g4⟩
  refine ⟨h0.trans (funext fun i => ?_), h1.trans (funext fun i => ?_), h2.trans (funext fun i => ?_), hargs⟩
  · obtain ⟨a, l, rfl⟩ : ∃ a l, i = ix2 a l := ⟨_, _, eq_ix2 i⟩
    exact nodes ρ (hpre c) hV a l
  · obtain ⟨a, s, l, rfl⟩ : ∃ a s l, i = ix3 a s l := ⟨_, _, _, eq_ix3 i⟩
    exact edges ρ (hpre c) hV a s l
  · obtain ⟨a, s, rfl⟩ : ∃ a s, i = ix2 a s := ⟨_, _, eq_ix2 i⟩
    exact indices ρ hV a s

end Cert.Values
-- ==== Proof.lean ====
/- The claims: each program runs, the named constant, and the equality of the two programs' results. -/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal

@[expose] public section

noncomputable section

namespace Cert.Proof

/-- Everything the certificate claims. -/
theorem claim : Cert.Claim :=
  ⟨Cert.Kernel.Gen.facts, Cert.KernelIdeal.Gen.facts, Cert.ReferenceIdeal.Gen.facts, Cert.WellPosed.facts,
    Cert.Frames.frame_kernel, Cert.Frames.frame_ideal, Cert.Frames.frame_ideal_pre, Cert.Frames.frame_reference,
    Cert.Frames.frame_reference_pre, Cert.Frames.preserves, Cert.Values.algebraic⟩

end Cert.Proof

end
